-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainIdeal_all_finite [hPre_all_finite : Cert.Pre_all_finite.Facts] (m : (ℓ : Loc Cert.MainIdeal.nD Cert.MainIdeal.τ Cert.MainIdeal.sig) → Buf (Elt Ideal) ℓ) : Prop :=
  ∀ c : Dev Cert.MainIdeal.nD,
    (Cert.Pre_all_finite.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7)) (m ((c.tc : Thread Cert.MainIdeal.nD Cert.MainIdeal.τ).loc Cert.MainIdeal.main_arg8))) = (fun _ => 1#1)

def Pre_MainHostIdeal (m : (ℓ : Loc Cert.MainHostIdeal.nD Cert.MainHostIdeal.τ Cert.MainHostIdeal.sig) → Buf (Elt Ideal) ℓ) : Prop :=
  True

def Pre_MainHostIdeal_all_finite [hPre_all_finite : Cert.Pre_all_finite.Facts] (m : (ℓ : Loc Cert.MainHostIdeal.nD Cert.MainHostIdeal.τ Cert.MainHostIdeal.sig) → Buf (Elt Ideal) ℓ) : Prop :=
  ∀ c : Dev Cert.MainHostIdeal.nD,
    (Cert.Pre_all_finite.fn (F := Ideal) (m ((c.tc : Thread Cert.MainHostIdeal.nD Cert.MainHostIdeal.τ).loc Cert.MainHostIdeal.main_arg0)) (m ((c.tc : Thread Cert.MainHostIdeal.nD Cert.MainHostIdeal.τ).loc Cert.MainHostIdeal.main_arg1)) (m ((c.tc : Thread Cert.MainHostIdeal.nD Cert.MainHostIdeal.τ).loc Cert.MainHostIdeal.main_arg2)) (m ((c.tc : Thread Cert.MainHostIdeal.nD Cert.MainHostIdeal.τ).loc Cert.MainHostIdeal.main_arg3)) (m ((c.tc : Thread Cert.MainHostIdeal.nD Cert.MainHostIdeal.τ).loc Cert.MainHostIdeal.main_arg4)) (m ((c.tc : Thread Cert.MainHostIdeal.nD Cert.MainHostIdeal.τ).loc Cert.MainHostIdeal.main_arg5)) (m ((c.tc : Thread Cert.MainHostIdeal.nD Cert.MainHostIdeal.τ).loc Cert.MainHostIdeal.main_arg6)) (m ((c.tc : Thread Cert.MainHostIdeal.nD Cert.MainHostIdeal.τ).loc Cert.MainHostIdeal.main_arg7)) (m ((c.tc : Thread Cert.MainHostIdeal.nD Cert.MainHostIdeal.τ).loc Cert.MainHostIdeal.main_arg8))) = (fun _ => 1#1)

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombHostIdeal (m : (ℓ : Loc Cert.CombHostIdeal.nD Cert.CombHostIdeal.τ Cert.CombHostIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepHostIdeal (m : (ℓ : Loc Cert.PrepHostIdeal.nD Cert.PrepHostIdeal.τ Cert.PrepHostIdeal.sig) → Buf (Elt Ideal) ℓ) : Prop :=
  True

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7)
      ∧ r.2.mem ((c.tc : Thread Cert.Main.nD Cert.Main.τ).loc Cert.Main.main_arg8) = m ((c.tc : Thread Cert.Main.nD Cert.Main.τ).loc Cert.Main.main_arg8))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8))
      ∧ r.2.sem = fun _ => 0)

def quiescent_MainIdeal_pre_all_finite [hMainIdeal : Cert.MainIdeal.Facts] [hPre_all_finite : Cert.Pre_all_finite.Facts] : Prop :=
  ∀ (m : (ℓ : Loc Cert.MainIdeal.nD Cert.MainIdeal.τ Cert.MainIdeal.sig) → Buf (Elt Ideal) ℓ) (g : Dev Cert.MainIdeal.nD → PrngReg), Pre_MainIdeal_all_finite m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8))
      ∧ r.2.sem = fun _ => 0)

def quiescent_MainHostIdeal [hMainHostIdeal : Cert.MainHostIdeal.Facts] : Prop :=
  ∀ (m : (ℓ : Loc Cert.MainHostIdeal.nD Cert.MainHostIdeal.τ Cert.MainHostIdeal.sig) → Buf (Elt Ideal) ℓ) (g : Dev Cert.MainHostIdeal.nD → PrngReg), Pre_MainHostIdeal m →
    θ_run (Cert.MainHostIdeal.defs (F := Ideal)) (onTc (τ := Cert.MainHostIdeal.τ) (Cert.MainHostIdeal.main (F := Ideal))) ⟨m, fun _ => 0, g⟩ (fun r => (∀ c : Dev Cert.MainHostIdeal.nD,
      r.2.mem ((c.tc : Thread Cert.MainHostIdeal.nD Cert.MainHostIdeal.τ).loc Cert.MainHostIdeal.main_arg0) = m ((c.tc : Thread Cert.MainHostIdeal.nD Cert.MainHostIdeal.τ).loc Cert.MainHostIdeal.main_arg0)
      ∧ r.2.mem ((c.tc : Thread Cert.MainHostIdeal.nD Cert.MainHostIdeal.τ).loc Cert.MainHostIdeal.main_arg1) = m ((c.tc : Thread Cert.MainHostIdeal.nD Cert.MainHostIdeal.τ).loc Cert.MainHostIdeal.main_arg1)
      ∧ r.2.mem ((c.tc : Thread Cert.MainHostIdeal.nD Cert.MainHostIdeal.τ).loc Cert.MainHostIdeal.main_arg2) = m ((c.tc : Thread Cert.MainHostIdeal.nD Cert.MainHostIdeal.τ).loc Cert.MainHostIdeal.main_arg2)
      ∧ r.2.mem ((c.tc : Thread Cert.MainHostIdeal.nD Cert.MainHostIdeal.τ).loc Cert.MainHostIdeal.main_arg3) = m ((c.tc : Thread Cert.MainHostIdeal.nD Cert.MainHostIdeal.τ).loc Cert.MainHostIdeal.main_arg3)
      ∧ r.2.mem ((c.tc : Thread Cert.MainHostIdeal.nD Cert.MainHostIdeal.τ).loc Cert.MainHostIdeal.main_arg4) = m ((c.tc : Thread Cert.MainHostIdeal.nD Cert.MainHostIdeal.τ).loc Cert.MainHostIdeal.main_arg4)
      ∧ r.2.mem ((c.tc : Thread Cert.MainHostIdeal.nD Cert.MainHostIdeal.τ).loc Cert.MainHostIdeal.main_arg5) = m ((c.tc : Thread Cert.MainHostIdeal.nD Cert.MainHostIdeal.τ).loc Cert.MainHostIdeal.main_arg5)
      ∧ r.2.mem ((c.tc : Thread Cert.MainHostIdeal.nD Cert.MainHostIdeal.τ).loc Cert.MainHostIdeal.main_arg6) = m ((c.tc : Thread Cert.MainHostIdeal.nD Cert.MainHostIdeal.τ).loc Cert.MainHostIdeal.main_arg6)
      ∧ r.2.mem ((c.tc : Thread Cert.MainHostIdeal.nD Cert.MainHostIdeal.τ).loc Cert.MainHostIdeal.main_arg7) = m ((c.tc : Thread Cert.MainHostIdeal.nD Cert.MainHostIdeal.τ).loc Cert.MainHostIdeal.main_arg7)
      ∧ r.2.mem ((c.tc : Thread Cert.MainHostIdeal.nD Cert.MainHostIdeal.τ).loc Cert.MainHostIdeal.main_arg8) = m ((c.tc : Thread Cert.MainHostIdeal.nD Cert.MainHostIdeal.τ).loc Cert.MainHostIdeal.main_arg8))
      ∧ r.2.sem = fun _ => 0)

def quiescent_MainHostIdeal_pre_all_finite [hMainHostIdeal : Cert.MainHostIdeal.Facts] [hPre_all_finite : Cert.Pre_all_finite.Facts] : Prop :=
  ∀ (m : (ℓ : Loc Cert.MainHostIdeal.nD Cert.MainHostIdeal.τ Cert.MainHostIdeal.sig) → Buf (Elt Ideal) ℓ) (g : Dev Cert.MainHostIdeal.nD → PrngReg), Pre_MainHostIdeal_all_finite m →
    θ_run (Cert.MainHostIdeal.defs (F := Ideal)) (onTc (τ := Cert.MainHostIdeal.τ) (Cert.MainHostIdeal.main (F := Ideal))) ⟨m, fun _ => 0, g⟩ (fun r => (∀ c : Dev Cert.MainHostIdeal.nD,
      r.2.mem ((c.tc : Thread Cert.MainHostIdeal.nD Cert.MainHostIdeal.τ).loc Cert.MainHostIdeal.main_arg0) = m ((c.tc : Thread Cert.MainHostIdeal.nD Cert.MainHostIdeal.τ).loc Cert.MainHostIdeal.main_arg0)
      ∧ r.2.mem ((c.tc : Thread Cert.MainHostIdeal.nD Cert.MainHostIdeal.τ).loc Cert.MainHostIdeal.main_arg1) = m ((c.tc : Thread Cert.MainHostIdeal.nD Cert.MainHostIdeal.τ).loc Cert.MainHostIdeal.main_arg1)
      ∧ r.2.mem ((c.tc : Thread Cert.MainHostIdeal.nD Cert.MainHostIdeal.τ).loc Cert.MainHostIdeal.main_arg2) = m ((c.tc : Thread Cert.MainHostIdeal.nD Cert.MainHostIdeal.τ).loc Cert.MainHostIdeal.main_arg2)
      ∧ r.2.mem ((c.tc : Thread Cert.MainHostIdeal.nD Cert.MainHostIdeal.τ).loc Cert.MainHostIdeal.main_arg3) = m ((c.tc : Thread Cert.MainHostIdeal.nD Cert.MainHostIdeal.τ).loc Cert.MainHostIdeal.main_arg3)
      ∧ r.2.mem ((c.tc : Thread Cert.MainHostIdeal.nD Cert.MainHostIdeal.τ).loc Cert.MainHostIdeal.main_arg4) = m ((c.tc : Thread Cert.MainHostIdeal.nD Cert.MainHostIdeal.τ).loc Cert.MainHostIdeal.main_arg4)
      ∧ r.2.mem ((c.tc : Thread Cert.MainHostIdeal.nD Cert.MainHostIdeal.τ).loc Cert.MainHostIdeal.main_arg5) = m ((c.tc : Thread Cert.MainHostIdeal.nD Cert.MainHostIdeal.τ).loc Cert.MainHostIdeal.main_arg5)
      ∧ r.2.mem ((c.tc : Thread Cert.MainHostIdeal.nD Cert.MainHostIdeal.τ).loc Cert.MainHostIdeal.main_arg6) = m ((c.tc : Thread Cert.MainHostIdeal.nD Cert.MainHostIdeal.τ).loc Cert.MainHostIdeal.main_arg6)
      ∧ r.2.mem ((c.tc : Thread Cert.MainHostIdeal.nD Cert.MainHostIdeal.τ).loc Cert.MainHostIdeal.main_arg7) = m ((c.tc : Thread Cert.MainHostIdeal.nD Cert.MainHostIdeal.τ).loc Cert.MainHostIdeal.main_arg7)
      ∧ r.2.mem ((c.tc : Thread Cert.MainHostIdeal.nD Cert.MainHostIdeal.τ).loc Cert.MainHostIdeal.main_arg8) = m ((c.tc : Thread Cert.MainHostIdeal.nD Cert.MainHostIdeal.τ).loc Cert.MainHostIdeal.main_arg8))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2))
      ∧ r.2.sem = fun _ => 0)

def quiescent_CombHostIdeal [hCombHostIdeal : Cert.CombHostIdeal.Facts] : Prop :=
  ∀ (m : (ℓ : Loc Cert.CombHostIdeal.nD Cert.CombHostIdeal.τ Cert.CombHostIdeal.sig) → Buf (Elt Ideal) ℓ) (g : Dev Cert.CombHostIdeal.nD → PrngReg), Pre_CombHostIdeal m →
    θ_run (Cert.CombHostIdeal.defs (F := Ideal)) (onTc (τ := Cert.CombHostIdeal.τ) (Cert.CombHostIdeal.main (F := Ideal))) ⟨m, fun _ => 0, g⟩ (fun r => (∀ c : Dev Cert.CombHostIdeal.nD,
      r.2.mem ((c.tc : Thread Cert.CombHostIdeal.nD Cert.CombHostIdeal.τ).loc Cert.CombHostIdeal.main_arg0) = m ((c.tc : Thread Cert.CombHostIdeal.nD Cert.CombHostIdeal.τ).loc Cert.CombHostIdeal.main_arg0)
      ∧ r.2.mem ((c.tc : Thread Cert.CombHostIdeal.nD Cert.CombHostIdeal.τ).loc Cert.CombHostIdeal.main_arg1) = m ((c.tc : Thread Cert.CombHostIdeal.nD Cert.CombHostIdeal.τ).loc Cert.CombHostIdeal.main_arg1)
      ∧ r.2.mem ((c.tc : Thread Cert.CombHostIdeal.nD Cert.CombHostIdeal.τ).loc Cert.CombHostIdeal.main_arg2) = m ((c.tc : Thread Cert.CombHostIdeal.nD Cert.CombHostIdeal.τ).loc Cert.CombHostIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ r.2.sem = fun _ => 0)

def quiescent_PrepHostIdeal [hPrepHostIdeal : Cert.PrepHostIdeal.Facts] : Prop :=
  ∀ (m : (ℓ : Loc Cert.PrepHostIdeal.nD Cert.PrepHostIdeal.τ Cert.PrepHostIdeal.sig) → Buf (Elt Ideal) ℓ) (g : Dev Cert.PrepHostIdeal.nD → PrngReg), Pre_PrepHostIdeal m →
    θ_run (Cert.PrepHostIdeal.defs (F := Ideal)) (onTc (τ := Cert.PrepHostIdeal.τ) (Cert.PrepHostIdeal.main (F := Ideal))) ⟨m, fun _ => 0, g⟩ (fun r => (∀ c : Dev Cert.PrepHostIdeal.nD,
      r.2.mem ((c.tc : Thread Cert.PrepHostIdeal.nD Cert.PrepHostIdeal.τ).loc Cert.PrepHostIdeal.main_arg0) = m ((c.tc : Thread Cert.PrepHostIdeal.nD Cert.PrepHostIdeal.τ).loc Cert.PrepHostIdeal.main_arg0)
      ∧ r.2.mem ((c.tc : Thread Cert.PrepHostIdeal.nD Cert.PrepHostIdeal.τ).loc Cert.PrepHostIdeal.main_arg1) = m ((c.tc : Thread Cert.PrepHostIdeal.nD Cert.PrepHostIdeal.τ).loc Cert.PrepHostIdeal.main_arg1)
      ∧ r.2.mem ((c.tc : Thread Cert.PrepHostIdeal.nD Cert.PrepHostIdeal.τ).loc Cert.PrepHostIdeal.main_arg2) = m ((c.tc : Thread Cert.PrepHostIdeal.nD Cert.PrepHostIdeal.τ).loc Cert.PrepHostIdeal.main_arg2)
      ∧ r.2.mem ((c.tc : Thread Cert.PrepHostIdeal.nD Cert.PrepHostIdeal.τ).loc Cert.PrepHostIdeal.main_arg3) = m ((c.tc : Thread Cert.PrepHostIdeal.nD Cert.PrepHostIdeal.τ).loc Cert.PrepHostIdeal.main_arg3)
      ∧ r.2.mem ((c.tc : Thread Cert.PrepHostIdeal.nD Cert.PrepHostIdeal.τ).loc Cert.PrepHostIdeal.main_arg4) = m ((c.tc : Thread Cert.PrepHostIdeal.nD Cert.PrepHostIdeal.τ).loc Cert.PrepHostIdeal.main_arg4)
      ∧ r.2.mem ((c.tc : Thread Cert.PrepHostIdeal.nD Cert.PrepHostIdeal.τ).loc Cert.PrepHostIdeal.main_arg5) = m ((c.tc : Thread Cert.PrepHostIdeal.nD Cert.PrepHostIdeal.τ).loc Cert.PrepHostIdeal.main_arg5)
      ∧ r.2.mem ((c.tc : Thread Cert.PrepHostIdeal.nD Cert.PrepHostIdeal.τ).loc Cert.PrepHostIdeal.main_arg6) = m ((c.tc : Thread Cert.PrepHostIdeal.nD Cert.PrepHostIdeal.τ).loc Cert.PrepHostIdeal.main_arg6)
      ∧ r.2.mem ((c.tc : Thread Cert.PrepHostIdeal.nD Cert.PrepHostIdeal.τ).loc Cert.PrepHostIdeal.main_arg7) = m ((c.tc : Thread Cert.PrepHostIdeal.nD Cert.PrepHostIdeal.τ).loc Cert.PrepHostIdeal.main_arg7)
      ∧ r.2.mem ((c.tc : Thread Cert.PrepHostIdeal.nD Cert.PrepHostIdeal.τ).loc Cert.PrepHostIdeal.main_arg8) = m ((c.tc : Thread Cert.PrepHostIdeal.nD Cert.PrepHostIdeal.τ).loc Cert.PrepHostIdeal.main_arg8)
      ∧ r.2.mem ((c.tc : Thread Cert.PrepHostIdeal.nD Cert.PrepHostIdeal.τ).loc Cert.PrepHostIdeal.main_arg9) = m ((c.tc : Thread Cert.PrepHostIdeal.nD Cert.PrepHostIdeal.τ).loc Cert.PrepHostIdeal.main_arg9)
      ∧ r.2.mem ((c.tc : Thread Cert.PrepHostIdeal.nD Cert.PrepHostIdeal.τ).loc Cert.PrepHostIdeal.main_arg10) = m ((c.tc : Thread Cert.PrepHostIdeal.nD Cert.PrepHostIdeal.τ).loc Cert.PrepHostIdeal.main_arg10)
      ∧ r.2.mem ((c.tc : Thread Cert.PrepHostIdeal.nD Cert.PrepHostIdeal.τ).loc Cert.PrepHostIdeal.main_arg11) = m ((c.tc : Thread Cert.PrepHostIdeal.nD Cert.PrepHostIdeal.τ).loc Cert.PrepHostIdeal.main_arg11)
      ∧ r.2.mem ((c.tc : Thread Cert.PrepHostIdeal.nD Cert.PrepHostIdeal.τ).loc Cert.PrepHostIdeal.main_arg12) = m ((c.tc : Thread Cert.PrepHostIdeal.nD Cert.PrepHostIdeal.τ).loc Cert.PrepHostIdeal.main_arg12)
      ∧ r.2.mem ((c.tc : Thread Cert.PrepHostIdeal.nD Cert.PrepHostIdeal.τ).loc Cert.PrepHostIdeal.main_arg13) = m ((c.tc : Thread Cert.PrepHostIdeal.nD Cert.PrepHostIdeal.τ).loc Cert.PrepHostIdeal.main_arg13))
      ∧ r.2.sem = fun _ => 0)

def preserves_Main_MainIdeal : Prop :=
  IdealRules.named_const.Statement Cert.MainIdeal.κ "inv_sqrt_2" .f32 0x3F3504F3#32 (((Real.sqrt 2)⁻¹ : ℝ) : EReal)
  ∧ IdealRules.named_const.Statement Cert.MainIdeal.κ "inv_sqrt_2pi" .f32 0x3ECC422A#32 (((Real.sqrt (2 * Real.pi))⁻¹ : ℝ) : EReal)

def algebraic_MainIdeal_MainHostIdeal_pre_all_finite [hMainIdeal : Cert.MainIdeal.Facts] [hMainHostIdeal : Cert.MainHostIdeal.Facts] [hPre_all_finite : Cert.Pre_all_finite.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainHostIdeal.nD Cert.MainHostIdeal.τ Cert.MainHostIdeal.sig) → Buf (Elt Ideal) ℓ) (g' : Dev Cert.MainHostIdeal.nD → PrngReg), Pre_MainIdeal_all_finite m →
    (∀ c : Dev Cert.MainIdeal.nD,
      m' ((c.tc : Thread Cert.MainHostIdeal.nD Cert.MainHostIdeal.τ).loc Cert.MainHostIdeal.main_arg0) = m ((c.tc : Thread Cert.MainIdeal.nD Cert.MainIdeal.τ).loc Cert.MainIdeal.main_arg0)
      ∧ m' ((c.tc : Thread Cert.MainHostIdeal.nD Cert.MainHostIdeal.τ).loc Cert.MainHostIdeal.main_arg1) = m ((c.tc : Thread Cert.MainIdeal.nD Cert.MainIdeal.τ).loc Cert.MainIdeal.main_arg1)
      ∧ m' ((c.tc : Thread Cert.MainHostIdeal.nD Cert.MainHostIdeal.τ).loc Cert.MainHostIdeal.main_arg2) = m ((c.tc : Thread Cert.MainIdeal.nD Cert.MainIdeal.τ).loc Cert.MainIdeal.main_arg2)
      ∧ m' ((c.tc : Thread Cert.MainHostIdeal.nD Cert.MainHostIdeal.τ).loc Cert.MainHostIdeal.main_arg3) = m ((c.tc : Thread Cert.MainIdeal.nD Cert.MainIdeal.τ).loc Cert.MainIdeal.main_arg3)
      ∧ m' ((c.tc : Thread Cert.MainHostIdeal.nD Cert.MainHostIdeal.τ).loc Cert.MainHostIdeal.main_arg4) = m ((c.tc : Thread Cert.MainIdeal.nD Cert.MainIdeal.τ).loc Cert.MainIdeal.main_arg4)
      ∧ m' ((c.tc : Thread Cert.MainHostIdeal.nD Cert.MainHostIdeal.τ).loc Cert.MainHostIdeal.main_arg5) = m ((c.tc : Thread Cert.MainIdeal.nD Cert.MainIdeal.τ).loc Cert.MainIdeal.main_arg5)
      ∧ m' ((c.tc : Thread Cert.MainHostIdeal.nD Cert.MainHostIdeal.τ).loc Cert.MainHostIdeal.main_arg6) = m ((c.tc : Thread Cert.MainIdeal.nD Cert.MainIdeal.τ).loc Cert.MainIdeal.main_arg6)
      ∧ m' ((c.tc : Thread Cert.MainHostIdeal.nD Cert.MainHostIdeal.τ).loc Cert.MainHostIdeal.main_arg7) = m ((c.tc : Thread Cert.MainIdeal.nD Cert.MainIdeal.τ).loc Cert.MainIdeal.main_arg7)
      ∧ m' ((c.tc : Thread Cert.MainHostIdeal.nD Cert.MainHostIdeal.τ).loc Cert.MainHostIdeal.main_arg8) = m ((c.tc : Thread Cert.MainIdeal.nD Cert.MainIdeal.τ).loc Cert.MainIdeal.main_arg8)) →
    ∃ (v0 : (c : Dev Cert.MainIdeal.nD) → Buf (Elt Ideal) ((c.tc : Thread Cert.MainIdeal.nD Cert.MainIdeal.τ).loc Cert.MainIdeal.main_v10)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v10) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
          ∧ r.2.mem ((c.tc : Thread Cert.MainIdeal.nD Cert.MainIdeal.τ).loc Cert.MainIdeal.main_arg8) = m ((c.tc : Thread Cert.MainIdeal.nD Cert.MainIdeal.τ).loc Cert.MainIdeal.main_arg8))
      ∧ θ_run (Cert.MainHostIdeal.defs (F := Ideal)) (onTc (τ := Cert.MainHostIdeal.τ) (Cert.MainHostIdeal.main (F := Ideal))) ⟨m', fun _ => 0, g'⟩ (fun r => ∀ c : Dev Cert.MainHostIdeal.nD,
          r.2.mem ((c.tc : Thread Cert.MainHostIdeal.nD Cert.MainHostIdeal.τ).loc Cert.MainHostIdeal.main_v304) = v0 c
          ∧ r.2.mem ((c.tc : Thread Cert.MainHostIdeal.nD Cert.MainHostIdeal.τ).loc Cert.MainHostIdeal.main_arg0) = m' ((c.tc : Thread Cert.MainHostIdeal.nD Cert.MainHostIdeal.τ).loc Cert.MainHostIdeal.main_arg0)
          ∧ r.2.mem ((c.tc : Thread Cert.MainHostIdeal.nD Cert.MainHostIdeal.τ).loc Cert.MainHostIdeal.main_arg1) = m' ((c.tc : Thread Cert.MainHostIdeal.nD Cert.MainHostIdeal.τ).loc Cert.MainHostIdeal.main_arg1)
          ∧ r.2.mem ((c.tc : Thread Cert.MainHostIdeal.nD Cert.MainHostIdeal.τ).loc Cert.MainHostIdeal.main_arg2) = m' ((c.tc : Thread Cert.MainHostIdeal.nD Cert.MainHostIdeal.τ).loc Cert.MainHostIdeal.main_arg2)
          ∧ r.2.mem ((c.tc : Thread Cert.MainHostIdeal.nD Cert.MainHostIdeal.τ).loc Cert.MainHostIdeal.main_arg3) = m' ((c.tc : Thread Cert.MainHostIdeal.nD Cert.MainHostIdeal.τ).loc Cert.MainHostIdeal.main_arg3)
          ∧ r.2.mem ((c.tc : Thread Cert.MainHostIdeal.nD Cert.MainHostIdeal.τ).loc Cert.MainHostIdeal.main_arg4) = m' ((c.tc : Thread Cert.MainHostIdeal.nD Cert.MainHostIdeal.τ).loc Cert.MainHostIdeal.main_arg4)
          ∧ r.2.mem ((c.tc : Thread Cert.MainHostIdeal.nD Cert.MainHostIdeal.τ).loc Cert.MainHostIdeal.main_arg5) = m' ((c.tc : Thread Cert.MainHostIdeal.nD Cert.MainHostIdeal.τ).loc Cert.MainHostIdeal.main_arg5)
          ∧ r.2.mem ((c.tc : Thread Cert.MainHostIdeal.nD Cert.MainHostIdeal.τ).loc Cert.MainHostIdeal.main_arg6) = m' ((c.tc : Thread Cert.MainHostIdeal.nD Cert.MainHostIdeal.τ).loc Cert.MainHostIdeal.main_arg6)
          ∧ r.2.mem ((c.tc : Thread Cert.MainHostIdeal.nD Cert.MainHostIdeal.τ).loc Cert.MainHostIdeal.main_arg7) = m' ((c.tc : Thread Cert.MainHostIdeal.nD Cert.MainHostIdeal.τ).loc Cert.MainHostIdeal.main_arg7)
          ∧ r.2.mem ((c.tc : Thread Cert.MainHostIdeal.nD Cert.MainHostIdeal.τ).loc Cert.MainHostIdeal.main_arg8) = m' ((c.tc : Thread Cert.MainHostIdeal.nD Cert.MainHostIdeal.τ).loc Cert.MainHostIdeal.main_arg8))

def preserves_Comb_CombIdeal : Prop :=
  True

def algebraic_CombIdeal_CombHostIdeal [hCombIdeal : Cert.CombIdeal.Facts] [hCombHostIdeal : Cert.CombHostIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombHostIdeal.nD Cert.CombHostIdeal.τ Cert.CombHostIdeal.sig) → Buf (Elt Ideal) ℓ) (g' : Dev Cert.CombHostIdeal.nD → PrngReg), Pre_CombIdeal m →
    (∀ c : Dev Cert.CombIdeal.nD,
      m' ((c.tc : Thread Cert.CombHostIdeal.nD Cert.CombHostIdeal.τ).loc Cert.CombHostIdeal.main_arg0) = m ((c.tc : Thread Cert.CombIdeal.nD Cert.CombIdeal.τ).loc Cert.CombIdeal.main_arg0)
      ∧ m' ((c.tc : Thread Cert.CombHostIdeal.nD Cert.CombHostIdeal.τ).loc Cert.CombHostIdeal.main_arg1) = m ((c.tc : Thread Cert.CombIdeal.nD Cert.CombIdeal.τ).loc Cert.CombIdeal.main_arg1)
      ∧ m' ((c.tc : Thread Cert.CombHostIdeal.nD Cert.CombHostIdeal.τ).loc Cert.CombHostIdeal.main_arg2) = m ((c.tc : Thread Cert.CombIdeal.nD Cert.CombIdeal.τ).loc Cert.CombIdeal.main_arg2)) →
    ∃ (v0 : (c : Dev Cert.CombIdeal.nD) → Buf (Elt Ideal) ((c.tc : Thread Cert.CombIdeal.nD Cert.CombIdeal.τ).loc Cert.CombIdeal.main_v3)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v3) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2))
      ∧ θ_run (Cert.CombHostIdeal.defs (F := Ideal)) (onTc (τ := Cert.CombHostIdeal.τ) (Cert.CombHostIdeal.main (F := Ideal))) ⟨m', fun _ => 0, g'⟩ (fun r => ∀ c : Dev Cert.CombHostIdeal.nD,
          r.2.mem ((c.tc : Thread Cert.CombHostIdeal.nD Cert.CombHostIdeal.τ).loc Cert.CombHostIdeal.main_v6) = v0 c
          ∧ r.2.mem ((c.tc : Thread Cert.CombHostIdeal.nD Cert.CombHostIdeal.τ).loc Cert.CombHostIdeal.main_arg0) = m' ((c.tc : Thread Cert.CombHostIdeal.nD Cert.CombHostIdeal.τ).loc Cert.CombHostIdeal.main_arg0)
          ∧ r.2.mem ((c.tc : Thread Cert.CombHostIdeal.nD Cert.CombHostIdeal.τ).loc Cert.CombHostIdeal.main_arg1) = m' ((c.tc : Thread Cert.CombHostIdeal.nD Cert.CombHostIdeal.τ).loc Cert.CombHostIdeal.main_arg1)
          ∧ r.2.mem ((c.tc : Thread Cert.CombHostIdeal.nD Cert.CombHostIdeal.τ).loc Cert.CombHostIdeal.main_arg2) = m' ((c.tc : Thread Cert.CombHostIdeal.nD Cert.CombHostIdeal.τ).loc Cert.CombHostIdeal.main_arg2))

def preserves_Prep_PrepIdeal : Prop :=
  True

def algebraic_PrepIdeal_PrepHostIdeal [hPrepIdeal : Cert.PrepIdeal.Facts] [hPrepHostIdeal : Cert.PrepHostIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepHostIdeal.nD Cert.PrepHostIdeal.τ Cert.PrepHostIdeal.sig) → Buf (Elt Ideal) ℓ) (g' : Dev Cert.PrepHostIdeal.nD → PrngReg), Pre_PrepIdeal m →
    (∀ c : Dev Cert.PrepIdeal.nD,
      m' ((c.tc : Thread Cert.PrepHostIdeal.nD Cert.PrepHostIdeal.τ).loc Cert.PrepHostIdeal.main_arg0) = m ((c.tc : Thread Cert.PrepIdeal.nD Cert.PrepIdeal.τ).loc Cert.PrepIdeal.main_arg0)
      ∧ m' ((c.tc : Thread Cert.PrepHostIdeal.nD Cert.PrepHostIdeal.τ).loc Cert.PrepHostIdeal.main_arg1) = m ((c.tc : Thread Cert.PrepIdeal.nD Cert.PrepIdeal.τ).loc Cert.PrepIdeal.main_arg1)
      ∧ m' ((c.tc : Thread Cert.PrepHostIdeal.nD Cert.PrepHostIdeal.τ).loc Cert.PrepHostIdeal.main_arg2) = m ((c.tc : Thread Cert.PrepIdeal.nD Cert.PrepIdeal.τ).loc Cert.PrepIdeal.main_arg2)
      ∧ m' ((c.tc : Thread Cert.PrepHostIdeal.nD Cert.PrepHostIdeal.τ).loc Cert.PrepHostIdeal.main_arg3) = m ((c.tc : Thread Cert.PrepIdeal.nD Cert.PrepIdeal.τ).loc Cert.PrepIdeal.main_arg3)
      ∧ m' ((c.tc : Thread Cert.PrepHostIdeal.nD Cert.PrepHostIdeal.τ).loc Cert.PrepHostIdeal.main_arg4) = m ((c.tc : Thread Cert.PrepIdeal.nD Cert.PrepIdeal.τ).loc Cert.PrepIdeal.main_arg4)
      ∧ m' ((c.tc : Thread Cert.PrepHostIdeal.nD Cert.PrepHostIdeal.τ).loc Cert.PrepHostIdeal.main_arg5) = m ((c.tc : Thread Cert.PrepIdeal.nD Cert.PrepIdeal.τ).loc Cert.PrepIdeal.main_arg5)
      ∧ m' ((c.tc : Thread Cert.PrepHostIdeal.nD Cert.PrepHostIdeal.τ).loc Cert.PrepHostIdeal.main_arg6) = m ((c.tc : Thread Cert.PrepIdeal.nD Cert.PrepIdeal.τ).loc Cert.PrepIdeal.main_arg6)
      ∧ m' ((c.tc : Thread Cert.PrepHostIdeal.nD Cert.PrepHostIdeal.τ).loc Cert.PrepHostIdeal.main_arg7) = m ((c.tc : Thread Cert.PrepIdeal.nD Cert.PrepIdeal.τ).loc Cert.PrepIdeal.main_arg7)
      ∧ m' ((c.tc : Thread Cert.PrepHostIdeal.nD Cert.PrepHostIdeal.τ).loc Cert.PrepHostIdeal.main_arg8) = m ((c.tc : Thread Cert.PrepIdeal.nD Cert.PrepIdeal.τ).loc Cert.PrepIdeal.main_arg8)
      ∧ m' ((c.tc : Thread Cert.PrepHostIdeal.nD Cert.PrepHostIdeal.τ).loc Cert.PrepHostIdeal.main_arg9) = m ((c.tc : Thread Cert.PrepIdeal.nD Cert.PrepIdeal.τ).loc Cert.PrepIdeal.main_arg9)
      ∧ m' ((c.tc : Thread Cert.PrepHostIdeal.nD Cert.PrepHostIdeal.τ).loc Cert.PrepHostIdeal.main_arg10) = m ((c.tc : Thread Cert.PrepIdeal.nD Cert.PrepIdeal.τ).loc Cert.PrepIdeal.main_arg10)
      ∧ m' ((c.tc : Thread Cert.PrepHostIdeal.nD Cert.PrepHostIdeal.τ).loc Cert.PrepHostIdeal.main_arg11) = m ((c.tc : Thread Cert.PrepIdeal.nD Cert.PrepIdeal.τ).loc Cert.PrepIdeal.main_arg11)
      ∧ m' ((c.tc : Thread Cert.PrepHostIdeal.nD Cert.PrepHostIdeal.τ).loc Cert.PrepHostIdeal.main_arg12) = m ((c.tc : Thread Cert.PrepIdeal.nD Cert.PrepIdeal.τ).loc Cert.PrepIdeal.main_arg12)
      ∧ m' ((c.tc : Thread Cert.PrepHostIdeal.nD Cert.PrepHostIdeal.τ).loc Cert.PrepHostIdeal.main_arg13) = m ((c.tc : Thread Cert.PrepIdeal.nD Cert.PrepIdeal.τ).loc Cert.PrepIdeal.main_arg13)) →
    ∃ (v0 : (c : Dev Cert.PrepIdeal.nD) → Buf (Elt Ideal) ((c.tc : Thread Cert.PrepIdeal.nD Cert.PrepIdeal.τ).loc Cert.PrepIdeal.main_v6_0)) (v1 : (c : Dev Cert.PrepIdeal.nD) → Buf (Elt Ideal) ((c.tc : Thread Cert.PrepIdeal.nD Cert.PrepIdeal.τ).loc Cert.PrepIdeal.main_v6_1)) (v2 : (c : Dev Cert.PrepIdeal.nD) → Buf (Elt Ideal) ((c.tc : Thread Cert.PrepIdeal.nD Cert.PrepIdeal.τ).loc Cert.PrepIdeal.main_v6_2)) (v3 : (c : Dev Cert.PrepIdeal.nD) → Buf (Elt Ideal) ((c.tc : Thread Cert.PrepIdeal.nD Cert.PrepIdeal.τ).loc Cert.PrepIdeal.main_v6_3)) (v4 : (c : Dev Cert.PrepIdeal.nD) → Buf (Elt Ideal) ((c.tc : Thread Cert.PrepIdeal.nD Cert.PrepIdeal.τ).loc Cert.PrepIdeal.main_v6_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v6_0) = v0 c
          ∧ r.2.mem ((c.tc : Thread Cert.PrepIdeal.nD Cert.PrepIdeal.τ).loc Cert.PrepIdeal.main_v6_1) = v1 c
          ∧ r.2.mem ((c.tc : Thread Cert.PrepIdeal.nD Cert.PrepIdeal.τ).loc Cert.PrepIdeal.main_v6_2) = v2 c
          ∧ r.2.mem ((c.tc : Thread Cert.PrepIdeal.nD Cert.PrepIdeal.τ).loc Cert.PrepIdeal.main_v6_3) = v3 c
          ∧ r.2.mem ((c.tc : Thread Cert.PrepIdeal.nD Cert.PrepIdeal.τ).loc Cert.PrepIdeal.main_v6_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ θ_run (Cert.PrepHostIdeal.defs (F := Ideal)) (onTc (τ := Cert.PrepHostIdeal.τ) (Cert.PrepHostIdeal.main (F := Ideal))) ⟨m', fun _ => 0, g'⟩ (fun r => ∀ c : Dev Cert.PrepHostIdeal.nD,
          r.2.mem ((c.tc : Thread Cert.PrepHostIdeal.nD Cert.PrepHostIdeal.τ).loc Cert.PrepHostIdeal.main_v101) = v0 c
          ∧ r.2.mem ((c.tc : Thread Cert.PrepHostIdeal.nD Cert.PrepHostIdeal.τ).loc Cert.PrepHostIdeal.main_v102) = v1 c
          ∧ r.2.mem ((c.tc : Thread Cert.PrepHostIdeal.nD Cert.PrepHostIdeal.τ).loc Cert.PrepHostIdeal.main_v103) = v2 c
          ∧ r.2.mem ((c.tc : Thread Cert.PrepHostIdeal.nD Cert.PrepHostIdeal.τ).loc Cert.PrepHostIdeal.main_v104) = v3 c
          ∧ r.2.mem ((c.tc : Thread Cert.PrepHostIdeal.nD Cert.PrepHostIdeal.τ).loc Cert.PrepHostIdeal.main_v105) = v4 c
          ∧ r.2.mem ((c.tc : Thread Cert.PrepHostIdeal.nD Cert.PrepHostIdeal.τ).loc Cert.PrepHostIdeal.main_arg0) = m' ((c.tc : Thread Cert.PrepHostIdeal.nD Cert.PrepHostIdeal.τ).loc Cert.PrepHostIdeal.main_arg0)
          ∧ r.2.mem ((c.tc : Thread Cert.PrepHostIdeal.nD Cert.PrepHostIdeal.τ).loc Cert.PrepHostIdeal.main_arg1) = m' ((c.tc : Thread Cert.PrepHostIdeal.nD Cert.PrepHostIdeal.τ).loc Cert.PrepHostIdeal.main_arg1)
          ∧ r.2.mem ((c.tc : Thread Cert.PrepHostIdeal.nD Cert.PrepHostIdeal.τ).loc Cert.PrepHostIdeal.main_arg2) = m' ((c.tc : Thread Cert.PrepHostIdeal.nD Cert.PrepHostIdeal.τ).loc Cert.PrepHostIdeal.main_arg2)
          ∧ r.2.mem ((c.tc : Thread Cert.PrepHostIdeal.nD Cert.PrepHostIdeal.τ).loc Cert.PrepHostIdeal.main_arg3) = m' ((c.tc : Thread Cert.PrepHostIdeal.nD Cert.PrepHostIdeal.τ).loc Cert.PrepHostIdeal.main_arg3)
          ∧ r.2.mem ((c.tc : Thread Cert.PrepHostIdeal.nD Cert.PrepHostIdeal.τ).loc Cert.PrepHostIdeal.main_arg4) = m' ((c.tc : Thread Cert.PrepHostIdeal.nD Cert.PrepHostIdeal.τ).loc Cert.PrepHostIdeal.main_arg4)
          ∧ r.2.mem ((c.tc : Thread Cert.PrepHostIdeal.nD Cert.PrepHostIdeal.τ).loc Cert.PrepHostIdeal.main_arg5) = m' ((c.tc : Thread Cert.PrepHostIdeal.nD Cert.PrepHostIdeal.τ).loc Cert.PrepHostIdeal.main_arg5)
          ∧ r.2.mem ((c.tc : Thread Cert.PrepHostIdeal.nD Cert.PrepHostIdeal.τ).loc Cert.PrepHostIdeal.main_arg6) = m' ((c.tc : Thread Cert.PrepHostIdeal.nD Cert.PrepHostIdeal.τ).loc Cert.PrepHostIdeal.main_arg6)
          ∧ r.2.mem ((c.tc : Thread Cert.PrepHostIdeal.nD Cert.PrepHostIdeal.τ).loc Cert.PrepHostIdeal.main_arg7) = m' ((c.tc : Thread Cert.PrepHostIdeal.nD Cert.PrepHostIdeal.τ).loc Cert.PrepHostIdeal.main_arg7)
          ∧ r.2.mem ((c.tc : Thread Cert.PrepHostIdeal.nD Cert.PrepHostIdeal.τ).loc Cert.PrepHostIdeal.main_arg8) = m' ((c.tc : Thread Cert.PrepHostIdeal.nD Cert.PrepHostIdeal.τ).loc Cert.PrepHostIdeal.main_arg8)
          ∧ r.2.mem ((c.tc : Thread Cert.PrepHostIdeal.nD Cert.PrepHostIdeal.τ).loc Cert.PrepHostIdeal.main_arg9) = m' ((c.tc : Thread Cert.PrepHostIdeal.nD Cert.PrepHostIdeal.τ).loc Cert.PrepHostIdeal.main_arg9)
          ∧ r.2.mem ((c.tc : Thread Cert.PrepHostIdeal.nD Cert.PrepHostIdeal.τ).loc Cert.PrepHostIdeal.main_arg10) = m' ((c.tc : Thread Cert.PrepHostIdeal.nD Cert.PrepHostIdeal.τ).loc Cert.PrepHostIdeal.main_arg10)
          ∧ r.2.mem ((c.tc : Thread Cert.PrepHostIdeal.nD Cert.PrepHostIdeal.τ).loc Cert.PrepHostIdeal.main_arg11) = m' ((c.tc : Thread Cert.PrepHostIdeal.nD Cert.PrepHostIdeal.τ).loc Cert.PrepHostIdeal.main_arg11)
          ∧ r.2.mem ((c.tc : Thread Cert.PrepHostIdeal.nD Cert.PrepHostIdeal.τ).loc Cert.PrepHostIdeal.main_arg12) = m' ((c.tc : Thread Cert.PrepHostIdeal.nD Cert.PrepHostIdeal.τ).loc Cert.PrepHostIdeal.main_arg12)
          ∧ r.2.mem ((c.tc : Thread Cert.PrepHostIdeal.nD Cert.PrepHostIdeal.τ).loc Cert.PrepHostIdeal.main_arg13) = m' ((c.tc : Thread Cert.PrepHostIdeal.nD Cert.PrepHostIdeal.τ).loc Cert.PrepHostIdeal.main_arg13))

def Claim : Prop :=
  ∃ (hMain : Cert.Main.Facts) (hMainIdeal : Cert.MainIdeal.Facts) (hMainHostIdeal : Cert.MainHostIdeal.Facts) (hComb : Cert.Comb.Facts) (hCombIdeal : Cert.CombIdeal.Facts) (hCombHostIdeal : Cert.CombHostIdeal.Facts) (hPrep : Cert.Prep.Facts) (hPrepIdeal : Cert.PrepIdeal.Facts) (hPrepHostIdeal : Cert.PrepHostIdeal.Facts) (hPre_all_finite : Cert.Pre_all_finite.Facts),
    quiescent_Main (hMain := hMain)
    ∧ quiescent_MainIdeal (hMainIdeal := hMainIdeal)
    ∧ quiescent_MainIdeal_pre_all_finite (hMainIdeal := hMainIdeal) (hPre_all_finite := hPre_all_finite)
    ∧ quiescent_MainHostIdeal (hMainHostIdeal := hMainHostIdeal)
    ∧ quiescent_MainHostIdeal_pre_all_finite (hMainHostIdeal := hMainHostIdeal) (hPre_all_finite := hPre_all_finite)
    ∧ quiescent_Comb (hComb := hComb)
    ∧ quiescent_CombIdeal (hCombIdeal := hCombIdeal)
    ∧ quiescent_CombHostIdeal (hCombHostIdeal := hCombHostIdeal)
    ∧ quiescent_Prep (hPrep := hPrep)
    ∧ quiescent_PrepIdeal (hPrepIdeal := hPrepIdeal)
    ∧ quiescent_PrepHostIdeal (hPrepHostIdeal := hPrepHostIdeal)
    ∧ preserves_Main_MainIdeal
    ∧ algebraic_MainIdeal_MainHostIdeal_pre_all_finite (hMainIdeal := hMainIdeal) (hMainHostIdeal := hMainHostIdeal) (hPre_all_finite := hPre_all_finite)
    ∧ preserves_Comb_CombIdeal
    ∧ algebraic_CombIdeal_CombHostIdeal (hCombIdeal := hCombIdeal) (hCombHostIdeal := hCombHostIdeal)
    ∧ preserves_Prep_PrepIdeal
    ∧ algebraic_PrepIdeal_PrepHostIdeal (hPrepIdeal := hPrepIdeal) (hPrepHostIdeal := hPrepHostIdeal)
-- ==== Pre_all_finite.lean ====
abbrev S2x4x32x64x128 : Shape := ⟨5, ![2, 4, 32, 64, 128]⟩
abbrev S2x32x64x8 : Shape := ⟨4, ![2, 32, 64, 8]⟩
abbrev S2x32x1x8 : Shape := ⟨4, ![2, 32, 1, 8]⟩
abbrev S4x128x512 : Shape := ⟨3, ![4, 128, 512]⟩
abbrev S4x512x128 : Shape := ⟨3, ![4, 512, 128]⟩
abbrev S4x128 : Shape := ⟨2, ![4, 128]⟩
abbrev S_ : Shape := ⟨0, ![]⟩

class Facts : Prop where
  bcast_S_S2x4x32x64x128 : S_.BroadcastsInDim S2x4x32x64x128 (![] : Fin 0 → Fin S2x4x32x64x128.rank)
  reducesTo_S2x4x32x64x128_S_d0_1_2_3_4 : S2x4x32x64x128.ReducesTo [0, 1, 2, 3, 4] S_
  h_S_ : 0 < S_.numel
  bcast_S_S2x32x64x8 : S_.BroadcastsInDim S2x32x64x8 (![] : Fin 0 → Fin S2x32x64x8.rank)
  reducesTo_S2x32x64x8_S_d0_1_2_3 : S2x32x64x8.ReducesTo [0, 1, 2, 3] S_
  bcast_S_S2x32x1x8 : S_.BroadcastsInDim S2x32x1x8 (![] : Fin 0 → Fin S2x32x1x8.rank)
  reducesTo_S2x32x1x8_S_d0_1_2_3 : S2x32x1x8.ReducesTo [0, 1, 2, 3] S_
  bcast_S_S4x128x512 : S_.BroadcastsInDim S4x128x512 (![] : Fin 0 → Fin S4x128x512.rank)
  reducesTo_S4x128x512_S_d0_1_2 : S4x128x512.ReducesTo [0, 1, 2] S_
  bcast_S_S4x512x128 : S_.BroadcastsInDim S4x512x128 (![] : Fin 0 → Fin S4x512x128.rank)
  reducesTo_S4x512x128_S_d0_1_2 : S4x512x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg7 : FVec F S4x128 .f32) (main_arg8 : FVec F S4x128 .f32) (main_v29 : IVec S_ 1) (main_v32 : IVec S4x512x128 1) (main_c_12 : IVec S_ 1) : IVec S_ 1 :=
  let main_v33 : IVec S_ 1 := (fun x v => Host.reduce IntOp.andi x v reducesTo_S4x512x128_S_d0_1_2 h_S_) main_v32 main_c_12
  let main_v34 : IVec S_ 1 := andi main_v29 main_v33
  let main_v35 : FVec F S4x128 .f32 := Host.absf main_arg7
  let main_cst_13 : FVec F S_ .f32 := constant S_ .f32 0x7F800000#32
  let main_v36 : FVec F S4x128 .f32 := broadcastInDim S4x128 ![] bcast_S_S4x128 main_cst_13
  let main_v37 : IVec S4x128 1 := cmpf .olt main_v35 main_v36
  let main_c_14 : IVec S_ 1 := constantI S_ 1 1#1
  let main_v38 : IVec S_ 1 := (fun x v => Host.reduce IntOp.andi x v reducesTo_S4x128_S_d0_1 h_S_) main_v37 main_c_14
  let main_v39 : IVec S_ 1 := andi main_v34 main_v38
  let main_v40 : FVec F S4x128 .f32 := Host.absf main_arg8
  let main_cst_15 : FVec F S_ .f32 := constant S_ .f32 0x7F800000#32
  let main_v41 : FVec F S4x128 .f32 := broadcastInDim S4x128 ![] bcast_S_S4x128 main_cst_15
  let main_v42 : IVec S4x128 1 := cmpf .olt main_v40 main_v41
  let main_c_16 : IVec S_ 1 := constantI S_ 1 1#1
  let main_v43 : IVec S_ 1 := (fun x v => Host.reduce IntOp.andi x v reducesTo_S4x128_S_d0_1 h_S_) main_v42 main_c_16
  let main_v44 : IVec S_ 1 := andi main_v39 main_v43
  main_v44

def fn_part1 {F : FTy → Type} [FloatOps F] (main_arg4 : FVec F S2x32x1x8 .f32) (main_arg5 : FVec F S4x128x512 .f32) (main_arg6 : FVec F S4x512x128 .f32) (main_arg7 : FVec F S4x128 .f32) (main_arg8 : FVec F S4x128 .f32) (main_v14 : IVec S_ 1) (main_v15 : FVec F S2x32x64x8 .f32) (main_cst_5 : FVec F S_ .f32) : IVec S_ 1 :=
  let main_v16 : FVec F S2x32x64x8 .f32 := broadcastInDim S2x32x64x8 ![] bcast_S_S2x32x64x8 main_cst_5
  let main_v17 : IVec S2x32x64x8 1 := cmpf .olt main_v15 main_v16
  let main_c_6 : IVec S_ 1 := constantI S_ 1 1#1
  let main_v18 : IVec S_ 1 := (fun x v => Host.reduce IntOp.andi x v reducesTo_S2x32x64x8_S_d0_1_2_3 h_S_) main_v17 main_c_6
  let main_v19 : IVec S_ 1 := andi main_v14 main_v18
  let main_v20 : FVec F S2x32x1x8 .f32 := Host.absf main_arg4
  let main_cst_7 : FVec F S_ .f32 := constant S_ .f32 0x7F800000#32
  let main_v21 : FVec F S2x32x1x8 .f32 := broadcastInDim S2x32x1x8 ![] bcast_S_S2x32x1x8 main_cst_7
  let main_v22 : IVec S2x32x1x8 1 := cmpf .olt main_v20 main_v21
  let main_c_8 : IVec S_ 1 := constantI S_ 1 1#1
  let main_v23 : IVec S_ 1 := (fun x v => Host.reduce IntOp.andi x v reducesTo_S2x32x1x8_S_d0_1_2_3 h_S_) main_v22 main_c_8
  let main_v24 : IVec S_ 1 := andi main_v19 main_v23
  let main_v25 : FVec F S4x128x512 .f32 := Host.absf main_arg5
  let main_cst_9 : FVec F S_ .f32 := constant S_ .f32 0x7F800000#32
  let main_v26 : FVec F S4x128x512 .f32 := broadcastInDim S4x128x512 ![] bcast_S_S4x128x512 main_cst_9
  let main_v27 : IVec S4x128x512 1 := cmpf .olt main_v25 main_v26
  let main_c_10 : IVec S_ 1 := constantI S_ 1 1#1
  let main_v28 : IVec S_ 1 := (fun x v => Host.reduce IntOp.andi x v reducesTo_S4x128x512_S_d0_1_2 h_S_) main_v27 main_c_10
  let main_v29 : IVec S_ 1 := andi main_v24 main_v28
  let main_v30 : FVec F S4x512x128 .f32 := Host.absf main_arg6
  let main_cst_11 : FVec F S_ .f32 := constant S_ .f32 0x7F800000#32
  let main_v31 : FVec F S4x512x128 .f32 := broadcastInDim S4x512x128 ![] bcast_S_S4x512x128 main_cst_11
  let main_v32 : IVec S4x512x128 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S2x4x32x64x128 .f32) (main_arg1 : FVec F S2x4x32x64x128 .f32) (main_arg2 : FVec F S2x4x32x64x128 .f32) (main_arg3 : FVec F S2x32x64x8 .f32) (main_arg4 : FVec F S2x32x1x8 .f32) (main_arg5 : FVec F S4x128x512 .f32) (main_arg6 : FVec F S4x512x128 .f32) (main_arg7 : FVec F S4x128 .f32) (main_arg8 : FVec F S4x128 .f32) : IVec S_ 1 :=
  let main_v0 : FVec F S2x4x32x64x128 .f32 := Host.absf main_arg0
  let main_cst : FVec F S_ .f32 := constant S_ .f32 0x7F800000#32
  let main_v1 : FVec F S2x4x32x64x128 .f32 := broadcastInDim S2x4x32x64x128 ![] bcast_S_S2x4x32x64x128 main_cst
  let main_v2 : IVec S2x4x32x64x128 1 := cmpf .olt main_v0 main_v1
  let main_c : IVec S_ 1 := constantI S_ 1 1#1
  let main_v3 : IVec S_ 1 := (fun x v => Host.reduce IntOp.andi x v reducesTo_S2x4x32x64x128_S_d0_1_2_3_4 h_S_) main_v2 main_c
  let main_c_0 : IVec S_ 1 := constantI S_ 1 1#1
  let main_v4 : IVec S_ 1 := andi main_c_0 main_v3
  let main_v5 : FVec F S2x4x32x64x128 .f32 := Host.absf main_arg1
  let main_cst_1 : FVec F S_ .f32 := constant S_ .f32 0x7F800000#32
  let main_v6 : FVec F S2x4x32x64x128 .f32 := broadcastInDim S2x4x32x64x128 ![] bcast_S_S2x4x32x64x128 main_cst_1
  let main_v7 : IVec S2x4x32x64x128 1 := cmpf .olt main_v5 main_v6
  let main_c_2 : IVec S_ 1 := constantI S_ 1 1#1
  let main_v8 : IVec S_ 1 := (fun x v => Host.reduce IntOp.andi x v reducesTo_S2x4x32x64x128_S_d0_1_2_3_4 h_S_) main_v7 main_c_2
  let main_v9 : IVec S_ 1 := andi main_v4 main_v8
  let main_v10 : FVec F S2x4x32x64x128 .f32 := Host.absf main_arg2
  let main_cst_3 : FVec F S_ .f32 := constant S_ .f32 0x7F800000#32
  let main_v11 : FVec F S2x4x32x64x128 .f32 := broadcastInDim S2x4x32x64x128 ![] bcast_S_S2x4x32x64x128 main_cst_3
  let main_v12 : IVec S2x4x32x64x128 1 := cmpf .olt main_v10 main_v11
  let main_c_4 : IVec S_ 1 := constantI S_ 1 1#1
  let main_v13 : IVec S_ 1 := (fun x v => Host.reduce IntOp.andi x v reducesTo_S2x4x32x64x128_S_d0_1_2_3_4 h_S_) main_v12 main_c_4
  let main_v14 : IVec S_ 1 := andi main_v9 main_v13
  let main_v15 : FVec F S2x32x64x8 .f32 := Host.absf main_arg3
  let main_cst_5 : FVec F S_ .f32 := constant S_ .f32 0x7F800000#32
  fn_part1 (F := F) main_arg4 main_arg5 main_arg6 main_arg7 main_arg8 main_v14 main_v15 main_cst_5
-- ==== Main.lean ====
abbrev S2x4x32x64x128 : Shape := ⟨5, ![2, 4, 32, 64, 128]⟩
abbrev S2x32x64x8 : Shape := ⟨4, ![2, 32, 64, 8]⟩
abbrev S2x32x1x8 : Shape := ⟨4, ![2, 32, 1, 8]⟩
abbrev S4x128x512 : Shape := ⟨3, ![4, 128, 512]⟩
abbrev S4x512x128 : Shape := ⟨3, ![4, 512, 128]⟩
abbrev S4x128 : Shape := ⟨2, ![4, 128]⟩
abbrev S8x2x32x64 : Shape := ⟨4, ![8, 2, 32, 64]⟩
abbrev S8x2x32x64x1 : Shape := ⟨5, ![8, 2, 32, 64, 1]⟩
abbrev S4x2x32x64x1 : Shape := ⟨5, ![4, 2, 32, 64, 1]⟩
abbrev S64x8 : Shape := ⟨2, ![64, 8]⟩
abbrev S8x64 : Shape := ⟨2, ![8, 64]⟩
abbrev S2x256 : Shape := ⟨2, ![2, 256]⟩
abbrev S4x1x128 : Shape := ⟨3, ![4, 1, 128]⟩
abbrev S4x2x128 : Shape := ⟨3, ![4, 2, 128]⟩
abbrev S2x1x32x64x128 : Shape := ⟨5, ![2, 1, 32, 64, 128]⟩
abbrev S1x2x32x64x1 : Shape := ⟨5, ![1, 2, 32, 64, 1]⟩
abbrev S1x128x512 : Shape := ⟨3, ![1, 128, 512]⟩
abbrev S1x512x128 : Shape := ⟨3, ![1, 512, 128]⟩
abbrev S1x2x128 : Shape := ⟨3, ![1, 2, 128]⟩
abbrev S2x128x512 : Shape := ⟨3, ![2, 128, 512]⟩
abbrev S2x512x128 : Shape := ⟨3, ![2, 512, 128]⟩
abbrev S2x8x128 : Shape := ⟨3, ![2, 8, 128]⟩
abbrev S2x32x64x512 : Shape := ⟨4, ![2, 32, 64, 512]⟩
abbrev S2x32x64x128 : Shape := ⟨4, ![2, 32, 64, 128]⟩
abbrev S2x32x1x128 : Shape := ⟨4, ![2, 32, 1, 128]⟩
abbrev S128x512 : Shape := ⟨2, ![128, 512]⟩
abbrev S512x128 : Shape := ⟨2, ![512, 128]⟩
abbrev S2x128 : Shape := ⟨2, ![2, 128]⟩
abbrev S1x1x128 : Shape := ⟨3, ![1, 1, 128]⟩
abbrev S1x128 : Shape := ⟨2, ![1, 128]⟩
abbrev S4096x128 : Shape := ⟨2, ![4096, 128]⟩
abbrev S4096x1 : Shape := ⟨2, ![4096, 1]⟩
abbrev S4096x512 : Shape := ⟨2, ![4096, 512]⟩
abbrev S4096 : Shape := ⟨1, ![4096]⟩
abbrev S2x32x128 : Shape := ⟨3, ![2, 32, 128]⟩
abbrev S1x1x1x64x128 : Shape := ⟨5, ![1, 1, 1, 64, 128]⟩
abbrev S64x128 : Shape := ⟨2, ![64, 128]⟩
abbrev S64x512 : Shape := ⟨2, ![64, 512]⟩
abbrev S64 : Shape := ⟨1, ![64]⟩
abbrev S64x1 : Shape := ⟨2, ![64, 1]⟩
abbrev S1x1x1x64x1 : Shape := ⟨5, ![1, 1, 1, 64, 1]⟩
abbrev S1x1x64x512 : Shape := ⟨4, ![1, 1, 64, 512]⟩
abbrev S1x1x64x128 : Shape := ⟨4, ![1, 1, 64, 128]⟩
abbrev S1x1x1x128 : Shape := ⟨4, ![1, 1, 1, 128]⟩
abbrev S1x1 : Shape := ⟨2, ![1, 1]⟩

abbrev nBuf : Space → Nat
  | .hbm => 20
  | .vmem => 28
  | .smem => 1
  | _ => 0

abbrev bufTy : (tb : Table) → Fin (tcTables nBuf tb) → BufTy
  | .hbm, ⟨0, _⟩ => ⟨S2x4x32x64x128, .f32⟩
  | .hbm, ⟨1, _⟩ => ⟨S2x4x32x64x128, .f32⟩
  | .hbm, ⟨2, _⟩ => ⟨S2x4x32x64x128, .f32⟩
  | .hbm, ⟨3, _⟩ => ⟨S2x32x64x8, .f32⟩
  | .hbm, ⟨4, _⟩ => ⟨S2x32x1x8, .f32⟩
  | .hbm, ⟨5, _⟩ => ⟨S4x128x512, .f32⟩
  | .hbm, ⟨6, _⟩ => ⟨S4x512x128, .f32⟩
  | .hbm, ⟨7, _⟩ => ⟨S4x128, .f32⟩
  | .hbm, ⟨8, _⟩ => ⟨S4x128, .f32⟩
  | .hbm, ⟨9, _⟩ => ⟨S8x2x32x64, .f32⟩
  | .hbm, ⟨10, _⟩ => ⟨S8x2x32x64x1, .f32⟩
  | .hbm, ⟨11, _⟩ => ⟨S4x2x32x64x1, .f32⟩
  | .hbm, ⟨12, _⟩ => ⟨S4x2x32x64x1, .f32⟩
  | .hbm, ⟨13, _⟩ => ⟨S64x8, .f32⟩
  | .hbm, ⟨14, _⟩ => ⟨S8x64, .f32⟩
  | .hbm, ⟨15, _⟩ => ⟨S2x256, .f32⟩
  | .hbm, ⟨16, _⟩ => ⟨S4x1x128, .f32⟩
  | .hbm, ⟨17, _⟩ => ⟨S4x1x128, .f32⟩
  | .hbm, ⟨18, _⟩ => ⟨S4x2x128, .f32⟩
  | .hbm, ⟨19, _⟩ => ⟨S2x4x32x64x128, .f32⟩
  | .local _ .vmem, ⟨0, _⟩ => ⟨S2x1x32x64x128, .f32⟩
  | .local _ .vmem, ⟨1, _⟩ => ⟨S2x1x32x64x128, .f32⟩
  | .local _ .vmem, ⟨2, _⟩ => ⟨S2x1x32x64x128, .f32⟩
  | .local _ .vmem, ⟨3, _⟩ => ⟨S2x1x32x64x128, .f32⟩
  | .local _ .vmem, ⟨4, _⟩ => ⟨S2x1x32x64x128, .f32⟩
  | .local _ .vmem, ⟨5, _⟩ => ⟨S2x1x32x64x128, .f32⟩
  | .local _ .vmem, ⟨6, _⟩ => ⟨S1x2x32x64x1, .f32⟩
  | .local _ .vmem, ⟨7, _⟩ => ⟨S1x2x32x64x1, .f32⟩
  | .local _ .vmem, ⟨8, _⟩ => ⟨S1x2x32x64x1, .f32⟩
  | .local _ .vmem, ⟨9, _⟩ => ⟨S1x2x32x64x1, .f32⟩
  | .local _ .vmem, ⟨10, _⟩ => ⟨S1x128x512, .f32⟩
  | .local _ .vmem, ⟨11, _⟩ => ⟨S1x128x512, .f32⟩
  | .local _ .vmem, ⟨12, _⟩ => ⟨S1x512x128, .f32⟩
  | .local _ .vmem, ⟨13, _⟩ => ⟨S1x512x128, .f32⟩
  | .local _ .vmem, ⟨14, _⟩ => ⟨S1x2x128, .f32⟩
  | .local _ .vmem, ⟨15, _⟩ => ⟨S1x2x128, .f32⟩
  | .local _ .vmem, ⟨16, _⟩ => ⟨S2x1x32x64x128, .f32⟩
  | .local _ .vmem, ⟨17, _⟩ => ⟨S2x1x32x64x128, .f32⟩
  | .local _ .vmem, ⟨18, _⟩ => ⟨S2x128x512, .f32⟩
  | .local _ .vmem, ⟨19, _⟩ => ⟨S2x128x512, .f32⟩
  | .local _ .vmem, ⟨20, _⟩ => ⟨S2x512x128, .f32⟩
  | .local _ .vmem, ⟨21, _⟩ => ⟨S2x512x128, .f32⟩
  | .local _ .vmem, ⟨22, _⟩ => ⟨S2x8x128, .f32⟩
  | .local _ .vmem, ⟨23, _⟩ => ⟨S2x32x64x512, .bf16⟩
  | .local _ .vmem, ⟨24, _⟩ => ⟨S2x32x64x512, .bf16⟩
  | .local _ .vmem, ⟨25, _⟩ => ⟨S2x32x64x128, .bf16⟩
  | .local _ .vmem, ⟨26, _⟩ => ⟨S2x32x1x128, .f32⟩
  | .local _ .vmem, ⟨27, _⟩ => ⟨S2x32x1x128, .f32⟩
  | .local _ .smem, ⟨0, _⟩ => ⟨S2x256, .f32⟩
  | _, _ => ⟨S2x4x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v147 : BitVec 32 := Scalar.addi c0_i32 c32_i32
  let c1_i32 : BitVec 32 := 1#32
  ⟨c0_i32, v147, c1_i32⟩
def k0_off1 (k0_t1 : Fin k0_t1_loop.trips) : Fin 5 → Nat :=
  let c0_103 : Index := 0#32
  let c0_104 : Index := 0#32
  let c0_i32 : BitVec 32 := 0#32
  let c1_i32 : BitVec 32 := 1#32
  let arg21 : BitVec 32 := Scf.iv c0_i32 c1_i32 k0_t1
  let v148 : Index := Scalar.indexCast arg21
  let c0_105 : Index := 0#32
  let c0_106 : Index := 0#32
  ![0, 0, v148.toNat, 0, 0]
def k0_off2 (k0_t1 : Fin k0_t1_loop.trips) : Fin 5 → Nat :=
  let c0_129 : Index := 0#32
  let c0_130 : Index := 0#32
  let c0_i32 : BitVec 32 := 0#32
  let c1_i32 : BitVec 32 := 1#32
  let arg21 : BitVec 32 := Scf.iv c0_i32 c1_i32 k0_t1
  let v190 : Index := Scalar.indexCast arg21
  let c0_131 : Index := 0#32
  let c0_132 : Index := 0#32
  ![0, 0, v190.toNat, 0, 0]
def k0_off3 (k0_t1 : Fin k0_t1_loop.trips) : Fin 4 → Nat :=
  let c0_141 : Index := 0#32
  let c0_i32 : BitVec 32 := 0#32
  let c1_i32 : BitVec 32 := 1#32
  let arg21 : BitVec 32 := Scf.iv c0_i32 c1_i32 k0_t1
  let v203 : Index := Scalar.indexCast arg21
  let c0_142 : Index := 0#32
  let c0_143 : Index := 0#32
  ![0, v203.toNat, 0, 0]
def k0_off4 (k0_t1 : Fin k0_t1_loop.trips) : Fin 4 → Nat :=
  let c0_144 : Index := 0#32
  let c0_i32 : BitVec 32 := 0#32
  let c1_i32 : BitVec 32 := 1#32
  let arg21 : BitVec 32 := Scf.iv c0_i32 c1_i32 k0_t1
  let v206 : Index := Scalar.indexCast arg21
  let c0_145 : Index := 0#32
  let c0_146 : Index := 0#32
  ![0, v206.toNat, 0, 0]
def k0_off5 (k0_t1 : Fin k0_t1_loop.trips) : Fin 4 → Nat :=
  let c0_152 : Index := 0#32
  let c0_i32 : BitVec 32 := 0#32
  let c1_i32 : BitVec 32 := 1#32
  let arg21 : BitVec 32 := Scf.iv c0_i32 c1_i32 k0_t1
  let v214 : Index := Scalar.indexCast arg21
  let c0_153 : Index := 0#32
  let c0_154 : Index := 0#32
  ![0, v214.toNat, 0, 0]
def k0_off6 (i : grid0.Coords) (k0_t1 : Fin k0_t1_loop.trips) (c0_i32_158 : BitVec 32) : Fin 2 → Nat :=
  let c0_160 : Index := 0#32
  let arg0 : BitVec 32 := BitVec.ofNat 32 (i 0).val
  let c2_i32 : BitVec 32 := 2#32
  let v220 : BitVec 32 := Scalar.muli arg0 c2_i32
  let v221 : BitVec 32 := Scalar.addi v220 c0_i32_158
  let c32_i32_159 : BitVec 32 := 32#32
  let v222 : BitVec 32 := Scalar.muli v221 c32_i32_159
  let c0_i32 : BitVec 32 := 0#32
  let c1_i32 : BitVec 32 := 1#32
  let arg21 : BitVec 32 := Scf.iv c0_i32 c1_i32 k0_t1
  let v223 : BitVec 32 := Scalar.addi v222 arg21
  let v224 : Index := Scalar.indexCast v223
  ![0, v224.toNat]
def k0_off7 (i : grid0.Coords) (k0_t1 : Fin k0_t1_loop.trips) (c0_i32_162 : BitVec 32) : Fin 2 → Nat :=
  let c1_164 : Index := 1#32
  let arg0 : BitVec 32 := BitVec.ofNat 32 (i 0).val
  let c2_i32_161 : BitVec 32 := 2#32
  let v226 : BitVec 32 := Scalar.muli arg0 c2_i32_161
  let v227 : BitVec 32 := Scalar.addi v226 c0_i32_162
  let c32_i32_163 : BitVec 32 := 32#32
  let v228 : BitVec 32 := Scalar.muli v227 c32_i32_163
  let c0_i32 : BitVec 32 := 0#32
  let c1_i32 : BitVec 32 := 1#32
  let arg21 : BitVec 32 := Scf.iv c0_i32 c1_i32 k0_t1
  let v229 : BitVec 32 := Scalar.addi v228 arg21
  let v230 : Index := Scalar.indexCast v229
  ![1, v230.toNat]
def k0_off8 (k0_t1 : Fin k0_t1_loop.trips) : Fin 5 → Nat :=
  let c1_225 : Index := 1#32
  let c0_226 : Index := 0#32
  let c0_i32 : BitVec 32 := 0#32
  let c1_i32 : BitVec 32 := 1#32
  let arg21 : BitVec 32 := Scf.iv c0_i32 c1_i32 k0_t1
  let v305 : Index := Scalar.indexCast arg21
  let c0_227 : Index := 0#32
  let c0_228 : Index := 0#32
  ![1, 0, v305.toNat, 0, 0]
def k0_off9 (k0_t1 : Fin k0_t1_loop.trips) : Fin 5 → Nat :=
  let c0_251 : Index := 0#32
  let c1_252 : Index := 1#32
  let c0_i32 : BitVec 32 := 0#32
  let c1_i32 : BitVec 32 := 1#32
  let arg21 : BitVec 32 := Scf.iv c0_i32 c1_i32 k0_t1
  let v347 : Index := Scalar.indexCast arg21
  let c0_253 : Index := 0#32
  let c0_254 : Index := 0#32
  ![0, 1, v347.toNat, 0, 0]
def k0_off10 (k0_t1 : Fin k0_t1_loop.trips) : Fin 4 → Nat :=
  let c1_263 : Index := 1#32
  let c0_i32 : BitVec 32 := 0#32
  let c1_i32 : BitVec 32 := 1#32
  let arg21 : BitVec 32 := Scf.iv c0_i32 c1_i32 k0_t1
  let v360 : Index := Scalar.indexCast arg21
  let c0_264 : Index := 0#32
  let c0_265 : Index := 0#32
  ![1, v360.toNat, 0, 0]
def k0_off11 (k0_t1 : Fin k0_t1_loop.trips) : Fin 4 → Nat :=
  let c1_266 : Index := 1#32
  let c0_i32 : BitVec 32 := 0#32
  let c1_i32 : BitVec 32 := 1#32
  let arg21 : BitVec 32 := Scf.iv c0_i32 c1_i32 k0_t1
  let v363 : Index := Scalar.indexCast arg21
  let c0_267 : Index := 0#32
  let c0_268 : Index := 0#32
  ![1, v363.toNat, 0, 0]
def k0_off12 (k0_t1 : Fin k0_t1_loop.trips) : Fin 4 → Nat :=
  let c1_274 : Index := 1#32
  let c0_i32 : BitVec 32 := 0#32
  let c1_i32 : BitVec 32 := 1#32
  let arg21 : BitVec 32 := Scf.iv c0_i32 c1_i32 k0_t1
  let v371 : Index := Scalar.indexCast arg21
  let c0_275 : Index := 0#32
  let c0_276 : Index := 0#32
  ![1, v371.toNat, 0, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2x1x32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x32x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x32x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x32x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x32x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x32x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MainIdeal.lean ====
variable {F : FTy → Type} [FloatOps F] [Named F]
def κ : String → Option EReal := fun
  | "inv_sqrt_2" => some (((Real.sqrt 2)⁻¹ : ℝ) : EReal)
  | "inv_sqrt_2pi" => some (((Real.sqrt (2 * Real.pi))⁻¹ : ℝ) : EReal)
  | _ => none
-- ==== MainHostIdeal.lean ====
abbrev S2x4x32x64x128 : Shape := ⟨5, ![2, 4, 32, 64, 128]⟩
abbrev S2x32x64x8 : Shape := ⟨4, ![2, 32, 64, 8]⟩
abbrev S2x32x1x8 : Shape := ⟨4, ![2, 32, 1, 8]⟩
abbrev S4x128x512 : Shape := ⟨3, ![4, 128, 512]⟩
abbrev S4x512x128 : Shape := ⟨3, ![4, 512, 128]⟩
abbrev S4x128 : Shape := ⟨2, ![4, 128]⟩
abbrev S2x32x64x4 : Shape := ⟨4, ![2, 32, 64, 4]⟩
abbrev S2x4x32x64 : Shape := ⟨4, ![2, 4, 32, 64]⟩
abbrev S_ : Shape := ⟨0, ![]⟩
abbrev S2x32x1x4 : Shape := ⟨4, ![2, 32, 1, 4]⟩
abbrev S2x32x4 : Shape := ⟨3, ![2, 32, 4]⟩
abbrev S2x4x32 : Shape := ⟨3, ![2, 4, 32]⟩
abbrev S1x4x1x128x512 : Shape := ⟨5, ![1, 4, 1, 128, 512]⟩
abbrev S2x4x32x128x512 : Shape := ⟨5, ![2, 4, 32, 128, 512]⟩
abbrev S1x4x1x512x128 : Shape := ⟨5, ![1, 4, 1, 512, 128]⟩
abbrev S2x4x32x512x128 : Shape := ⟨5, ![2, 4, 32, 512, 128]⟩
abbrev S1x4x1x128 : Shape := ⟨4, ![1, 4, 1, 128]⟩
abbrev S2x4x32x128 : Shape := ⟨4, ![2, 4, 32, 128]⟩
abbrev S2x4x32x64x512 : Shape := ⟨5, ![2, 4, 32, 64, 512]⟩
abbrev S2x4x32x64x1 : Shape := ⟨5, ![2, 4, 32, 64, 1]⟩
abbrev S2x4x32x1x128 : Shape := ⟨5, ![2, 4, 32, 1, 128]⟩
abbrev S64 : Shape := ⟨1, ![64]⟩
abbrev S1x64 : Shape := ⟨2, ![1, 64]⟩
abbrev S1x1x64 : Shape := ⟨3, ![1, 1, 64]⟩
abbrev S1x1x1x64 : Shape := ⟨4, ![1, 1, 1, 64]⟩
abbrev S32 : Shape := ⟨1, ![32]⟩
abbrev S32x1x1 : Shape := ⟨3, ![32, 1, 1]⟩
abbrev S1x32x1 : Shape := ⟨3, ![1, 32, 1]⟩
abbrev S1x1x32 : Shape := ⟨3, ![1, 1, 32]⟩
abbrev S32x32x1 : Shape := ⟨3, ![32, 32, 1]⟩
abbrev S32x32 : Shape := ⟨2, ![32, 32]⟩
abbrev S1x32x32 : Shape := ⟨3, ![1, 32, 32]⟩
abbrev S32x1x32 : Shape := ⟨3, ![32, 1, 32]⟩
abbrev S32x32x32 : Shape := ⟨3, ![32, 32, 32]⟩
abbrev S2x4x1x1x32 : Shape := ⟨5, ![2, 4, 1, 1, 32]⟩
abbrev S2x4x32x32x32 : Shape := ⟨5, ![2, 4, 32, 32, 32]⟩
abbrev S2x4x32x32x16 : Shape := ⟨5, ![2, 4, 32, 32, 16]⟩
abbrev S2x4x32x32x8 : Shape := ⟨5, ![2, 4, 32, 32, 8]⟩
abbrev S2x4x32x32x4 : Shape := ⟨5, ![2, 4, 32, 32, 4]⟩
abbrev S2x4x32x32x2 : Shape := ⟨5, ![2, 4, 32, 32, 2]⟩
abbrev S2x4x32x32x1 : Shape := ⟨5, ![2, 4, 32, 32, 1]⟩
abbrev S2x4x32x32 : Shape := ⟨4, ![2, 4, 32, 32]⟩
abbrev S2x4x32x1x32 : Shape := ⟨5, ![2, 4, 32, 1, 32]⟩
abbrev S2x4x32x1x16 : Shape := ⟨5, ![2, 4, 32, 1, 16]⟩
abbrev S2x4x32x1x8 : Shape := ⟨5, ![2, 4, 32, 1, 8]⟩
abbrev S2x4x32x1x4 : Shape := ⟨5, ![2, 4, 32, 1, 4]⟩
abbrev S2x4x32x1x2 : Shape := ⟨5, ![2, 4, 32, 1, 2]⟩
abbrev S2x4x32x1x1 : Shape := ⟨5, ![2, 4, 32, 1, 1]⟩
abbrev S2x4x32x1 : Shape := ⟨4, ![2, 4, 32, 1]⟩

abbrev nBuf : Space → Nat
  | .hbm => 378
  | .vmem => 0
  | .smem => 0
  | _ => 0

abbrev hbmTy0_0 (i : Nat) : BufTy := match i % 128 with
  | 0 => ⟨S2x4x32x64x128, .f32⟩
  | 1 => ⟨S2x4x32x64x128, .f32⟩
  | 2 => ⟨S2x4x32x64x128, .f32⟩
  | 3 => ⟨S2x32x64x8, .f32⟩
  | 4 => ⟨S2x32x1x8, .f32⟩
  | 5 => ⟨S4x128x512, .f32⟩
  | 6 => ⟨S4x512x128, .f32⟩
  | 7 => ⟨S4x128, .f32⟩
  | 8 => ⟨S4x128, .f32⟩
  | 9 => ⟨S2x32x64x4, .f32⟩
  | 10 => ⟨S2x4x32x64, .f32⟩
  | 11 => ⟨S_, .f32⟩
  | 12 => ⟨S2x4x32x64, .f32⟩
  | 13 => ⟨S2x4x32x64, .f32⟩
  | 14 => ⟨S2x32x64x4, .f32⟩
  | 15 => ⟨S2x4x32x64, .f32⟩
  | 16 => ⟨S2x32x1x4, .f32⟩
  | 17 => ⟨S2x32x4, .f32⟩
  | 18 => ⟨S2x4x32, .f32⟩
  | 19 => ⟨S2x32x1x4, .f32⟩
  | 20 => ⟨S2x32x4, .f32⟩
  | 21 => ⟨S2x4x32, .f32⟩
  | 22 => ⟨S1x4x1x128x512, .f32⟩
  | 23 => ⟨S2x4x32x128x512, .f32⟩
  | 24 => ⟨S1x4x1x512x128, .f32⟩
  | 25 => ⟨S2x4x32x512x128, .f32⟩
  | 26 => ⟨S1x4x1x128, .f32⟩
  | 27 => ⟨S2x4x32x128, .f32⟩
  | 28 => ⟨S1x4x1x128, .f32⟩
  | 29 => ⟨S2x4x32x128, .f32⟩
  | 30 => ⟨S2x4x32x64x512, .f32⟩
  | 31 => ⟨S_, .f32⟩
  | 32 => ⟨S2x4x32x64x512, .f32⟩
  | 33 => ⟨S2x4x32x64x512, .f32⟩
  | 34 => ⟨S_, .f32⟩
  | 35 => ⟨S_, .f32⟩
  | 36 => ⟨S2x4x32x64x512, .f32⟩
  | 37 => ⟨S2x4x32x64x512, .f32⟩
  | 38 => ⟨S2x4x32x64x512, .f32⟩
  | 39 => ⟨S_, .f32⟩
  | 40 => ⟨S_, .f32⟩
  | 41 => ⟨S_, .f32⟩
  | 42 => ⟨S_, .f32⟩
  | 43 => ⟨S_, .f32⟩
  | 44 => ⟨S2x4x32x64x512, .f32⟩
  | 45 => ⟨S2x4x32x64x512, .f32⟩
  | 46 => ⟨S2x4x32x64x512, .f32⟩
  | 47 => ⟨S2x4x32x64x512, .f32⟩
  | 48 => ⟨S2x4x32x64x512, .f32⟩
  | 49 => ⟨S_, .f32⟩
  | 50 => ⟨S2x4x32x64x512, .f32⟩
  | 51 => ⟨S2x4x32x64x512, .f32⟩
  | 52 => ⟨S2x4x32x64x512, .f32⟩
  | 53 => ⟨S2x4x32x64x128, .f32⟩
  | 54 => ⟨S2x4x32x64x128, .f32⟩
  | 55 => ⟨S_, .f32⟩
  | 56 => ⟨S2x4x32x64, .f32⟩
  | 57 => ⟨S2x4x32x64x1, .f32⟩
  | 58 => ⟨S_, .f32⟩
  | 59 => ⟨S2x4x32x64x1, .f32⟩
  | 60 => ⟨S2x4x32x64x1, .f32⟩
  | 61 => ⟨S2x4x32x64x128, .f32⟩
  | 62 => ⟨S2x4x32x64x128, .f32⟩
  | 63 => ⟨S2x4x32x64x128, .f32⟩
  | 64 => ⟨S_, .f32⟩
  | 65 => ⟨S2x4x32x64x128, .f32⟩
  | 66 => ⟨S2x4x32x64x128, .f32⟩
  | 67 => ⟨S_, .f32⟩
  | 68 => ⟨S2x4x32x64, .f32⟩
  | 69 => ⟨S2x4x32x64x1, .f32⟩
  | 70 => ⟨S_, .f32⟩
  | 71 => ⟨S2x4x32x64x1, .f32⟩
  | 72 => ⟨S2x4x32x64x1, .f32⟩
  | 73 => ⟨S2x4x32x64x128, .f32⟩
  | 74 => ⟨S2x4x32x64x128, .f32⟩
  | 75 => ⟨S_, .f32⟩
  | 76 => ⟨S2x4x32x64x1, .f32⟩
  | 77 => ⟨S2x4x32x64x1, .f32⟩
  | 78 => ⟨S2x4x32x64x1, .f32⟩
  | 79 => ⟨S2x4x32x64x1, .f32⟩
  | 80 => ⟨S_, .f32⟩
  | 81 => ⟨S2x4x32x64x1, .f32⟩
  | 82 => ⟨S2x4x32x64x1, .f32⟩
  | 83 => ⟨S2x4x32x64x128, .f32⟩
  | 84 => ⟨S2x4x32x64x128, .f32⟩
  | 85 => ⟨S2x4x32x1x128, .f32⟩
  | 86 => ⟨S2x4x32x64x128, .f32⟩
  | 87 => ⟨S2x4x32x64x128, .f32⟩
  | 88 => ⟨S2x4x32x1x128, .f32⟩
  | 89 => ⟨S2x4x32x64x128, .f32⟩
  | 90 => ⟨S2x4x32x64x128, .f32⟩
  | 91 => ⟨S2x4x32x64x128, .f32⟩
  | 92 => ⟨S2x4x32x64x128, .f32⟩
  | 93 => ⟨S_, .f32⟩
  | 94 => ⟨S2x4x32x64x128, .f32⟩
  | 95 => ⟨S2x4x32x64x128, .f32⟩
  | 96 => ⟨S_, .f32⟩
  | 97 => ⟨S2x4x32x64, .f32⟩
  | 98 => ⟨S_, .f32⟩
  | 99 => ⟨S2x4x32x64, .f32⟩
  | 100 => ⟨S2x4x32x64, .f32⟩
  | 101 => ⟨S2x4x32x64, .f32⟩
  | 102 => ⟨S_, .f32⟩
  | 103 => ⟨S2x4x32, .f32⟩
  | 104 => ⟨S_, .f32⟩
  | 105 => ⟨S64, .f32⟩
  | 106 => ⟨S1x64, .f32⟩
  | 107 => ⟨S1x1x64, .f32⟩
  | 108 => ⟨S1x1x1x64, .f32⟩
  | 109 => ⟨S2x4x32x64, .f32⟩
  | 110 => ⟨S2x4x32x64, .f32⟩
  | 111 => ⟨S_, .f32⟩
  | 112 => ⟨S2x4x32x64, .f32⟩
  | 113 => ⟨S2x4x32x64, .f32⟩
  | 114 => ⟨S2x4x32x64x128, .f32⟩
  | 115 => ⟨S2x4x32x64x128, .f32⟩
  | 116 => ⟨S_, .f32⟩
  | 117 => ⟨S2x4x32x128, .f32⟩
  | 118 => ⟨S2x4x32x1x128, .f32⟩
  | 119 => ⟨S_, .f32⟩
  | 120 => ⟨S2x4x32x128, .f32⟩
  | 121 => ⟨S2x4x32x64x128, .f32⟩
  | 122 => ⟨S_, .f32⟩
  | 123 => ⟨S2x4x32x128, .f32⟩
  | 124 => ⟨S2x4x32x1x128, .f32⟩
  | 125 => ⟨S2x4x32x64x128, .f32⟩
  | 126 => ⟨S2x4x32x64x128, .f32⟩
  | 127 => ⟨S_, .f32⟩
  | _ => ⟨S2x4x32x64x128, .f32⟩

abbrev hbmTy0_1 (i : Nat) : BufTy := match i % 128 with
  | 0 => ⟨S2x4x32x128, .f32⟩
  | 1 => ⟨S2x4x32x64x128, .f32⟩
  | 2 => ⟨S_, .f32⟩
  | 3 => ⟨S2x4x32x64, .f32⟩
  | 4 => ⟨S2x4x32x64x1, .f32⟩
  | 5 => ⟨S2x4x32x64x128, .f32⟩
  | 6 => ⟨S2x4x32x64x128, .f32⟩
  | 7 => ⟨S2x4x32x64x1, .f32⟩
  | 8 => ⟨S2x4x32x64x128, .f32⟩
  | 9 => ⟨S_, .f32⟩
  | 10 => ⟨S2x4x32x64, .f32⟩
  | 11 => ⟨S2x4x32x64x1, .f32⟩
  | 12 => ⟨S_, .f32⟩
  | 13 => ⟨S2x4x32x64x1, .f32⟩
  | 14 => ⟨S2x4x32x64x1, .f32⟩
  | 15 => ⟨S_, .f32⟩
  | 16 => ⟨S2x4x32x64, .f32⟩
  | 17 => ⟨S2x4x32x64x128, .f32⟩
  | 18 => ⟨S2x4x32x64x128, .f32⟩
  | 19 => ⟨S2x4x32x64x128, .f32⟩
  | 20 => ⟨S_, .f32⟩
  | 21 => ⟨S2x4x32x64, .f32⟩
  | 22 => ⟨S2x4x32x64x1, .f32⟩
  | 23 => ⟨S2x4x32x64x128, .f32⟩
  | 24 => ⟨S2x4x32x64x1, .f32⟩
  | 25 => ⟨S_, .f32⟩
  | 26 => ⟨S2x4x32x64x1, .f32⟩
  | 27 => ⟨S2x4x32x64x1, .f32⟩
  | 28 => ⟨S_, .f32⟩
  | 29 => ⟨S2x4x32x64, .f32⟩
  | 30 => ⟨S2x4x32x64x128, .f32⟩
  | 31 => ⟨S2x4x32x64x128, .f32⟩
  | 32 => ⟨S2x4x32x128x512, .f32⟩
  | 33 => ⟨S2x4x32x512x128, .f32⟩
  | 34 => ⟨S2x4x32x64x512, .f32⟩
  | 35 => ⟨S2x4x32x64x512, .f32⟩
  | 36 => ⟨S2x4x32x64x512, .f32⟩
  | 37 => ⟨S2x4x32x64x512, .f32⟩
  | 38 => ⟨S2x4x32x64x512, .f32⟩
  | 39 => ⟨S2x4x32x64x512, .f32⟩
  | 40 => ⟨S_, .f32⟩
  | 41 => ⟨S2x4x32x64x512, .f32⟩
  | 42 => ⟨S2x4x32x64x512, .f32⟩
  | 43 => ⟨S2x4x32x64x512, .f32⟩
  | 44 => ⟨S2x4x32x512x128, .f32⟩
  | 45 => ⟨S2x4x32x128x512, .f32⟩
  | 46 => ⟨S32, .i32⟩
  | 47 => ⟨S32x1x1, .i32⟩
  | 48 => ⟨S32, .i32⟩
  | 49 => ⟨S1x32x1, .i32⟩
  | 50 => ⟨S32, .i32⟩
  | 51 => ⟨S1x1x32, .i32⟩
  | 52 => ⟨S32x32x1, .i32⟩
  | 53 => ⟨S32x32x1, .i32⟩
  | 54 => ⟨S32x32x1, .i1⟩
  | 55 => ⟨S32x32, .i1⟩
  | 56 => ⟨S1x32x32, .i32⟩
  | 57 => ⟨S1x32x32, .i32⟩
  | 58 => ⟨S1x32x32, .i1⟩
  | 59 => ⟨S32x1x32, .i32⟩
  | 60 => ⟨S32x1x32, .i32⟩
  | 61 => ⟨S32x1x32, .i1⟩
  | 62 => ⟨S32x32x32, .i1⟩
  | 63 => ⟨S32x32x32, .i1⟩
  | 64 => ⟨S32x32x32, .i1⟩
  | 65 => ⟨S2x4x1x1x32, .f32⟩
  | 66 => ⟨S_, .f32⟩
  | 67 => ⟨S_, .f32⟩
  | 68 => ⟨S2x4x32x32x32, .i1⟩
  | 69 => ⟨S2x4x32x32x32, .f32⟩
  | 70 => ⟨S2x4x32x32x32, .f32⟩
  | 71 => ⟨S2x4x32x32x32, .f32⟩
  | 72 => ⟨S2x4x32x32x16, .f32⟩
  | 73 => ⟨S2x4x32x32x16, .f32⟩
  | 74 => ⟨S2x4x32x32x16, .f32⟩
  | 75 => ⟨S2x4x32x32x8, .f32⟩
  | 76 => ⟨S2x4x32x32x8, .f32⟩
  | 77 => ⟨S2x4x32x32x8, .f32⟩
  | 78 => ⟨S2x4x32x32x4, .f32⟩
  | 79 => ⟨S2x4x32x32x4, .f32⟩
  | 80 => ⟨S2x4x32x32x4, .f32⟩
  | 81 => ⟨S2x4x32x32x2, .f32⟩
  | 82 => ⟨S2x4x32x32x2, .f32⟩
  | 83 => ⟨S2x4x32x32x2, .f32⟩
  | 84 => ⟨S2x4x32x32x1, .f32⟩
  | 85 => ⟨S2x4x32x32x1, .f32⟩
  | 86 => ⟨S2x4x32x32x1, .f32⟩
  | 87 => ⟨S2x4x32x32, .f32⟩
  | 88 => ⟨S_, .f32⟩
  | 89 => ⟨S_, .f32⟩
  | 90 => ⟨S2x4x32x32, .i1⟩
  | 91 => ⟨S2x4x32x32, .f32⟩
  | 92 => ⟨S2x4x32x32, .f32⟩
  | 93 => ⟨S32x32x1, .i32⟩
  | 94 => ⟨S32x32x1, .i32⟩
  | 95 => ⟨S32x32x1, .i1⟩
  | 96 => ⟨S32x32, .i1⟩
  | 97 => ⟨S_, .f32⟩
  | 98 => ⟨S2x4x32, .f32⟩
  | 99 => ⟨S2x4x32, .f32⟩
  | 100 => ⟨S1x32x32, .i32⟩
  | 101 => ⟨S1x32x32, .i32⟩
  | 102 => ⟨S1x32x32, .i1⟩
  | 103 => ⟨S32x1x32, .i32⟩
  | 104 => ⟨S32x1x32, .i32⟩
  | 105 => ⟨S32x1x32, .i1⟩
  | 106 => ⟨S32x32x32, .i1⟩
  | 107 => ⟨S32x32x32, .i1⟩
  | 108 => ⟨S32x32x32, .i1⟩
  | 109 => ⟨S2x4x1x1x32, .f32⟩
  | 110 => ⟨S_, .f32⟩
  | 111 => ⟨S_, .f32⟩
  | 112 => ⟨S2x4x32x32x32, .i1⟩
  | 113 => ⟨S2x4x32x32x32, .f32⟩
  | 114 => ⟨S2x4x32x32x32, .f32⟩
  | 115 => ⟨S2x4x32x32x32, .f32⟩
  | 116 => ⟨S2x4x32x32x16, .f32⟩
  | 117 => ⟨S2x4x32x32x16, .f32⟩
  | 118 => ⟨S2x4x32x32x16, .f32⟩
  | 119 => ⟨S2x4x32x32x8, .f32⟩
  | 120 => ⟨S2x4x32x32x8, .f32⟩
  | 121 => ⟨S2x4x32x32x8, .f32⟩
  | 122 => ⟨S2x4x32x32x4, .f32⟩
  | 123 => ⟨S2x4x32x32x4, .f32⟩
  | 124 => ⟨S2x4x32x32x4, .f32⟩
  | 125 => ⟨S2x4x32x32x2, .f32⟩
  | 126 => ⟨S2x4x32x32x2, .f32⟩
  | 127 => ⟨S2x4x32x32x2, .f32⟩
  | _ => ⟨S2x4x32x64x128, .f32⟩

abbrev hbmTy0_2 (i : Nat) : BufTy := match i % 128 with
  | 0 => ⟨S2x4x32x32x1, .f32⟩
  | 1 => ⟨S2x4x32x32x1, .f32⟩
  | 2 => ⟨S2x4x32x32x1, .f32⟩
  | 3 => ⟨S2x4x32x32, .f32⟩
  | 4 => ⟨S_, .f32⟩
  | 5 => ⟨S_, .f32⟩
  | 6 => ⟨S2x4x32x32, .i1⟩
  | 7 => ⟨S2x4x32x32, .f32⟩
  | 8 => ⟨S2x4x32x32, .f32⟩
  | 9 => ⟨S_, .f32⟩
  | 10 => ⟨S2x4x32, .f32⟩
  | 11 => ⟨S2x4x32, .f32⟩
  | 12 => ⟨S32x1x32, .i32⟩
  | 13 => ⟨S32x1x32, .i32⟩
  | 14 => ⟨S32x1x32, .i1⟩
  | 15 => ⟨S2x4x1x1x32, .f32⟩
  | 16 => ⟨S_, .f32⟩
  | 17 => ⟨S_, .f32⟩
  | 18 => ⟨S2x4x32x1x32, .i1⟩
  | 19 => ⟨S2x4x32x1x32, .f32⟩
  | 20 => ⟨S2x4x32x1x32, .f32⟩
  | 21 => ⟨S2x4x32x1x32, .f32⟩
  | 22 => ⟨S2x4x32x1x16, .f32⟩
  | 23 => ⟨S2x4x32x1x16, .f32⟩
  | 24 => ⟨S2x4x32x1x16, .f32⟩
  | 25 => ⟨S2x4x32x1x8, .f32⟩
  | 26 => ⟨S2x4x32x1x8, .f32⟩
  | 27 => ⟨S2x4x32x1x8, .f32⟩
  | 28 => ⟨S2x4x32x1x4, .f32⟩
  | 29 => ⟨S2x4x32x1x4, .f32⟩
  | 30 => ⟨S2x4x32x1x4, .f32⟩
  | 31 => ⟨S2x4x32x1x2, .f32⟩
  | 32 => ⟨S2x4x32x1x2, .f32⟩
  | 33 => ⟨S2x4x32x1x2, .f32⟩
  | 34 => ⟨S2x4x32x1x1, .f32⟩
  | 35 => ⟨S2x4x32x1x1, .f32⟩
  | 36 => ⟨S2x4x32x1x1, .f32⟩
  | 37 => ⟨S2x4x32x1, .f32⟩
  | 38 => ⟨S2x4x32, .f32⟩
  | 39 => ⟨S2x4x32x128x512, .f32⟩
  | 40 => ⟨S2x4x32x128x512, .f32⟩
  | 41 => ⟨S2x4x32x128x512, .f32⟩
  | 42 => ⟨S2x4x32x1x1, .f32⟩
  | 43 => ⟨S1x4x1x128x512, .f32⟩
  | 44 => ⟨S2x4x32x128x512, .f32⟩
  | 45 => ⟨S2x4x32x128x512, .f32⟩
  | 46 => ⟨S2x4x32x128x512, .f32⟩
  | 47 => ⟨S2x4x32x128x512, .f32⟩
  | 48 => ⟨S2x4x32x512x128, .f32⟩
  | 49 => ⟨S2x4x32x512x128, .f32⟩
  | 50 => ⟨S2x4x32x512x128, .f32⟩
  | 51 => ⟨S2x4x32x1x1, .f32⟩
  | 52 => ⟨S1x4x1x512x128, .f32⟩
  | 53 => ⟨S2x4x32x512x128, .f32⟩
  | 54 => ⟨S2x4x32x512x128, .f32⟩
  | 55 => ⟨S2x4x32x512x128, .f32⟩
  | 56 => ⟨S2x4x32x512x128, .f32⟩
  | 57 => ⟨S2x4x32x128, .f32⟩
  | 58 => ⟨S2x4x32x128, .f32⟩
  | 59 => ⟨S2x4x32x128, .f32⟩
  | 60 => ⟨S2x4x32x1, .f32⟩
  | 61 => ⟨S1x4x1x128, .f32⟩
  | 62 => ⟨S2x4x32x128, .f32⟩
  | 63 => ⟨S2x4x32x128, .f32⟩
  | 64 => ⟨S2x4x32x128, .f32⟩
  | 65 => ⟨S2x4x32x128, .f32⟩
  | 66 => ⟨S2x4x32x128, .f32⟩
  | 67 => ⟨S2x4x32x128, .f32⟩
  | 68 => ⟨S2x4x32x128, .f32⟩
  | 69 => ⟨S2x4x32x1, .f32⟩
  | 70 => ⟨S1x4x1x128, .f32⟩
  | 71 => ⟨S2x4x32x128, .f32⟩
  | 72 => ⟨S2x4x32x128, .f32⟩
  | 73 => ⟨S2x4x32x128, .f32⟩
  | 74 => ⟨S2x4x32x128, .f32⟩
  | 75 => ⟨S2x4x32x64x512, .f32⟩
  | 76 => ⟨S_, .f32⟩
  | 77 => ⟨S2x4x32x64x512, .f32⟩
  | 78 => ⟨S2x4x32x64x512, .f32⟩
  | 79 => ⟨S_, .f32⟩
  | 80 => ⟨S_, .f32⟩
  | 81 => ⟨S2x4x32x64x512, .f32⟩
  | 82 => ⟨S2x4x32x64x512, .f32⟩
  | 83 => ⟨S2x4x32x64x512, .f32⟩
  | 84 => ⟨S_, .f32⟩
  | 85 => ⟨S2x4x32x64x512, .f32⟩
  | 86 => ⟨S2x4x32x64x512, .f32⟩
  | 87 => ⟨S2x4x32x64x512, .f32⟩
  | 88 => ⟨S2x4x32x64x128, .f32⟩
  | 89 => ⟨S2x4x32x64x128, .f32⟩
  | 90 => ⟨S_, .f32⟩
  | 91 => ⟨S2x4x32x64, .f32⟩
  | 92 => ⟨S2x4x32x64x1, .f32⟩
  | 93 => ⟨S_, .f32⟩
  | 94 => ⟨S2x4x32x64x1, .f32⟩
  | 95 => ⟨S2x4x32x64x1, .f32⟩
  | 96 => ⟨S2x4x32x64x128, .f32⟩
  | 97 => ⟨S2x4x32x64x128, .f32⟩
  | 98 => ⟨S2x4x32x64x128, .f32⟩
  | 99 => ⟨S_, .f32⟩
  | 100 => ⟨S2x4x32x64, .f32⟩
  | 101 => ⟨S2x4x32x64x1, .f32⟩
  | 102 => ⟨S_, .f32⟩
  | 103 => ⟨S2x4x32x64x1, .f32⟩
  | 104 => ⟨S2x4x32x64x1, .f32⟩
  | 105 => ⟨S2x4x32x64x128, .f32⟩
  | 106 => ⟨S2x4x32x64x128, .f32⟩
  | 107 => ⟨S_, .f32⟩
  | 108 => ⟨S2x4x32x64x1, .f32⟩
  | 109 => ⟨S2x4x32x64x1, .f32⟩
  | 110 => ⟨S2x4x32x64x1, .f32⟩
  | 111 => ⟨S2x4x32x64x128, .f32⟩
  | 112 => ⟨S2x4x32x64x128, .f32⟩
  | 113 => ⟨S2x4x32x1x128, .f32⟩
  | 114 => ⟨S2x4x32x64x128, .f32⟩
  | 115 => ⟨S2x4x32x64x128, .f32⟩
  | 116 => ⟨S2x4x32x1x128, .f32⟩
  | 117 => ⟨S2x4x32x64x128, .f32⟩
  | 118 => ⟨S2x4x32x64x128, .f32⟩
  | 119 => ⟨S2x4x32x64x1, .f32⟩
  | 120 => ⟨S2x4x32x64x128, .f32⟩
  | 121 => ⟨S2x4x32x64x128, .f32⟩
  | _ => ⟨S2x4x32x64x128, .f32⟩

abbrev hbmTy (i : Nat) : BufTy := match i / 128 with
  | 0 => hbmTy0_0 i
  | 1 => hbmTy0_1 i
  | 2 => hbmTy0_2 i
  | _ => ⟨S2x4x32x64x128, .f32⟩

abbrev bufTy : (tb : Table) → Fin (tcTables nBuf tb) → BufTy
  | .hbm, ⟨i, _⟩ => hbmTy i
  | _, _ => ⟨S2x4x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_15 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_cst_20 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩
abbrev main_cst_22 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_23 : Ref sig .tc := ⟨.hbm, 137, rfl⟩
abbrev main_v104 : Ref sig .tc := ⟨.hbm, 138, rfl⟩
abbrev main_v105 : Ref sig .tc := ⟨.hbm, 139, rfl⟩
abbrev main_cst_24 : Ref sig .tc := ⟨.hbm, 140, rfl⟩
abbrev main_v106 : Ref sig .tc := ⟨.hbm, 141, rfl⟩
abbrev main_v107 : Ref sig .tc := ⟨.hbm, 142, rfl⟩
abbrev main_cst_25 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_26 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_27 : Ref sig .tc := ⟨.hbm, 153, rfl⟩
abbrev main_v116 : Ref sig .tc := ⟨.hbm, 154, rfl⟩
abbrev main_v117 : Ref sig .tc := ⟨.hbm, 155, rfl⟩
abbrev main_cst_28 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_29 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_30 : Ref sig .tc := ⟨.hbm, 194, rfl⟩
abbrev main_call0_v0 : Ref sig .tc := ⟨.hbm, 195, rfl⟩
abbrev main_call0_v1 : Ref sig .tc := ⟨.hbm, 196, rfl⟩
abbrev main_call0_v2 : Ref sig .tc := ⟨.hbm, 197, rfl⟩
abbrev main_call0_v3 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_31 : Ref sig .tc := ⟨.hbm, 216, rfl⟩
abbrev main_call1_v0 : Ref sig .tc := ⟨.hbm, 217, rfl⟩
abbrev main_call1_v1 : Ref sig .tc := ⟨.hbm, 218, rfl⟩
abbrev main_call1_v2 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_32 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_33 : Ref sig .tc := ⟨.hbm, 238, rfl⟩
abbrev main_call2_v0 : Ref sig .tc := ⟨.hbm, 239, rfl⟩
abbrev main_call2_v1 : Ref sig .tc := ⟨.hbm, 240, rfl⟩
abbrev main_call2_v2 : Ref sig .tc := ⟨.hbm, 241, rfl⟩
abbrev main_call2_v3 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_cst_34 : Ref sig .tc := ⟨.hbm, 260, rfl⟩
abbrev main_call3_v0 : Ref sig .tc := ⟨.hbm, 261, rfl⟩
abbrev main_call3_v1 : Ref sig .tc := ⟨.hbm, 262, rfl⟩
abbrev main_call3_v2 : Ref sig .tc := ⟨.hbm, 263, rfl⟩
abbrev main_v205 : Ref sig .tc := ⟨.hbm, 264, rfl⟩
abbrev main_cst_35 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_cst_36 : Ref sig .tc := ⟨.hbm, 272, rfl⟩
abbrev main_call4_v0 : Ref sig .tc := ⟨.hbm, 273, rfl⟩
abbrev main_call4_v1 : Ref sig .tc := ⟨.hbm, 274, rfl⟩
abbrev main_call4_v2 : Ref sig .tc := ⟨.hbm, 275, rfl⟩
abbrev main_call4_v3 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_cst_37 : Ref sig .tc := ⟨.hbm, 332, rfl⟩
abbrev main_v267 : Ref sig .tc := ⟨.hbm, 333, rfl⟩
abbrev main_v268 : Ref sig .tc := ⟨.hbm, 334, rfl⟩
abbrev main_cst_38 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_cst_39 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_cst_40 : Ref sig .tc := ⟨.hbm, 346, rfl⟩
abbrev main_v278 : Ref sig .tc := ⟨.hbm, 347, rfl⟩
abbrev main_v279 : Ref sig .tc := ⟨.hbm, 348, rfl⟩
abbrev main_cst_41 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_cst_42 : Ref sig .tc := ⟨.hbm, 355, rfl⟩
abbrev main_v285 : Ref sig .tc := ⟨.hbm, 356, rfl⟩
abbrev main_v286 : Ref sig .tc := ⟨.hbm, 357, rfl⟩
abbrev main_cst_43 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_cst_44 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩

abbrev nD : Nat := 1
abbrev τ : Topo := Topo.v7x

variable {F : FTy → Type} [FloatOps F]
-- ==== Comb.lean ====
abbrev S2x4x32x64x128 : Shape := ⟨5, ![2, 4, 32, 64, 128]⟩
abbrev S512x512 : Shape := ⟨2, ![512, 512]⟩
abbrev S512 : Shape := ⟨1, ![512]⟩
abbrev S2x4x2048x128 : Shape := ⟨4, ![2, 4, 2048, 128]⟩
abbrev S4x128x512 : Shape := ⟨3, ![4, 128, 512]⟩
abbrev S1x512 : Shape := ⟨2, ![1, 512]⟩
abbrev S2x2048x512 : Shape := ⟨3, ![2, 2048, 512]⟩
abbrev S1x4x512x128 : Shape := ⟨4, ![1, 4, 512, 128]⟩
abbrev S1x512x512 : Shape := ⟨3, ![1, 512, 512]⟩
abbrev S1x1x512x128 : Shape := ⟨4, ![1, 1, 512, 128]⟩
abbrev S512x128 : Shape := ⟨2, ![512, 128]⟩
abbrev S1x128x512 : Shape := ⟨3, ![1, 128, 512]⟩
abbrev S128x512 : Shape := ⟨2, ![128, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4x32x64x128, .f32⟩
  | .hbm, ⟨1, _⟩ => ⟨S512x512, .f32⟩
  | .hbm, ⟨2, _⟩ => ⟨S512, .f32⟩
  | .hbm, ⟨3, _⟩ => ⟨S2x4x2048x128, .f32⟩
  | .hbm, ⟨4, _⟩ => ⟨S4x128x512, .f32⟩
  | .hbm, ⟨5, _⟩ => ⟨S1x512, .f32⟩
  | .hbm, ⟨6, _⟩ => ⟨S2x2048x512, .f32⟩
  | .local _ .vmem, ⟨0, _⟩ => ⟨S1x4x512x128, .f32⟩
  | .local _ .vmem, ⟨1, _⟩ => ⟨S1x4x512x128, .f32⟩
  | .local _ .vmem, ⟨2, _⟩ => ⟨S4x128x512, .f32⟩
  | .local _ .vmem, ⟨3, _⟩ => ⟨S1x512, .f32⟩
  | .local _ .vmem, ⟨4, _⟩ => ⟨S1x512x512, .f32⟩
  | .local _ .vmem, ⟨5, _⟩ => ⟨S1x512x512, .f32⟩
  | _, _ => ⟨S2x4x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombHostIdeal.lean ====
abbrev S2x4x32x64x128 : Shape := ⟨5, ![2, 4, 32, 64, 128]⟩
abbrev S512x512 : Shape := ⟨2, ![512, 512]⟩
abbrev S512 : Shape := ⟨1, ![512]⟩
abbrev S2x4x2048x128 : Shape := ⟨4, ![2, 4, 2048, 128]⟩
abbrev S2x2048x4x128 : Shape := ⟨4, ![2, 2048, 4, 128]⟩
abbrev S2x2048x512 : Shape := ⟨3, ![2, 2048, 512]⟩
abbrev S1x1x512 : Shape := ⟨3, ![1, 1, 512]⟩

abbrev nBuf : Space → Nat
  | .hbm => 10
  | .vmem => 0
  | .smem => 0
  | _ => 0

abbrev bufTy : (tb : Table) → Fin (tcTables nBuf tb) → BufTy
  | .hbm, ⟨0, _⟩ => ⟨S2x4x32x64x128, .f32⟩
  | .hbm, ⟨1, _⟩ => ⟨S512x512, .f32⟩
  | .hbm, ⟨2, _⟩ => ⟨S512, .f32⟩
  | .hbm, ⟨3, _⟩ => ⟨S2x4x2048x128, .f32⟩
  | .hbm, ⟨4, _⟩ => ⟨S2x2048x4x128, .f32⟩
  | .hbm, ⟨5, _⟩ => ⟨S2x2048x512, .f32⟩
  | .hbm, ⟨6, _⟩ => ⟨S2x2048x512, .f32⟩
  | .hbm, ⟨7, _⟩ => ⟨S1x1x512, .f32⟩
  | .hbm, ⟨8, _⟩ => ⟨S2x2048x512, .f32⟩
  | .hbm, ⟨9, _⟩ => ⟨S2x2048x512, .f32⟩
  | _, _ => ⟨S2x4x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Prep.lean ====
abbrev S2x2048x512 : Shape := ⟨3, ![2, 2048, 512]⟩
abbrev S512 : Shape := ⟨1, ![512]⟩
abbrev S512x512 : Shape := ⟨2, ![512, 512]⟩
abbrev S512x4 : Shape := ⟨2, ![512, 4]⟩
abbrev S4 : Shape := ⟨1, ![4]⟩
abbrev S16x256x512 : Shape := ⟨3, ![16, 256, 512]⟩
abbrev S512x16 : Shape := ⟨2, ![512, 16]⟩
abbrev S16 : Shape := ⟨1, ![16]⟩
abbrev S1x16 : Shape := ⟨2, ![1, 16]⟩
abbrev S1x512 : Shape := ⟨2, ![1, 512]⟩
abbrev S2x4x32x64x128 : Shape := ⟨5, ![2, 4, 32, 64, 128]⟩
abbrev S2x32x64x8 : Shape := ⟨4, ![2, 32, 64, 8]⟩
abbrev S2x32x1x8 : Shape := ⟨4, ![2, 32, 1, 8]⟩
abbrev S1x256x512 : Shape := ⟨3, ![1, 256, 512]⟩
abbrev S1x4x4x64x128 : Shape := ⟨5, ![1, 4, 4, 64, 128]⟩
abbrev S1x4x64x8 : Shape := ⟨4, ![1, 4, 64, 8]⟩
abbrev S1x4x1x8 : Shape := ⟨4, ![1, 4, 1, 8]⟩
abbrev S256x512 : Shape := ⟨2, ![256, 512]⟩
abbrev S256 : Shape := ⟨1, ![256]⟩
abbrev S256x1 : Shape := ⟨2, ![256, 1]⟩
abbrev S256x16 : Shape := ⟨2, ![256, 16]⟩
abbrev S4x64x512 : Shape := ⟨3, ![4, 64, 512]⟩
abbrev S4x512 : Shape := ⟨2, ![4, 512]⟩
abbrev S4x16 : Shape := ⟨2, ![4, 16]⟩
abbrev S256x128 : Shape := ⟨2, ![256, 128]⟩
abbrev S4x64x128 : Shape := ⟨3, ![4, 64, 128]⟩
abbrev S1x1x4x64x128 : Shape := ⟨5, ![1, 1, 4, 64, 128]⟩
abbrev S256x4 : Shape := ⟨2, ![256, 4]⟩
abbrev S256x8 : Shape := ⟨2, ![256, 8]⟩
abbrev S4x64x8 : Shape := ⟨3, ![4, 64, 8]⟩
abbrev S4x8 : Shape := ⟨2, ![4, 8]⟩
abbrev S4x1x8 : Shape := ⟨3, ![4, 1, 8]⟩

abbrev nBuf : Space → Nat
  | .hbm => 25
  | .vmem => 19
  | .smem => 0
  | _ => 0

abbrev bufTy : (tb : Table) → Fin (tcTables nBuf tb) → BufTy
  | .hbm, ⟨0, _⟩ => ⟨S2x2048x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x4, .f32⟩
  | .hbm, ⟨7, _⟩ => ⟨S4, .f32⟩
  | .hbm, ⟨8, _⟩ => ⟨S512x4, .f32⟩
  | .hbm, ⟨9, _⟩ => ⟨S4, .f32⟩
  | .hbm, ⟨10, _⟩ => ⟨S512x4, .f32⟩
  | .hbm, ⟨11, _⟩ => ⟨S4, .f32⟩
  | .hbm, ⟨12, _⟩ => ⟨S512x4, .f32⟩
  | .hbm, ⟨13, _⟩ => ⟨S4, .f32⟩
  | .hbm, ⟨14, _⟩ => ⟨S16x256x512, .f32⟩
  | .hbm, ⟨15, _⟩ => ⟨S512x16, .f32⟩
  | .hbm, ⟨16, _⟩ => ⟨S16, .f32⟩
  | .hbm, ⟨17, _⟩ => ⟨S1x16, .f32⟩
  | .hbm, ⟨18, _⟩ => ⟨S1x512, .f32⟩
  | .hbm, ⟨19, _⟩ => ⟨S1x512, .f32⟩
  | .hbm, ⟨20, _⟩ => ⟨S2x4x32x64x128, .f32⟩
  | .hbm, ⟨21, _⟩ => ⟨S2x4x32x64x128, .f32⟩
  | .hbm, ⟨22, _⟩ => ⟨S2x4x32x64x128, .f32⟩
  | .hbm, ⟨23, _⟩ => ⟨S2x32x64x8, .f32⟩
  | .hbm, ⟨24, _⟩ => ⟨S2x32x1x8, .f32⟩
  | .local _ .vmem, ⟨0, _⟩ => ⟨S1x256x512, .f32⟩
  | .local _ .vmem, ⟨1, _⟩ => ⟨S1x256x512, .f32⟩
  | .local _ .vmem, ⟨2, _⟩ => ⟨S1x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x16, .f32⟩
  | .local _ .vmem, ⟨8, _⟩ => ⟨S1x16, .f32⟩
  | .local _ .vmem, ⟨9, _⟩ => ⟨S1x4x4x64x128, .f32⟩
  | .local _ .vmem, ⟨10, _⟩ => ⟨S1x4x4x64x128, .f32⟩
  | .local _ .vmem, ⟨11, _⟩ => ⟨S1x4x4x64x128, .f32⟩
  | .local _ .vmem, ⟨12, _⟩ => ⟨S1x4x4x64x128, .f32⟩
  | .local _ .vmem, ⟨13, _⟩ => ⟨S1x4x4x64x128, .f32⟩
  | .local _ .vmem, ⟨14, _⟩ => ⟨S1x4x4x64x128, .f32⟩
  | .local _ .vmem, ⟨15, _⟩ => ⟨S1x4x64x8, .f32⟩
  | .local _ .vmem, ⟨16, _⟩ => ⟨S1x4x64x8, .f32⟩
  | .local _ .vmem, ⟨17, _⟩ => ⟨S1x4x1x8, .f32⟩
  | .local _ .vmem, ⟨18, _⟩ => ⟨S1x4x1x8, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v6_3 : Ref sig .tc := ⟨.hbm, 23, rfl⟩
abbrev main_v6_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_9 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_10 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x64x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x1x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepHostIdeal.lean ====
abbrev S2x2048x512 : Shape := ⟨3, ![2, 2048, 512]⟩
abbrev S512 : Shape := ⟨1, ![512]⟩
abbrev S512x512 : Shape := ⟨2, ![512, 512]⟩
abbrev S512x4 : Shape := ⟨2, ![512, 4]⟩
abbrev S4 : Shape := ⟨1, ![4]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S2x2048x4x128 : Shape := ⟨4, ![2, 2048, 4, 128]⟩
abbrev S2x4x2048x128 : Shape := ⟨4, ![2, 4, 2048, 128]⟩
abbrev S2x4x2048 : Shape := ⟨3, ![2, 4, 2048]⟩
abbrev S2x4x2048x1 : Shape := ⟨4, ![2, 4, 2048, 1]⟩
abbrev S2x2048x4 : Shape := ⟨3, ![2, 2048, 4]⟩
abbrev S1x1x4 : Shape := ⟨3, ![1, 1, 4]⟩
abbrev S2x32x64x512 : Shape := ⟨4, ![2, 32, 64, 512]⟩
abbrev S2x32x512 : Shape := ⟨3, ![2, 32, 512]⟩
abbrev S2x32x4 : Shape := ⟨3, ![2, 32, 4]⟩
abbrev S2x2048x8 : Shape := ⟨3, ![2, 2048, 8]⟩
abbrev S2x32x8 : Shape := ⟨3, ![2, 32, 8]⟩
abbrev S2x4x32x64x128 : Shape := ⟨5, ![2, 4, 32, 64, 128]⟩
abbrev S2x32x64x8 : Shape := ⟨4, ![2, 32, 64, 8]⟩
abbrev S2x32x1x8 : Shape := ⟨4, ![2, 32, 1, 8]⟩

abbrev nBuf : Space → Nat
  | .hbm => 142
  | .vmem => 0
  | .smem => 0
  | _ => 0

abbrev hbmTy0_0 (i : Nat) : BufTy := match i % 128 with
  | 0 => ⟨S2x2048x512, .f32⟩
  | 1 => ⟨S512, .f32⟩
  | 2 => ⟨S512, .f32⟩
  | 3 => ⟨S512x512, .f32⟩
  | 4 => ⟨S512x512, .f32⟩
  | 5 => ⟨S512x512, .f32⟩
  | 6 => ⟨S512x4, .f32⟩
  | 7 => ⟨S4, .f32⟩
  | 8 => ⟨S512x4, .f32⟩
  | 9 => ⟨S4, .f32⟩
  | 10 => ⟨S512x4, .f32⟩
  | 11 => ⟨S4, .f32⟩
  | 12 => ⟨S512x4, .f32⟩
  | 13 => ⟨S4, .f32⟩
  | 14 => ⟨S2x2048x512, .f32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1, .f32⟩
  | 25 => ⟨S2x2048x512, .f32⟩
  | 26 => ⟨S2x2048x512, .f32⟩
  | 27 => ⟨S1x1x512, .f32⟩
  | 28 => ⟨S2x2048x512, .f32⟩
  | 29 => ⟨S2x2048x512, .f32⟩
  | 30 => ⟨S2x2048x512, .f32⟩
  | 31 => ⟨S_, .f32⟩
  | 32 => ⟨S2x2048, .f32⟩
  | 33 => ⟨S2x2048x1, .f32⟩
  | 34 => ⟨S_, .f32⟩
  | 35 => ⟨S2x2048x1, .f32⟩
  | 36 => ⟨S2x2048x1, .f32⟩
  | 37 => ⟨S_, .f32⟩
  | 38 => ⟨S2x2048x1, .f32⟩
  | 39 => ⟨S2x2048x1, .f32⟩
  | 40 => ⟨S2x2048x1, .f32⟩
  | 41 => ⟨S2x2048x512, .f32⟩
  | 42 => ⟨S2x2048x512, .f32⟩
  | 43 => ⟨S1x1x512, .f32⟩
  | 44 => ⟨S2x2048x512, .f32⟩
  | 45 => ⟨S2x2048x512, .f32⟩
  | 46 => ⟨S2x2048x512, .f32⟩
  | 47 => ⟨S2x2048x4x128, .f32⟩
  | 48 => ⟨S2x4x2048x128, .f32⟩
  | 49 => ⟨S2x4x2048x128, .f32⟩
  | 50 => ⟨S_, .f32⟩
  | 51 => ⟨S2x4x2048, .f32⟩
  | 52 => ⟨S2x4x2048x1, .f32⟩
  | 53 => ⟨S_, .f32⟩
  | 54 => ⟨S2x4x2048x1, .f32⟩
  | 55 => ⟨S2x4x2048x1, .f32⟩
  | 56 => ⟨S2x4x2048x1, .f32⟩
  | 57 => ⟨S2x4x2048x128, .f32⟩
  | 58 => ⟨S2x4x2048x128, .f32⟩
  | 59 => ⟨S2x2048x512, .f32⟩
  | 60 => ⟨S2x2048x4x128, .f32⟩
  | 61 => ⟨S2x4x2048x128, .f32⟩
  | 62 => ⟨S2x2048x512, .f32⟩
  | 63 => ⟨S2x2048x4x128, .f32⟩
  | 64 => ⟨S2x4x2048x128, .f32⟩
  | 65 => ⟨S2x4x2048x128, .f32⟩
  | 66 => ⟨S_, .f32⟩
  | 67 => ⟨S2x4x2048, .f32⟩
  | 68 => ⟨S2x4x2048x1, .f32⟩
  | 69 => ⟨S_, .f32⟩
  | 70 => ⟨S2x4x2048x1, .f32⟩
  | 71 => ⟨S2x4x2048x1, .f32⟩
  | 72 => ⟨S2x4x2048x1, .f32⟩
  | 73 => ⟨S2x4x2048x128, .f32⟩
  | 74 => ⟨S2x4x2048x128, .f32⟩
  | 75 => ⟨S2x2048x4, .f32⟩
  | 76 => ⟨S1x1x4, .f32⟩
  | 77 => ⟨S2x2048x4, .f32⟩
  | 78 => ⟨S2x2048x4, .f32⟩
  | 79 => ⟨S2x2048x4, .f32⟩
  | 80 => ⟨S2x2048x4, .f32⟩
  | 81 => ⟨S_, .f32⟩
  | 82 => ⟨S2x2048x4, .f32⟩
  | 83 => ⟨S2x2048x4, .f32⟩
  | 84 => ⟨S_, .f32⟩
  | 85 => ⟨S2x2048x4, .f32⟩
  | 86 => ⟨S2x2048x4, .f32⟩
  | 87 => ⟨S_, .f32⟩
  | 88 => ⟨S2x2048x4, .f32⟩
  | 89 => ⟨S2x2048x4, .f32⟩
  | 90 => ⟨S2x2048x4, .f32⟩
  | 91 => ⟨S1x1x4, .f32⟩
  | 92 => ⟨S2x2048x4, .f32⟩
  | 93 => ⟨S2x2048x4, .f32⟩
  | 94 => ⟨S2x2048x4, .f32⟩
  | 95 => ⟨S2x2048x4, .f32⟩
  | 96 => ⟨S_, .f32⟩
  | 97 => ⟨S2x2048x4, .f32⟩
  | 98 => ⟨S2x2048x4, .f32⟩
  | 99 => ⟨S_, .f32⟩
  | 100 => ⟨S2x2048x4, .f32⟩
  | 101 => ⟨S2x2048x4, .f32⟩
  | 102 => ⟨S2x32x64x512, .f32⟩
  | 103 => ⟨S_, .f32⟩
  | 104 => ⟨S2x32x512, .f32⟩
  | 105 => ⟨S_, .f32⟩
  | 106 => ⟨S2x32x512, .f32⟩
  | 107 => ⟨S2x32x512, .f32⟩
  | 108 => ⟨S2x32x4, .f32⟩
  | 109 => ⟨S1x1x4, .f32⟩
  | 110 => ⟨S2x32x4, .f32⟩
  | 111 => ⟨S2x32x4, .f32⟩
  | 112 => ⟨S2x32x4, .f32⟩
  | 113 => ⟨S2x32x4, .f32⟩
  | 114 => ⟨S_, .f32⟩
  | 115 => ⟨S2x32x4, .f32⟩
  | 116 => ⟨S2x32x4, .f32⟩
  | 117 => ⟨S_, .f32⟩
  | 118 => ⟨S2x32x4, .f32⟩
  | 119 => ⟨S2x32x4, .f32⟩
  | 120 => ⟨S2x32x4, .f32⟩
  | 121 => ⟨S1x1x4, .f32⟩
  | 122 => ⟨S2x32x4, .f32⟩
  | 123 => ⟨S2x32x4, .f32⟩
  | 124 => ⟨S2x32x4, .f32⟩
  | 125 => ⟨S2x32x4, .f32⟩
  | 126 => ⟨S_, .f32⟩
  | 127 => ⟨S2x32x4, .f32⟩
  | _ => ⟨S2x2048x512, .f32⟩

abbrev hbmTy0_1 (i : Nat) : BufTy := match i % 128 with
  | 0 => ⟨S2x32x4, .f32⟩
  | 1 => ⟨S_, .f32⟩
  | 2 => ⟨S2x32x4, .f32⟩
  | 3 => ⟨S2x32x4, .f32⟩
  | 4 => ⟨S_, .f32⟩
  | 5 => ⟨S2x2048x4, .f32⟩
  | 6 => ⟨S2x2048x4, .f32⟩
  | 7 => ⟨S2x2048x8, .f32⟩
  | 8 => ⟨S2x32x8, .f32⟩
  | 9 => ⟨S2x4x32x64x128, .f32⟩
  | 10 => ⟨S2x4x32x64x128, .f32⟩
  | 11 => ⟨S2x4x32x64x128, .f32⟩
  | 12 => ⟨S2x32x64x8, .f32⟩
  | 13 => ⟨S2x32x1x8, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== Proof.Comb.Value.lean ====
/- The combining call: what it leaves in the result array is the reference's product with the combining matrix plus the
   bias. The kernel adds four products over one head's 128 lanes each, the reference makes one over all 512. -/
module

public import proofs.«01_k».proof.Proof.Gen.CombIdeal.Frame
public import proofs.«01_k».proof.Proof.Gen.CombHostIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombIdeal.Value

open Cert.CombIdeal Cert.CombIdeal.Gen

/-- The reference's result as a function of the three arguments. -/
abbrev REF (r : FVec Ideal S2x4x32x64x128 .f32) (W : FVec Ideal S512x512 .f32) (b : FVec Ideal S512 .f32) : FVec Ideal S2x2048x512 .f32 :=
  Cert.CombHostIdeal.Read.val_main_v6 (F := Ideal) r W b

/-- A sum over 512 lanes is the sum over the four heads of the sums over a head's 128. -/
theorem sum_heads (f : Fin 512 → EReal) :
    ∑ k : Fin 512, f k = (∑ k : Fin 128, f ⟨k.val, by omega⟩) + (∑ k : Fin 128, f ⟨128 + k.val, by omega⟩)
      + (∑ k : Fin 128, f ⟨256 + k.val, by omega⟩) + ∑ k : Fin 128, f ⟨384 + k.val, by omega⟩ := by
  refine (Fin.sum_univ_add (a := 384) (b := 128) f).trans ?_
  refine congrArg₂ (· + ·) ?_ rfl
  refine (Fin.sum_univ_add (a := 256) (b := 128) _).trans ?_
  refine congrArg₂ (· + ·) ?_ rfl
  exact Fin.sum_univ_add (a := 128) (b := 128) _

/-- The digits of a flat position of the transposed array. -/
theorem digits_in {a n c k : ℕ} (ha : a < 2) (hn : n < 2048) (hc : c < 4) (hk : k < 128) :
    ((a * 2048 + n) * 512 + (128 * c + k)) / 1048576 = a ∧ ((a * 2048 + n) * 512 + (128 * c + k)) / 512 % 2048 = n
      ∧ ((a * 2048 + n) * 512 + (128 * c + k)) / 128 % 4 = c ∧ ((a * 2048 + n) * 512 + (128 * c + k)) % 128 = k := by
  omega

/-- The digits of a flat position of the argument. -/
theorem digits_out {a n c k : ℕ} (ha : a < 2) (hn : n < 2048) (hc : c < 4) (hk : k < 128) :
    (((a * 4 + c) * 2048 + n) * 128 + k) / 1048576 = a ∧ (((a * 4 + c) * 2048 + n) * 128 + k) / 262144 % 4 = c
      ∧ (((a * 4 + c) * 2048 + n) * 128 + k) / 8192 % 32 = n / 64
      ∧ (((a * 4 + c) * 2048 + n) * 128 + k) / 128 % 64 = n % 64 ∧ (((a * 4 + c) * 2048 + n) * 128 + k) % 128 = k := by
  omega

/-- Where the reference's contracted lane `128 c + k` sits in the argument. -/
theorem lane (i : S2x2048x512.Idx) (c : Fin 4) (k : Fin 128) (l : Fin 512) (hl : l.val = 128 * c.val + k.val) :
    Cert.CombHostIdeal.Read.idx_main_v0 (Cert.CombHostIdeal.Read.idx_main_v1 (Cert.CombHostIdeal.Read.idx_main_v2
        (Cert.CombHostIdeal.Read.lidx_main_v3 i l)))
      = ix5 (i 0) c ⟨(i 1).val / 64, by have h : (i 1).val < 2048 := (i 1).isLt; omega⟩ ⟨(i 1).val % 64, by omega⟩ k := by
  have h0 : (i 0).val < 2 := (i 0).isLt
  have h1 : (i 1).val < 2048 := (i 1).isLt
  obtain ⟨e0, e1, e2, e3⟩ := digits_in h0 h1 c.isLt k.isLt
  obtain ⟨f0, f1, f2, f3, f4⟩ := digits_out h0 h1 c.isLt k.isLt
  rw [← hl] at e0 e1 e2 e3
  funext a
  refine Fin.ext ?_
  match a with
  | ⟨0, _⟩ => show ((((((i 0).val * 2048 + (i 1).val) * 512 + l.val) / 1048576 * 4 + (((i 0).val * 2048 + (i 1).val) * 512 + l.val) / 128 % 4) * 2048 + (((i 0).val * 2048 + (i 1).val) * 512 + l.val) / 512 % 2048) * 128 + (((i 0).val * 2048 + (i 1).val) * 512 + l.val) % 128) / 1048576 = (i 0).val; rw [e0, e1, e2, e3]; exact f0
  | ⟨1, _⟩ => show ((((((i 0).val * 2048 + (i 1).val) * 512 + l.val) / 1048576 * 4 + (((i 0).val * 2048 + (i 1).val) * 512 + l.val) / 128 % 4) * 2048 + (((i 0).val * 2048 + (i 1).val) * 512 + l.val) / 512 % 2048) * 128 + (((i 0).val * 2048 + (i 1).val) * 512 + l.val) % 128) / 262144 % 4 = c.val; rw [e0, e1, e2, e3]; exact f1
  | ⟨2, _⟩ => show ((((((i 0).val * 2048 + (i 1).val) * 512 + l.val) / 1048576 * 4 + (((i 0).val * 2048 + (i 1).val) * 512 + l.val) / 128 % 4) * 2048 + (((i 0).val * 2048 + (i 1).val) * 512 + l.val) / 512 % 2048) * 128 + (((i 0).val * 2048 + (i 1).val) * 512 + l.val) % 128) / 8192 % 32 = (i 1).val / 64; rw [e0, e1, e2, e3]; exact f2
  | ⟨3, _⟩ => show ((((((i 0).val * 2048 + (i 1).val) * 512 + l.val) / 1048576 * 4 + (((i 0).val * 2048 + (i 1).val) * 512 + l.val) / 128 % 4) * 2048 + (((i 0).val * 2048 + (i 1).val) * 512 + l.val) / 512 % 2048) * 128 + (((i 0).val * 2048 + (i 1).val) * 512 + l.val) % 128) / 128 % 64 = (i 1).val % 64; rw [e0, e1, e2, e3]; exact f3
  | ⟨4, _⟩ => show ((((((i 0).val * 2048 + (i 1).val) * 512 + l.val) / 1048576 * 4 + (((i 0).val * 2048 + (i 1).val) * 512 + l.val) / 128 % 4) * 2048 + (((i 0).val * 2048 + (i 1).val) * 512 + l.val) / 512 % 2048) * 128 + (((i 0).val * 2048 + (i 1).val) * 512 + l.val) % 128) % 128 = k.val; rw [e0, e1, e2, e3]; exact f4

/-- The reference's result at an index, the sum split by heads. -/
theorem ref_at (r : FVec Ideal S2x4x32x64x128 .f32) (W : FVec Ideal S512x512 .f32) (b : FVec Ideal S512 .f32) (i : S2x2048x512.Idx) :
    REF r W b i
      = (∑ k : Fin 128, r (ix5 (i 0) 0 ⟨(i 1).val / 64, by have h : (i 1).val < 2048 := (i 1).isLt; omega⟩ ⟨(i 1).val % 64, by omega⟩ k) * W (ix2 ⟨k.val, by omega⟩ (i 2)))
        + (∑ k : Fin 128, r (ix5 (i 0) 1 ⟨(i 1).val / 64, by have h : (i 1).val < 2048 := (i 1).isLt; omega⟩ ⟨(i 1).val % 64, by omega⟩ k) * W (ix2 ⟨128 + k.val, by omega⟩ (i 2)))
        + (∑ k : Fin 128, r (ix5 (i 0) 2 ⟨(i 1).val / 64, by have h : (i 1).val < 2048 := (i 1).isLt; omega⟩ ⟨(i 1).val % 64, by omega⟩ k) * W (ix2 ⟨256 + k.val, by omega⟩ (i 2)))
        + (∑ k : Fin 128, r (ix5 (i 0) 3 ⟨(i 1).val / 64, by have h : (i 1).val < 2048 := (i 1).isLt; omega⟩ ⟨(i 1).val % 64, by omega⟩ k) * W (ix2 ⟨384 + k.val, by omega⟩ (i 2)))
        + b (ix1 (i 2)) := by
  have h0 : (i 0).val < 2 := (i 0).isLt
  have h1 : (i 1).val < 2048 := (i 1).isLt
  have h2 : (i 2).val < 512 := (i 2).isLt
  rw [REF, Cert.CombHostIdeal.Read.val_main_v6_apply, Cert.CombHostIdeal.Read.val_main_v3_apply,
    Cert.CombHostIdeal.Read.val_main_v5_apply, Cert.CombHostIdeal.Read.val_main_v4_apply, sum_heads]
  simp only [Cert.CombHostIdeal.Read.val_main_v2_apply, Cert.CombHostIdeal.Read.val_main_v1_apply, Cert.CombHostIdeal.Read.val_main_v0_apply]
  refine congrArg₂ (· + ·) (congrArg₂ (· + ·) (congrArg₂ (· + ·) (congrArg₂ (· + ·) ?_ ?_) ?_) ?_) ?_
  · refine Finset.sum_congr rfl fun k _ => congrArg₂ (· * ·) (congrArg r (lane i 0 k _ (by simp))) (congrArg W (by blk_ext))
  · refine Finset.sum_congr rfl fun k _ => congrArg₂ (· * ·) (congrArg r (lane i 1 k _ (by simp))) (congrArg W (by blk_ext))
  · refine Finset.sum_congr rfl fun k _ => congrArg₂ (· * ·) (congrArg r (lane i 2 k _ (by simp))) (congrArg W (by blk_ext))
  · refine Finset.sum_congr rfl fun k _ => congrArg₂ (· * ·) (congrArg r (lane i 3 k _ (by simp))) (congrArg W (by blk_ext))
  · refine congrArg b ?_
    funext a
    match a with
    | ⟨0, _⟩ => rfl

variable (m : (ℓ : Loc nD τ sig) → Buf (Elt Ideal) ℓ)

/-- Which block each window reads or writes at a grid point. -/
theorem idx : ∀ t : Fin cfg0.N, win0_0.index t = ![t.val / 4, 0, t.val % 4, 0] ∧ win0_1.index t = ![0, 0, 0]
    ∧ win0_2.index t = ![0, 0] ∧ win0_3.index t = ![t.val / 4, t.val % 4, 0] ∧ t.val / 4 < 2 :=
  (by decide +kernel : ∀ t : Fin grid0.N, _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, k0_pay2, k0_pay3]
  rw [ref_at]
  blk_point [iblk, V, idx t]

end Cert.CombIdeal.Value

end
-- ==== Proof.Comb.Claims.lean ====
/- The claims about the combining call. -/
module

public import proofs.«01_k».proof.Defs
public import proofs.«01_k».proof.Proof.Gen.Comb.Frame
public import proofs.«01_k».proof.Proof.Comb.Value
public import proofs.«01_k».proof.Proof.Gen.CombHostIdeal.Run
public import Idealize.ShloMosaic.Lib.Claim

@[expose] public section

set_option maxRecDepth 16384

namespace Cert.Proof.Comb

open Idealize.ShloMosaic Idealize.ShloMosaic.TcCoe Idealize.SL.Sem

/-- The kernel's call runs and leaves its arguments. -/
theorem frame_kernel : Cert.quiescent_Comb := fun m g _ => Cert.Comb.Gen.frame m g

/-- So does its ideal reading. -/
theorem frame_ideal : Cert.quiescent_CombIdeal := fun m g _ => Cert.CombIdeal.Gen.frame m g

/-- So does the reference. -/
theorem frame_reference : Cert.quiescent_CombHostIdeal := by
  intro m g _
  refine (θ_run _ _ _).mono (fun r h => ⟨fun c => (h c).2, funext fun x => ?_⟩) (Cert.CombHostIdeal.Value.run (F := Ideal) m g)
  rcases x with ⟨_, s | s⟩ <;> exact s.elim0

/-- The ideal reading rewrites nothing. -/
theorem preserves : Cert.preserves_Comb_CombIdeal := trivial

/-- The ideal call computes the reference. -/
theorem value : Cert.algebraic_CombIdeal_CombHostIdeal := by
  pair_intro
  · run_from Cert.CombIdeal.Gen.run_main m g
  · hlo_run
    exact (Cert.CombIdeal.Value.final m c).symm

end Cert.Proof.Comb

end
-- ==== Proof.Boxes.lean ====
/- Loads of a box after a list of stores of boxes: the newest store at the very box is what is read, one at a box apart
   from it is passed over. -/
module

public import Idealize.ShloMosaic.Lib.WritesUnit
public import Idealize.ShloMosaic.Lib.Exec
public import Idealize.ShloMosaic.Lib.Pipeline.FrameBody

@[expose] public section

noncomputable section

namespace Cert.Proof.Boxes

open Idealize.ShloMosaic

variable {sig : RefSig} {κ : Kind} {sp : Space} {s : Shape} {e : EltTy} {Val : EltTy → Type}

/-- The box stored last, read back. -/
theorem ld_hit (v : View sig κ sp s e) (f : v.ty.Contents Val) (r : Rect s) (w : r.shape.Idx → Val e)
    (L : List (View.Piece Val s e)) : View.ld (v.read Val (v.writes Val f (⟨r, w⟩ :: L))) r = w :=
  funext fun x => View.read_writes_cons_emb v f r w L x

/-- A box apart from the one stored last. -/
theorem ld_skip (v : View sig κ sp s e) (f : v.ty.Contents Val) (r r' : Rect s) (w : r'.shape.Idx → Val e)
    (L : List (View.Piece Val s e)) (h : LoadRect.disj r' r.toLoadRect = true) :
    View.ld (v.read Val (v.writes Val f (⟨r', w⟩ :: L))) r = View.ld (v.read Val (v.writes Val f L)) r := by
  funext x
  have hx : r.emb x ∉ Finset.univ.map r'.emb := by
    rw [Rect.map_emb_univ]
    exact LoadRect.idx_not_mem_of_disj h x
  show v.read Val (v.writes Val f (⟨r', w⟩ :: L)) (r.emb x) = v.read Val (v.writes Val f L) (r.emb x)
  rw [View.writes_cons]
  exact View.read_slice_write_of_not_mem _ _ _ _ hx

/-- A box inside the one stored last. -/
theorem ld_inside (v : View sig κ sp s e) (f : v.ty.Contents Val) {off size off' size' d : Fin s.rank → ℕ}
    (inb : ∀ a, off a + size a ≤ s.size a) (inb' : ∀ a, off' a + size' a ≤ s.size a) (inbd : ∀ a, d a + size' a ≤ size a)
    (w : (Rect.unit off size inb).shape.Idx → Val e) (L : List (View.Piece Val s e)) (h : ∀ a, off' a = off a + d a) :
    View.ld (v.read Val (v.writes Val f (⟨Rect.unit off size inb, w⟩ :: L))) (Rect.unit off' size' inb')
      = View.ld (S := (Rect.unit off size inb).shape) w (Rect.unit (s := (Rect.unit off size inb).shape) d size' inbd) := by
  funext x
  refine View.read_writes_cons_unit_of_mem v f inb w L _
    ((Rect.unit (s := (Rect.unit off size inb).shape) d size' inbd).idx x) rfl fun a => ?_
  show off' a + 1 * (x a).val = off a + (d a + 1 * (x a).val)
  rw [h]
  omega

end Cert.Proof.Boxes

end
-- ==== Proof.MainIdeal.Memory.lean ====
/- The memory of one head, what one chunk makes of it and what it answers: the words of the main call's loop. -/
module

public import proofs.«01_k».proof.Proof.Gen.MainIdeal.Skeleton
public import Idealize.ShloMosaic.Lib.Pipeline.FrameBody

@[expose] public section

set_option maxRecDepth 16384

noncomputable section

namespace Cert.MainIdeal.Memory

open Idealize.ShloMosaic Idealize.ShloMosaic.TcCoe
open Cert.MainIdeal.Gen

variable {F : FTy → Type} [FloatOps F] [Named F]

/-- The weights of one head and their momenta: the two layers, the scale (row 0) and the shift (row 1), and the
    momenta of the scale (row 2) and the shift (row 3). -/
@[ext] structure Mem (F : FTy → Type) where
  w1 : Vec F S1x128x512 .f32
  m1 : Vec F S1x128x512 .f32
  w2 : Vec F S1x512x128 .f32
  m2 : Vec F S1x512x128 .f32
  g0 : Vec F S1x1x128 .f32
  g1 : Vec F S1x1x128 .f32
  g2 : Vec F S1x1x128 .f32
  g3 : Vec F S1x1x128 .f32

/-- A chunk's update, from its momentum `mom` and decay `dec`, its keys and what the gradients are sums of. -/
def update (mom dec : Elt F .f32) (kb : Vec F S1x1x1x64x128 .f32) (a du : Vec F S1x1x64x512 .bf16) (dy : Vec F S1x1x64x128 .bf16)
    (gg gb : Vec F S1x1x1x128 .f32) (s : Mem F) : Mem F where
  m1 := k0_pay13 (k0_pay10 kb du) mom s.m1
  m2 := k0_pay14 (k0_pay9 a dy) mom s.m2
  g2 := k0_pay15 (k0_pay11 gg) mom s.g2
  g3 := k0_pay16 (k0_pay12 gb) mom s.g3
  w1 := k0_pay18 dec s.w1 (k0_pay13 (k0_pay10 kb du) mom s.m1)
  w2 := k0_pay20 (k0_pay19 dec s.w2) (k0_pay14 (k0_pay9 a dy) mom s.m2)
  g0 := k0_pay21 (k0_pay17 dec) s.g0 (k0_pay15 (k0_pay11 gg) mom s.g2)
  g1 := k0_pay22 (k0_pay17 dec) s.g1 (k0_pay16 (k0_pay12 gb) mom s.g3)

/-- What the memory answers to the queries `q`, gated. -/
def answer (q : Vec F S1x1x1x64x128 .f32) (gate : Vec F S1x1x1x64x1 .f32) (s : Mem F) : Vec F S1x1x1x64x128 .f32 :=
  k0_pay8 (k0_pay6 q s.w1 s.w2) (k0_pay7 s.g0) s.g1 gate

/-- The memory of the call's first batch entry, as the scratch arrays hold it. -/
def memOf0 (a11 a12 : Vec F S2x128x512 .f32) (a13 a14 : Vec F S2x512x128 .f32) (a15 : Vec F S2x8x128 .f32) : Mem F where
  w1 := View.ld a11 (Rect.unit (s := S2x128x512) ![0, 0, 0] S1x128x512.size inb_S2x128x512_S1x128x512_0_0_0)
  m1 := View.ld a12 (Rect.unit (s := S2x128x512) ![0, 0, 0] S1x128x512.size inb_S2x128x512_S1x128x512_0_0_0)
  w2 := View.ld a13 (Rect.unit (s := S2x512x128) ![0, 0, 0] S1x512x128.size inb_S2x512x128_S1x512x128_0_0_0)
  m2 := View.ld a14 (Rect.unit (s := S2x512x128) ![0, 0, 0] S1x512x128.size inb_S2x512x128_S1x512x128_0_0_0)
  g0 := View.ld a15 (Rect.unit (s := S2x8x128) ![0, 0, 0] S1x1x128.size inb_S2x8x128_S1x1x128_0_0_0)
  g1 := View.ld a15 (Rect.unit (s := S2x8x128) ![0, 1, 0] S1x1x128.size inb_S2x8x128_S1x1x128_0_1_0)
  g2 := View.ld a15 (Rect.unit (s := S2x8x128) ![0, 2, 0] S1x1x128.size inb_S2x8x128_S1x1x128_0_2_0)
  g3 := View.ld a15 (Rect.unit (s := S2x8x128) ![0, 3, 0] S1x1x128.size inb_S2x8x128_S1x1x128_0_3_0)

/-- Pass `k` on that memory. -/
def step0 (i : grid0.Coords) (x1 : Vec F S2x1x32x64x128 .f32) (x6 : Vec F S2x256 .f32) (x16 x17 : Vec F S2x32x64x512 .bf16)
    (x18 : Vec F S2x32x64x128 .bf16) (x19 x20 : Vec F S2x32x1x128 .f32) (k : Fin k0_t1_loop.trips) (s : Mem F) : Mem F :=
  update (View.ld x6 (Rect.unit (s := S2x256) (k0_off6 i k 0#32) S1x1.size (k0_off6_inb i k 0)) (Shape.Idx.first (show 0 < S1x1.numel by decide)))
    (View.ld x6 (Rect.unit (s := S2x256) (k0_off7 i k 0#32) S1x1.size (k0_off7_inb i k 0)) (Shape.Idx.first (show 0 < S1x1.numel by decide)))
    (View.ld x1 (Rect.unit (s := S2x1x32x64x128) (k0_off1 k) S1x1x1x64x128.size (k0_off1_inb k)))
    (View.ld x16 (Rect.unit (s := S2x32x64x512) (k0_off3 k) S1x1x64x512.size (k0_off3_inb k)))
    (View.ld x17 (Rect.unit (s := S2x32x64x512) (k0_off3 k) S1x1x64x512.size (k0_off3_inb k)))
    (View.ld x18 (Rect.unit (s := S2x32x64x128) (k0_off4 k) S1x1x64x128.size (k0_off4_inb k)))
    (View.ld x19 (Rect.unit (s := S2x32x1x128) (k0_off5 k) S1x1x1x128.size (k0_off5_inb k)))
    (View.ld x20 (Rect.unit (s := S2x32x1x128) (k0_off5 k) S1x1x1x128.size (k0_off5_inb k))) s

/-- What that memory answers in pass `k`. -/
def read0 (x3 : Vec F S2x1x32x64x128 .f32) (x5 : Vec F S1x2x32x64x1 .f32) (k : Fin k0_t1_loop.trips) (s : Mem F) : Vec F S1x1x1x64x128 .f32 :=
  answer (View.ld x3 (Rect.unit (s := S2x1x32x64x128) (k0_off1 k) S1x1x1x64x128.size (k0_off1_inb k)))
    (View.ld x5 (Rect.unit (s := S1x2x32x64x1) (k0_off2 k) S1x1x1x64x1.size (k0_off2_inb k))) s

/-- The memory of the call's second batch entry, as the scratch arrays hold it. -/
def memOf1 (a11 a12 : Vec F S2x128x512 .f32) (a13 a14 : Vec F S2x512x128 .f32) (a15 : Vec F S2x8x128 .f32) : Mem F where
  w1 := View.ld a11 (Rect.unit (s := S2x128x512) ![1, 0, 0] S1x128x512.size inb_S2x128x512_S1x128x512_1_0_0)
  m1 := View.ld a12 (Rect.unit (s := S2x128x512) ![1, 0, 0] S1x128x512.size inb_S2x128x512_S1x128x512_1_0_0)
  w2 := View.ld a13 (Rect.unit (s := S2x512x128) ![1, 0, 0] S1x512x128.size inb_S2x512x128_S1x512x128_1_0_0)
  m2 := View.ld a14 (Rect.unit (s := S2x512x128) ![1, 0, 0] S1x512x128.size inb_S2x512x128_S1x512x128_1_0_0)
  g0 := View.ld a15 (Rect.unit (s := S2x8x128) ![1, 0, 0] S1x1x128.size inb_S2x8x128_S1x1x128_1_0_0)
  g1 := View.ld a15 (Rect.unit (s := S2x8x128) ![1, 1, 0] S1x1x128.size inb_S2x8x128_S1x1x128_1_1_0)
  g2 := View.ld a15 (Rect.unit (s := S2x8x128) ![1, 2, 0] S1x1x128.size inb_S2x8x128_S1x1x128_1_2_0)
  g3 := View.ld a15 (Rect.unit (s := S2x8x128) ![1, 3, 0] S1x1x128.size inb_S2x8x128_S1x1x128_1_3_0)

/-- Pass `k` on that memory. -/
def step1 (i : grid0.Coords) (x1 : Vec F S2x1x32x64x128 .f32) (x6 : Vec F S2x256 .f32) (x16 x17 : Vec F S2x32x64x512 .bf16)
    (x18 : Vec F S2x32x64x128 .bf16) (x19 x20 : Vec F S2x32x1x128 .f32) (k : Fin k0_t1_loop.trips) (s : Mem F) : Mem F :=
  update (View.ld x6 (Rect.unit (s := S2x256) (k0_off6 i k 1#32) S1x1.size (k0_off6_inb i k 1)) (Shape.Idx.first (show 0 < S1x1.numel by decide)))
    (View.ld x6 (Rect.unit (s := S2x256) (k0_off7 i k 1#32) S1x1.size (k0_off7_inb i k 1)) (Shape.Idx.first (show 0 < S1x1.numel by decide)))
    (View.ld x1 (Rect.unit (s := S2x1x32x64x128) (k0_off8 k) S1x1x1x64x128.size (k0_off8_inb k)))
    (View.ld x16 (Rect.unit (s := S2x32x64x512) (k0_off10 k) S1x1x64x512.size (k0_off10_inb k)))
    (View.ld x17 (Rect.unit (s := S2x32x64x512) (k0_off10 k) S1x1x64x512.size (k0_off10_inb k)))
    (View.ld x18 (Rect.unit (s := S2x32x64x128) (k0_off11 k) S1x1x64x128.size (k0_off11_inb k)))
    (View.ld x19 (Rect.unit (s := S2x32x1x128) (k0_off12 k) S1x1x1x128.size (k0_off12_inb k)))
    (View.ld x20 (Rect.unit (s := S2x32x1x128) (k0_off12 k) S1x1x1x128.size (k0_off12_inb k))) s

/-- What that memory answers in pass `k`. -/
def read1 (x3 : Vec F S2x1x32x64x128 .f32) (x5 : Vec F S1x2x32x64x1 .f32) (k : Fin k0_t1_loop.trips) (s : Mem F) : Vec F S1x1x1x64x128 .f32 :=
  answer (View.ld x3 (Rect.unit (s := S2x1x32x64x128) (k0_off8 k) S1x1x1x64x128.size (k0_off8_inb k)))
    (View.ld x5 (Rect.unit (s := S1x2x32x64x1) (k0_off9 k) S1x1x1x64x1.size (k0_off9_inb k))) s

end Cert.MainIdeal.Memory

end
-- ==== Proof.MainIdeal.Trip.lean ====
/- One pass of the main call's loop over the chunks, in terms of the memory of each head it finds and leaves. -/
module

public import proofs.«01_k».proof.Proof.MainIdeal.Memory
public import Idealize.ShloMosaic.Lib.Exec
public import Idealize.ShloMosaic.Lib.Tactic
public import Idealize.ShloMosaic.Lib.Pipeline.Kit
public import Idealize.ShloMosaic.Lib.WritesUnit
public import Idealize.ShloMosaic.Lib.Pipeline.ReadBack
public import Idealize.ShloMosaic.Lib.Pipeline.ValueKit.Acc
public import proofs.«01_k».proof.Proof.Boxes

@[expose] public section

set_option maxRecDepth 16384
set_option maxHeartbeats 4000000

noncomputable section

namespace Cert.MainIdeal.Memory

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MainIdeal.Gen Cert.Proof

variable {F : FTy → Type} [FloatOps F] [Named F]

/-- The resource algebra of the run. -/
local notation "𝕄G" => MT nD τ sig Unit (Elt F) ℕ (UR sig nD τ) ℕ

variable (𝒱 : Variants) (c : Dev nD) (bd : Option 𝒱.V) (i : grid0.Coords)
  (arg1 : Memref sig .tc .vmem S2x1x32x64x128 .f32) (harg1 : arg1.IsWhole)
  (arg2 : Memref sig .tc .vmem S2x1x32x64x128 .f32) (harg2 : arg2.IsWhole)
  (arg3 : Memref sig .tc .vmem S2x1x32x64x128 .f32) (harg3 : arg3.IsWhole)
  (arg4 : Memref sig .tc .vmem S1x2x32x64x1 .f32) (harg4 : arg4.IsWhole)
  (arg5 : Memref sig .tc .vmem S1x2x32x64x1 .f32) (harg5 : arg5.IsWhole)
  (arg6 : Memref sig .tc .smem S2x256 .f32) (harg6 : arg6.IsWhole)
  (arg7 : Memref sig .tc .vmem S1x128x512 .f32) (harg7 : arg7.IsWhole)
  (arg8 : Memref sig .tc .vmem S1x512x128 .f32) (harg8 : arg8.IsWhole)
  (arg9 : Memref sig .tc .vmem S1x2x128 .f32) (harg9 : arg9.IsWhole)
  (arg10 : Memref sig .tc .vmem S2x1x32x64x128 .f32) (harg10 : arg10.IsWhole)
  (arg11 : Memref sig .tc .vmem S2x128x512 .f32) (harg11 : arg11.IsWhole)
  (arg12 : Memref sig .tc .vmem S2x128x512 .f32) (harg12 : arg12.IsWhole)
  (arg13 : Memref sig .tc .vmem S2x512x128 .f32) (harg13 : arg13.IsWhole)
  (arg14 : Memref sig .tc .vmem S2x512x128 .f32) (harg14 : arg14.IsWhole)
  (arg15 : Memref sig .tc .vmem S2x8x128 .f32) (harg15 : arg15.IsWhole)
  (arg16 : Memref sig .tc .vmem S2x32x64x512 .bf16) (harg16 : arg16.IsWhole)
  (arg17 : Memref sig .tc .vmem S2x32x64x512 .bf16) (harg17 : arg17.IsWhole)
  (arg18 : Memref sig .tc .vmem S2x32x64x128 .bf16) (harg18 : arg18.IsWhole)
  (arg19 : Memref sig .tc .vmem S2x32x1x128 .f32) (harg19 : arg19.IsWhole)
  (arg20 : Memref sig .tc .vmem S2x32x1x128 .f32) (harg20 : arg20.IsWhole)
  (arg0 : BitVec 32)
  (X1 : BufTy.Contents (Elt F) arg1.view.ty)
  (X3 : BufTy.Contents (Elt F) arg3.view.ty)
  (X5 : BufTy.Contents (Elt F) arg5.view.ty)
  (X6 : BufTy.Contents (Elt F) arg6.view.ty)
  (X16 : BufTy.Contents (Elt F) arg16.view.ty)
  (X17 : BufTy.Contents (Elt F) arg17.view.ty)
  (X18 : BufTy.Contents (Elt F) arg18.view.ty)
  (X19 : BufTy.Contents (Elt F) arg19.view.ty)
  (X20 : BufTy.Contents (Elt F) arg20.view.ty)

/-- The buffers a pass touches: those it reads at their contents, those it writes at given ones. -/
abbrev Held
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty) : sProp 𝕄G :=
  iprop((arg1.view.loc (c : Thread nD τ) ↦[arg1.view.set]{fullShare} X1) ∗
    (arg3.view.loc (c : Thread nD τ) ↦[arg3.view.set]{fullShare} X3) ∗
    (arg5.view.loc (c : Thread nD τ) ↦[arg5.view.set]{fullShare} X5) ∗
    (arg6.view.loc (c : Thread nD τ) ↦[arg6.view.set]{fullShare} X6) ∗
    (arg16.view.loc (c : Thread nD τ) ↦[arg16.view.set]{fullShare} X16) ∗
    (arg17.view.loc (c : Thread nD τ) ↦[arg17.view.set]{fullShare} X17) ∗
    (arg18.view.loc (c : Thread nD τ) ↦[arg18.view.set]{fullShare} X18) ∗
    (arg19.view.loc (c : Thread nD τ) ↦[arg19.view.set]{fullShare} X19) ∗
    (arg20.view.loc (c : Thread nD τ) ↦[arg20.view.set]{fullShare} X20) ∗
    (arg10.view.loc (c : Thread nD τ) ↦[arg10.view.set]{fullShare} f10) ∗
    (arg11.view.loc (c : Thread nD τ) ↦[arg11.view.set]{fullShare} f11) ∗
    (arg12.view.loc (c : Thread nD τ) ↦[arg12.view.set]{fullShare} f12) ∗
    (arg13.view.loc (c : Thread nD τ) ↦[arg13.view.set]{fullShare} f13) ∗
    (arg14.view.loc (c : Thread nD τ) ↦[arg14.view.set]{fullShare} f14) ∗
    (arg15.view.loc (c : Thread nD τ) ↦[arg15.view.set]{fullShare} f15))

/-- What a pass that finds the contents `f` leaves, in terms of the memory of each head. -/
structure Passed (k : Fin k0_t1_loop.trips)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f10' : BufTy.Contents (Elt F) arg10.view.ty)
  (f11' : BufTy.Contents (Elt F) arg11.view.ty)
  (f12' : BufTy.Contents (Elt F) arg12.view.ty)
  (f13' : BufTy.Contents (Elt F) arg13.view.ty)
  (f14' : BufTy.Contents (Elt F) arg14.view.ty)
  (f15' : BufTy.Contents (Elt F) arg15.view.ty) : Prop where
  mem0 : memOf0 (arg11.view.read (Elt F) f11') (arg12.view.read (Elt F) f12') (arg13.view.read (Elt F) f13') (arg14.view.read (Elt F) f14') (arg15.view.read (Elt F) f15')
    = step0 i (arg1.view.read (Elt F) X1) (arg6.view.read (Elt F) X6) (arg16.view.read (Elt F) X16) (arg17.view.read (Elt F) X17) (arg18.view.read (Elt F) X18) (arg19.view.read (Elt F) X19) (arg20.view.read (Elt F) X20) k
      (memOf0 (arg11.view.read (Elt F) f11) (arg12.view.read (Elt F) f12) (arg13.view.read (Elt F) f13) (arg14.view.read (Elt F) f14) (arg15.view.read (Elt F) f15))
  mem1 : memOf1 (arg11.view.read (Elt F) f11') (arg12.view.read (Elt F) f12') (arg13.view.read (Elt F) f13') (arg14.view.read (Elt F) f14') (arg15.view.read (Elt F) f15')
    = step1 i (arg1.view.read (Elt F) X1) (arg6.view.read (Elt F) X6) (arg16.view.read (Elt F) X16) (arg17.view.read (Elt F) X17) (arg18.view.read (Elt F) X18) (arg19.view.read (Elt F) X19) (arg20.view.read (Elt F) X20) k
      (memOf1 (arg11.view.read (Elt F) f11) (arg12.view.read (Elt F) f12) (arg13.view.read (Elt F) f13) (arg14.view.read (Elt F) f14) (arg15.view.read (Elt F) f15))
  out0 : View.ld (arg10.view.read (Elt F) f10') (Rect.unit (s := S2x1x32x64x128) (k0_off1 k) S1x1x1x64x128.size (k0_off1_inb k))
    = read0 (arg3.view.read (Elt F) X3) (arg5.view.read (Elt F) X5) k
      (memOf0 (arg11.view.read (Elt F) f11) (arg12.view.read (Elt F) f12) (arg13.view.read (Elt F) f13) (arg14.view.read (Elt F) f14) (arg15.view.read (Elt F) f15))
  out1 : View.ld (arg10.view.read (Elt F) f10') (Rect.unit (s := S2x1x32x64x128) (k0_off8 k) S1x1x1x64x128.size (k0_off8_inb k))
    = read1 (arg3.view.read (Elt F) X3) (arg5.view.read (Elt F) X5) k
      (memOf1 (arg11.view.read (Elt F) f11) (arg12.view.read (Elt F) f12) (arg13.view.read (Elt F) f13) (arg14.view.read (Elt F) f14) (arg15.view.read (Elt F) f15))
  kept : ∀ y : S2x1x32x64x128.Idx, (y 2).val ≠ k.val → arg10.view.read (Elt F) f10' y = arg10.view.read (Elt F) f10 y

omit [FloatOps F] [Named F] in
/-- The second entry's box of the result is apart from the first's. -/
theorem outs_apart (k k' : Fin k0_t1_loop.trips) :
    LoadRect.disj (Rect.unit (s := S2x1x32x64x128) (k0_off8 k) S1x1x1x64x128.size (k0_off8_inb k))
      (Rect.unit (s := S2x1x32x64x128) (k0_off1 k') S1x1x1x64x128.size (k0_off1_inb k')).toLoadRect = true := by
  refine decide_eq_true ⟨0, Or.inr (Or.inr (Or.inr ?_))⟩
  show k0_off1 k' 0 + 1 * (1 - 1) < k0_off8 k 0
  rw [k0_off1_eq, k0_off8_eq]
  exact Nat.zero_lt_one

/-- One pass. -/
theorem pass (k : Fin k0_t1_loop.trips) (E : Set ℕ)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty) :
    Held (F := F) c arg1 arg3 arg5 arg6 arg10 arg11 arg12 arg13 arg14 arg15 arg16 arg17 arg18 arg19 arg20 X1 X3 X5 X6 X16 X17 X18 X19 X20 f10 f11 f12 f13 f14 f15
    ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k PUnit.unit)
      (fun _ => iprop(∃ f10' f11' f12' f13' f14' f15', Held (F := F) c arg1 arg3 arg5 arg6 arg10 arg11 arg12 arg13 arg14 arg15 arg16 arg17 arg18 arg19 arg20 X1 X3 X5 X6 X16 X17 X18 X19 X20 f10' f11' f12' f13' f14' f15' ∗
        ⌜Passed (F := F) i arg1 arg3 arg5 arg6 arg10 arg11 arg12 arg13 arg14 arg15 arg16 arg17 arg18 arg19 arg20 X1 X3 X5 X6 X16 X17 X18 X19 X20 k f10 f11 f12 f13 f14 f15 f10' f11' f12' f13' f14' f15'⌝)) := by
  have hk : k.val < 32 := Nat.lt_of_lt_of_le k.isLt k0_t1_abs.2.1
  unfold k0_t1_body
  iintro ⟨HR1, HR3, HR5, HR6, HR16, HR17, HR18, HR19, HR20, HW10, HW11, HW12, HW13, HW14, HW15⟩
  sl_exec
  sl_step
  iexists _, _, _, _, _, _
  isplitl [HR1 HR3 HR5 HR6 HR16 HR17 HR18 HR19 HR20 HW10 HW11 HW12 HW13 HW14 HW15]
  · isplitl [HR1]; · iexact HR1
    isplitl [HR3]; · iexact HR3
    isplitl [HR5]; · iexact HR5
    isplitl [HR6]; · iexact HR6
    isplitl [HR16]; · iexact HR16
    isplitl [HR17]; · iexact HR17
    isplitl [HR18]; · iexact HR18
    isplitl [HR19]; · iexact HR19
    isplitl [HR20]; · iexact HR20
    isplitl [HW10]; · iexact HW10
    isplitl [HW11]; · iexact HW11
    isplitl [HW12]; · iexact HW12
    isplitl [HW13]; · iexact HW13
    isplitl [HW14]; · iexact HW14
    iexact HW15
  ipureintro
  frame_out
  refine ⟨Mem.ext ?_ ?_ ?_ ?_ ?_ ?_ ?_ ?_, Mem.ext ?_ ?_ ?_ ?_ ?_ ?_ ?_ ?_, ?_, ?_, ?_⟩
  case refine_17 =>
    refine (Boxes.ld_skip _ _ _ _ _ _ (outs_apart k k)).trans ((Boxes.ld_hit _ _ _ _ _).trans ?_)
    rfl
  case refine_18 =>
    refine (Boxes.ld_hit _ _ _ _ _).trans ?_
    rfl
  case refine_19 =>
    intro y hy
    refine (View.read_writes_cons_unit_of_not_mem _ _ _ _ _ y (k0_off8_eq k) 2 ?_).trans
      ((View.read_writes_cons_unit_of_not_mem _ _ _ _ _ y (k0_off1_eq k) 2 ?_).trans rfl)
    · show (y 2).val < k.val ∨ k.val + 1 ≤ (y 2).val
      omega
    · show (y 2).val < k.val ∨ k.val + 1 ≤ (y 2).val
      omega
  all_goals
    dsimp only [memOf0, memOf1]
    simp (disch := decide) only [Boxes.ld_hit, Boxes.ld_skip, View.readCov_skip, View.readCov_cons_toLoadRect]
    rfl

end Cert.MainIdeal.Memory

end
-- ==== Proof.MainIdeal.Loop.lean ====
/- The main call's loop over the chunks: the memory before each pass is the start's, the passes before it applied,
   and the result's blocks of those passes are what the memory answered then. -/
module

public import proofs.«01_k».proof.Proof.MainIdeal.Trip

@[expose] public section

set_option maxRecDepth 16384
set_option maxHeartbeats 4000000

noncomputable section

namespace Cert.MainIdeal.Memory

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MainIdeal.Gen Cert.Proof

variable {F : FTy → Type} [FloatOps F] [Named F]

/-- The resource algebra of the run. -/
local notation "𝕄G" => MT nD τ sig Unit (Elt F) ℕ (UR sig nD τ) ℕ

/-- The loop makes a pass for each of the 32 chunks. -/
theorem trips_eq : k0_t1_loop.trips = 32 := by decide +kernel

/-- The memory after the first `n` passes. -/
def seq (f : Fin k0_t1_loop.trips → Mem F → Mem F) (s : Mem F) : ℕ → Mem F
  | 0 => s
  | n + 1 => if h : n < k0_t1_loop.trips then f ⟨n, h⟩ (seq f s n) else seq f s n

omit [FloatOps F] [Named F] in
theorem seq_succ (f : Fin k0_t1_loop.trips → Mem F → Mem F) (s : Mem F) (k : Fin k0_t1_loop.trips) :
    seq f s (k.val + 1) = f k (seq f s k.val) := dif_pos k.isLt

variable (𝒱 : Variants) (c : Dev nD) (bd : Option 𝒱.V) (i : grid0.Coords)
  (arg1 : Memref sig .tc .vmem S2x1x32x64x128 .f32) (harg1 : arg1.IsWhole)
  (arg2 : Memref sig .tc .vmem S2x1x32x64x128 .f32) (harg2 : arg2.IsWhole)
  (arg3 : Memref sig .tc .vmem S2x1x32x64x128 .f32) (harg3 : arg3.IsWhole)
  (arg4 : Memref sig .tc .vmem S1x2x32x64x1 .f32) (harg4 : arg4.IsWhole)
  (arg5 : Memref sig .tc .vmem S1x2x32x64x1 .f32) (harg5 : arg5.IsWhole)
  (arg6 : Memref sig .tc .smem S2x256 .f32) (harg6 : arg6.IsWhole)
  (arg7 : Memref sig .tc .vmem S1x128x512 .f32) (harg7 : arg7.IsWhole)
  (arg8 : Memref sig .tc .vmem S1x512x128 .f32) (harg8 : arg8.IsWhole)
  (arg9 : Memref sig .tc .vmem S1x2x128 .f32) (harg9 : arg9.IsWhole)
  (arg10 : Memref sig .tc .vmem S2x1x32x64x128 .f32) (harg10 : arg10.IsWhole)
  (arg11 : Memref sig .tc .vmem S2x128x512 .f32) (harg11 : arg11.IsWhole)
  (arg12 : Memref sig .tc .vmem S2x128x512 .f32) (harg12 : arg12.IsWhole)
  (arg13 : Memref sig .tc .vmem S2x512x128 .f32) (harg13 : arg13.IsWhole)
  (arg14 : Memref sig .tc .vmem S2x512x128 .f32) (harg14 : arg14.IsWhole)
  (arg15 : Memref sig .tc .vmem S2x8x128 .f32) (harg15 : arg15.IsWhole)
  (arg16 : Memref sig .tc .vmem S2x32x64x512 .bf16) (harg16 : arg16.IsWhole)
  (arg17 : Memref sig .tc .vmem S2x32x64x512 .bf16) (harg17 : arg17.IsWhole)
  (arg18 : Memref sig .tc .vmem S2x32x64x128 .bf16) (harg18 : arg18.IsWhole)
  (arg19 : Memref sig .tc .vmem S2x32x1x128 .f32) (harg19 : arg19.IsWhole)
  (arg20 : Memref sig .tc .vmem S2x32x1x128 .f32) (harg20 : arg20.IsWhole)
  (arg0 : BitVec 32)
  (X1 : BufTy.Contents (Elt F) arg1.view.ty)
  (X3 : BufTy.Contents (Elt F) arg3.view.ty)
  (X5 : BufTy.Contents (Elt F) arg5.view.ty)
  (X6 : BufTy.Contents (Elt F) arg6.view.ty)
  (X16 : BufTy.Contents (Elt F) arg16.view.ty)
  (X17 : BufTy.Contents (Elt F) arg17.view.ty)
  (X18 : BufTy.Contents (Elt F) arg18.view.ty)
  (X19 : BufTy.Contents (Elt F) arg19.view.ty)
  (X20 : BufTy.Contents (Elt F) arg20.view.ty)

/-- What the first `n` passes leave, from the memories `s0` and `s1`. -/
structure After (s0 s1 : Mem F) (n : ℕ)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty) : Prop where
  mem0 : memOf0 (arg11.view.read (Elt F) f11) (arg12.view.read (Elt F) f12) (arg13.view.read (Elt F) f13) (arg14.view.read (Elt F) f14) (arg15.view.read (Elt F) f15) = seq (step0 i (arg1.view.read (Elt F) X1) (arg6.view.read (Elt F) X6) (arg16.view.read (Elt F) X16) (arg17.view.read (Elt F) X17) (arg18.view.read (Elt F) X18) (arg19.view.read (Elt F) X19) (arg20.view.read (Elt F) X20)) s0 n
  mem1 : memOf1 (arg11.view.read (Elt F) f11) (arg12.view.read (Elt F) f12) (arg13.view.read (Elt F) f13) (arg14.view.read (Elt F) f14) (arg15.view.read (Elt F) f15) = seq (step1 i (arg1.view.read (Elt F) X1) (arg6.view.read (Elt F) X6) (arg16.view.read (Elt F) X16) (arg17.view.read (Elt F) X17) (arg18.view.read (Elt F) X18) (arg19.view.read (Elt F) X19) (arg20.view.read (Elt F) X20)) s1 n
  out0 : ∀ t : Fin k0_t1_loop.trips, t.val < n →
    View.ld (arg10.view.read (Elt F) f10) (Rect.unit (s := S2x1x32x64x128) (k0_off1 t) S1x1x1x64x128.size (k0_off1_inb t))
      = read0 (arg3.view.read (Elt F) X3) (arg5.view.read (Elt F) X5) t (seq (step0 i (arg1.view.read (Elt F) X1) (arg6.view.read (Elt F) X6) (arg16.view.read (Elt F) X16) (arg17.view.read (Elt F) X17) (arg18.view.read (Elt F) X18) (arg19.view.read (Elt F) X19) (arg20.view.read (Elt F) X20)) s0 t.val)
  out1 : ∀ t : Fin k0_t1_loop.trips, t.val < n →
    View.ld (arg10.view.read (Elt F) f10) (Rect.unit (s := S2x1x32x64x128) (k0_off8 t) S1x1x1x64x128.size (k0_off8_inb t))
      = read1 (arg3.view.read (Elt F) X3) (arg5.view.read (Elt F) X5) t (seq (step1 i (arg1.view.read (Elt F) X1) (arg6.view.read (Elt F) X6) (arg16.view.read (Elt F) X16) (arg17.view.read (Elt F) X17) (arg18.view.read (Elt F) X18) (arg19.view.read (Elt F) X19) (arg20.view.read (Elt F) X20)) s1 t.val)

/-- The loop's invariant. -/
def Inv (s0 s1 : Mem F) (n : ℕ) : sProp 𝕄G :=
  iprop(∃ f10 f11 f12 f13 f14 f15, Held (F := F) c arg1 arg3 arg5 arg6 arg10 arg11 arg12 arg13 arg14 arg15 arg16 arg17 arg18 arg19 arg20 X1 X3 X5 X6 X16 X17 X18 X19 X20 f10 f11 f12 f13 f14 f15 ∗
    ⌜After (F := F) i arg1 arg3 arg5 arg6 arg10 arg11 arg12 arg13 arg14 arg15 arg16 arg17 arg18 arg19 arg20 X1 X3 X5 X6 X16 X17 X18 X19 X20 s0 s1 n f10 f11 f12 f13 f14 f15⌝)

/-- A pass takes what the passes before it left to what the passes up to it leave. -/
theorem After.succ (s0 s1 : Mem F) (k : Fin k0_t1_loop.trips)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f10' : BufTy.Contents (Elt F) arg10.view.ty)
  (f11' : BufTy.Contents (Elt F) arg11.view.ty)
  (f12' : BufTy.Contents (Elt F) arg12.view.ty)
  (f13' : BufTy.Contents (Elt F) arg13.view.ty)
  (f14' : BufTy.Contents (Elt F) arg14.view.ty)
  (f15' : BufTy.Contents (Elt F) arg15.view.ty)
    (A : After (F := F) i arg1 arg3 arg5 arg6 arg10 arg11 arg12 arg13 arg14 arg15 arg16 arg17 arg18 arg19 arg20 X1 X3 X5 X6 X16 X17 X18 X19 X20 s0 s1 k.val f10 f11 f12 f13 f14 f15)
    (P : Passed (F := F) i arg1 arg3 arg5 arg6 arg10 arg11 arg12 arg13 arg14 arg15 arg16 arg17 arg18 arg19 arg20 X1 X3 X5 X6 X16 X17 X18 X19 X20 k f10 f11 f12 f13 f14 f15 f10' f11' f12' f13' f14' f15') :
    After (F := F) i arg1 arg3 arg5 arg6 arg10 arg11 arg12 arg13 arg14 arg15 arg16 arg17 arg18 arg19 arg20 X1 X3 X5 X6 X16 X17 X18 X19 X20 s0 s1 (k.val + 1) f10' f11' f12' f13' f14' f15' where
  mem0 := by rw [P.mem0, A.mem0, seq_succ]
  mem1 := by rw [P.mem1, A.mem1, seq_succ]
  out0 t ht := by
    by_cases h : t = k
    · rw [h, P.out0, A.mem0]
    · have hv : t.val ≠ k.val := fun e => h (Fin.ext e)
      rw [← A.out0 t (by omega)]
      funext x
      refine P.kept _ ?_
      show k0_off1 t 2 + 1 * (x 2).val ≠ k.val
      have h2 : k0_off1 t 2 = t.val := congrFun (k0_off1_eq t) 2
      have h1 : (x 2).val < 1 := (x 2).isLt
      omega
  out1 t ht := by
    by_cases h : t = k
    · rw [h, P.out1, A.mem1]
    · have hv : t.val ≠ k.val := fun e => h (Fin.ext e)
      rw [← A.out1 t (by omega)]
      funext x
      refine P.kept _ ?_
      show k0_off8 t 2 + 1 * (x 2).val ≠ k.val
      have h2 : k0_off8 t 2 = t.val := congrFun (k0_off8_eq t) 2
      have h1 : (x 2).val < 1 := (x 2).isLt
      omega

/-- The whole loop. -/
theorem loop (E : Set ℕ)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty) :
    Held (F := F) c arg1 arg3 arg5 arg6 arg10 arg11 arg12 arg13 arg14 arg15 arg16 arg17 arg18 arg19 arg20 X1 X3 X5 X6 X16 X17 X18 X19 X20 f10 f11 f12 f13 f14 f15
    ⊢ wp frame (wpE (defs₀ (F := F)) 𝒱 (c : Thread nD τ) bd) E
      (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0))
      (fun _ => Inv (F := F) c i arg1 arg3 arg5 arg6 arg10 arg11 arg12 arg13 arg14 arg15 arg16 arg17 arg18 arg19 arg20 X1 X3 X5 X6 X16 X17 X18 X19 X20
        (memOf0 (arg11.view.read (Elt F) f11) (arg12.view.read (Elt F) f12) (arg13.view.read (Elt F) f13) (arg14.view.read (Elt F) f14) (arg15.view.read (Elt F) f15)) (memOf1 (arg11.view.read (Elt F) f11) (arg12.view.read (Elt F) f12) (arg13.view.read (Elt F) f13) (arg14.view.read (Elt F) f14) (arg15.view.read (Elt F) f15)) k0_t1_loop.trips) := by
  have step : ∀ (k : Fin k0_t1_loop.trips) (acc : PUnit),
      Inv (F := F) c i arg1 arg3 arg5 arg6 arg10 arg11 arg12 arg13 arg14 arg15 arg16 arg17 arg18 arg19 arg20 X1 X3 X5 X6 X16 X17 X18 X19 X20 (memOf0 (arg11.view.read (Elt F) f11) (arg12.view.read (Elt F) f12) (arg13.view.read (Elt F) f13) (arg14.view.read (Elt F) f14) (arg15.view.read (Elt F) f15)) (memOf1 (arg11.view.read (Elt F) f11) (arg12.view.read (Elt F) f12) (arg13.view.read (Elt F) f13) (arg14.view.read (Elt F) f14) (arg15.view.read (Elt F) f15)) k.val
      ⊢ wp frame (wpE (defs₀ (F := F)) 𝒱 (c : Thread nD τ) bd) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k acc)
        (fun _ => Inv (F := F) c i arg1 arg3 arg5 arg6 arg10 arg11 arg12 arg13 arg14 arg15 arg16 arg17 arg18 arg19 arg20 X1 X3 X5 X6 X16 X17 X18 X19 X20 (memOf0 (arg11.view.read (Elt F) f11) (arg12.view.read (Elt F) f12) (arg13.view.read (Elt F) f13) (arg14.view.read (Elt F) f14) (arg15.view.read (Elt F) f15)) (memOf1 (arg11.view.read (Elt F) f11) (arg12.view.read (Elt F) f12) (arg13.view.read (Elt F) f13) (arg14.view.read (Elt F) f14) (arg15.view.read (Elt F) f15)) (k.val + 1)) := by
    intro k acc
    unfold Inv
    iintro ⟨%g10, %g11, %g12, %g13, %g14, %g15, H, %A⟩
    iapply (wp_wand_r frame (wpE (defs₀ (F := F)) 𝒱 (c : Thread nD τ) bd) E)
    isplitl [H]
    · iapply (pass 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X1 X3 X5 X6 X16 X17 X18 X19 X20 k E g10 g11 g12 g13 g14 g15)
      iexact H
    · iintro %_ ⟨%h10, %h11, %h12, %h13, %h14, %h15, H, %P⟩
      iexists h10, h11, h12, h13, h14, h15
      isplitl [H]; · iexact H
      ipureintro
      exact After.succ i arg1 arg3 arg5 arg6 arg10 arg11 arg12 arg13 arg14 arg15 arg16 arg17 arg18 arg19 arg20 X1 X3 X5 X6 X16 X17 X18 X19 X20 _ _ k g10 g11 g12 g13 g14 g15 h10 h11 h12 h13 h14 h15 A P
  iintro H
  iapply (Scf.wp_for frame (wpE (defs₀ (F := F)) 𝒱 (c : Thread nD τ) bd) E k0_t1_loop.lb k0_t1_loop.ub k0_t1_loop.st k0_t1_ok ⟨⟩
    (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0)
    (fun n _ => Inv (F := F) c i arg1 arg3 arg5 arg6 arg10 arg11 arg12 arg13 arg14 arg15 arg16 arg17 arg18 arg19 arg20 X1 X3 X5 X6 X16 X17 X18 X19 X20 (memOf0 (arg11.view.read (Elt F) f11) (arg12.view.read (Elt F) f12) (arg13.view.read (Elt F) f13) (arg14.view.read (Elt F) f14) (arg15.view.read (Elt F) f15)) (memOf1 (arg11.view.read (Elt F) f11) (arg12.view.read (Elt F) f12) (arg13.view.read (Elt F) f13) (arg14.view.read (Elt F) f14) (arg15.view.read (Elt F) f15)) n) step)
  isplitl [H]
  · unfold Inv
    iexists f10, f11, f12, f13, f14, f15
    isplitl [H]; · iexact H
    ipureintro
    exact ⟨rfl, rfl, fun t h => absurd h (Nat.not_lt_zero _), fun t h => absurd h (Nat.not_lt_zero _)⟩
  · iintro %_ H
    iexact H

end Cert.MainIdeal.Memory

end
-- ==== Proof.MainIdeal.Body.lean ====
/- The main call's body at one grid point: what it stores into its result, in terms of its input blocks. -/
module

public import proofs.«01_k».proof.Proof.MainIdeal.Loop
public import Idealize.ShloMosaic.Lib.VecWindow
public import Idealize.ShloMosaic.Lib.Pointwise.Index

@[expose] public section

set_option maxRecDepth 16384
set_option maxHeartbeats 4000000

noncomputable section

namespace Cert.MainIdeal.Memory

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MainIdeal.Gen Cert.Proof

variable {F : FTy → Type} [FloatOps F] [Named F]

/-- The resource algebra of the run. -/
local notation "𝕄G" => MT nD τ sig Unit (Elt F) ℕ (UR sig nD τ) ℕ

/-- The memory each batch entry starts from: the given weights, no momentum. -/
def start (x6 : Vec F S1x128x512 .f32) (x7 : Vec F S1x512x128 .f32) (x8 : Vec F S1x2x128 .f32) : Mem F where
  w1 := View.ld (k0_pay38 x6) (Rect.unit (s := S2x128x512) ![0, 0, 0] S1x128x512.size inb_S2x128x512_S1x128x512_0_0_0)
  m1 := View.ld (k0_pay39 (F := F)) (Rect.unit (s := S2x128x512) ![0, 0, 0] S1x128x512.size inb_S2x128x512_S1x128x512_0_0_0)
  w2 := View.ld (k0_pay40 x7) (Rect.unit (s := S2x512x128) ![0, 0, 0] S1x512x128.size inb_S2x512x128_S1x512x128_0_0_0)
  m2 := View.ld (k0_pay41 (F := F)) (Rect.unit (s := S2x512x128) ![0, 0, 0] S1x512x128.size inb_S2x512x128_S1x512x128_0_0_0)
  g0 := View.ld (k0_pay42 x8) (Rect.unit (s := S1x2x128) ![0, 0, 0] S1x1x128.size inb_S1x2x128_S1x1x128_0_0_0)
  g1 := View.ld (k0_pay42 x8) (Rect.unit (s := S1x2x128) ![0, 1, 0] S1x1x128.size inb_S1x2x128_S1x1x128_0_1_0)
  g2 := View.ld (k0_pay43 (F := F)) (Rect.unit (s := S1x2x128) ![0, 0, 0] S1x1x128.size inb_S1x2x128_S1x1x128_0_0_0)
  g3 := View.ld (k0_pay43 (F := F)) (Rect.unit (s := S1x2x128) ![0, 1, 0] S1x1x128.size inb_S1x2x128_S1x1x128_0_1_0)

/-- The same for the second batch entry. -/
def start' (x6 : Vec F S1x128x512 .f32) (x7 : Vec F S1x512x128 .f32) (x8 : Vec F S1x2x128 .f32) : Mem F where
  w1 := View.ld (k0_pay38 x6) (Rect.unit (s := S2x128x512) ![1, 0, 0] S1x128x512.size inb_S2x128x512_S1x128x512_1_0_0)
  m1 := View.ld (k0_pay39 (F := F)) (Rect.unit (s := S2x128x512) ![1, 0, 0] S1x128x512.size inb_S2x128x512_S1x128x512_1_0_0)
  w2 := View.ld (k0_pay40 x7) (Rect.unit (s := S2x512x128) ![1, 0, 0] S1x512x128.size inb_S2x512x128_S1x512x128_1_0_0)
  m2 := View.ld (k0_pay41 (F := F)) (Rect.unit (s := S2x512x128) ![1, 0, 0] S1x512x128.size inb_S2x512x128_S1x512x128_1_0_0)
  g0 := View.ld (k0_pay44 x8) (Rect.unit (s := S1x2x128) ![0, 0, 0] S1x1x128.size inb_S1x2x128_S1x1x128_0_0_0)
  g1 := View.ld (k0_pay44 x8) (Rect.unit (s := S1x2x128) ![0, 1, 0] S1x1x128.size inb_S1x2x128_S1x1x128_0_1_0)
  g2 := View.ld (k0_pay45 (F := F)) (Rect.unit (s := S1x2x128) ![0, 0, 0] S1x1x128.size inb_S1x2x128_S1x1x128_0_0_0)
  g3 := View.ld (k0_pay45 (F := F)) (Rect.unit (s := S1x2x128) ![0, 1, 0] S1x1x128.size inb_S1x2x128_S1x1x128_0_1_0)

/-- The activations of every token: the gradient of the second layer is a chunk's sum over its rows. -/
def partA (x0 x1 : Vec F S2x1x32x64x128 .f32) (x3 : Vec F S1x2x32x64x1 .f32) (x6 : Vec F S1x128x512 .f32) (x7 : Vec F S1x512x128 .f32) (x8 : Vec F S1x2x128 .f32) : Vec F S2x32x64x512 .bf16 :=
  k0_pay61 (k0_pay53 (k0_pay46 x6) (k0_pay50 x0))

/-- The gradients at the first layer's results. -/
def partU (x0 x1 : Vec F S2x1x32x64x128 .f32) (x3 : Vec F S1x2x32x64x1 .f32) (x6 : Vec F S1x128x512 .f32) (x7 : Vec F S1x512x128 .f32) (x8 : Vec F S1x2x128 .f32) : Vec F S2x32x64x512 .bf16 :=
  k0_pay62 (k0_pay47 x7) (k0_pay51 (k0_pay46 x6) (k0_pay50 x0)) (k0_pay52 (k0_pay46 x6) (k0_pay50 x0)) (k0_pay55 (k0_pay46 x6) (k0_pay47 x7) (k0_pay50 x0))
    (k0_pay56 (k0_pay46 x6) (k0_pay47 x7) (k0_pay50 x0)) (k0_pay59 (k0_pay46 x6) (k0_pay47 x7) (k0_pay48 (View.ld x8 (Rect.unit (s := S1x2x128) ![0, 0, 0] S1x1x128.size inb_S1x2x128_S1x1x128_0_0_0))) (k0_pay49 (View.ld x8 (Rect.unit (s := S1x2x128) ![0, 1, 0] S1x1x128.size inb_S1x2x128_S1x1x128_0_1_0))) (k0_pay50 x0) x1 x3)

/-- The gradients at the second layer's results. -/
def partY (x0 x1 : Vec F S2x1x32x64x128 .f32) (x3 : Vec F S1x2x32x64x1 .f32) (x6 : Vec F S1x128x512 .f32) (x7 : Vec F S1x512x128 .f32) (x8 : Vec F S1x2x128 .f32) : Vec F S2x32x64x128 .bf16 :=
  k0_pay1 (k0_pay63 (k0_pay55 (k0_pay46 x6) (k0_pay47 x7) (k0_pay50 x0)) (k0_pay56 (k0_pay46 x6) (k0_pay47 x7) (k0_pay50 x0)) (k0_pay59 (k0_pay46 x6) (k0_pay47 x7) (k0_pay48 (View.ld x8 (Rect.unit (s := S1x2x128) ![0, 0, 0] S1x1x128.size inb_S1x2x128_S1x1x128_0_0_0))) (k0_pay49 (View.ld x8 (Rect.unit (s := S1x2x128) ![0, 1, 0] S1x1x128.size inb_S1x2x128_S1x1x128_0_1_0))) (k0_pay50 x0) x1 x3))

/-- Each chunk's gradient of the scale. -/
def partG (x0 x1 : Vec F S2x1x32x64x128 .f32) (x3 : Vec F S1x2x32x64x1 .f32) (x6 : Vec F S1x128x512 .f32) (x7 : Vec F S1x512x128 .f32) (x8 : Vec F S1x2x128 .f32) : Vec F S2x32x1x128 .f32 :=
  k0_pay2 (k0_pay58 (k0_pay46 x6) (k0_pay47 x7) (k0_pay48 (View.ld x8 (Rect.unit (s := S1x2x128) ![0, 0, 0] S1x1x128.size inb_S1x2x128_S1x1x128_0_0_0))) (k0_pay49 (View.ld x8 (Rect.unit (s := S1x2x128) ![0, 1, 0] S1x1x128.size inb_S1x2x128_S1x1x128_0_1_0))) (k0_pay50 x0) x1 x3)

/-- Each chunk's gradient of the shift. -/
def partB (x0 x1 : Vec F S2x1x32x64x128 .f32) (x3 : Vec F S1x2x32x64x1 .f32) (x6 : Vec F S1x128x512 .f32) (x7 : Vec F S1x512x128 .f32) (x8 : Vec F S1x2x128 .f32) : Vec F S2x32x1x128 .f32 :=
  k0_pay3 (k0_pay57 (k0_pay46 x6) (k0_pay47 x7) (k0_pay48 (View.ld x8 (Rect.unit (s := S1x2x128) ![0, 0, 0] S1x1x128.size inb_S1x2x128_S1x1x128_0_0_0))) (k0_pay49 (View.ld x8 (Rect.unit (s := S1x2x128) ![0, 1, 0] S1x1x128.size inb_S1x2x128_S1x1x128_0_1_0))) (k0_pay50 x0) x1 x3)

/-- The first batch entry's memory before pass `n`. -/
def mem0 (i : grid0.Coords) (x0 x1 : Vec F S2x1x32x64x128 .f32) (x3 : Vec F S1x2x32x64x1 .f32) (x6 : Vec F S1x128x512 .f32) (x7 : Vec F S1x512x128 .f32) (x8 : Vec F S1x2x128 .f32) (x5 : Vec F S2x256 .f32) (n : ℕ) : Mem F :=
  seq (step0 i x0 x5 (partA x0 x1 x3 x6 x7 x8) (partU x0 x1 x3 x6 x7 x8) (partY x0 x1 x3 x6 x7 x8) (partG x0 x1 x3 x6 x7 x8) (partB x0 x1 x3 x6 x7 x8)) (start x6 x7 x8) n

/-- The second batch entry's memory before pass `n`. -/
def mem1 (i : grid0.Coords) (x0 x1 : Vec F S2x1x32x64x128 .f32) (x3 : Vec F S1x2x32x64x1 .f32) (x6 : Vec F S1x128x512 .f32) (x7 : Vec F S1x512x128 .f32) (x8 : Vec F S1x2x128 .f32) (x5 : Vec F S2x256 .f32) (n : ℕ) : Mem F :=
  seq (step1 i x0 x5 (partA x0 x1 x3 x6 x7 x8) (partU x0 x1 x3 x6 x7 x8) (partY x0 x1 x3 x6 x7 x8) (partG x0 x1 x3 x6 x7 x8) (partB x0 x1 x3 x6 x7 x8)) (start' x6 x7 x8) n

/-- A coordinate of the result, within its chunk. -/
def within (y : S2x1x32x64x128.Idx) : S1x1x1x64x128.Idx := ix5 (n0 := 1) (n1 := 1) (n2 := 1) (n3 := 64) (n4 := 128) 0 0 0 (y 3) (y 4)

/-- What the body stores into its result: in chunk `n`, what the memory before pass `n` answers. -/
def block (i : grid0.Coords) (x0 x1 : Vec F S2x1x32x64x128 .f32) (x3 : Vec F S1x2x32x64x1 .f32) (x6 : Vec F S1x128x512 .f32) (x7 : Vec F S1x512x128 .f32) (x8 : Vec F S1x2x128 .f32) (x2 : Vec F S2x1x32x64x128 .f32) (x4 : Vec F S1x2x32x64x1 .f32) (x5 : Vec F S2x256 .f32) :
    Vec F S2x1x32x64x128 .f32 := fun y =>
  if (y 0).val = 0 then
    read0 x2 x4 ⟨(y 2).val, lt_of_lt_of_eq (y 2).isLt trips_eq.symm⟩ (mem0 i x0 x1 x3 x6 x7 x8 x5 (y 2).val) (within y)
  else
    read1 x2 x4 ⟨(y 2).val, lt_of_lt_of_eq (y 2).isLt trips_eq.symm⟩ (mem1 i x0 x1 x3 x6 x7 x8 x5 (y 2).val) (within y)

/-- The result after all the passes, given what was read at the loop's start. -/
theorem block_of_after (i : grid0.Coords)
  (arg1 : Memref sig .tc .vmem S2x1x32x64x128 .f32) (harg1 : arg1.IsWhole)
  (arg2 : Memref sig .tc .vmem S2x1x32x64x128 .f32) (harg2 : arg2.IsWhole)
  (arg3 : Memref sig .tc .vmem S2x1x32x64x128 .f32) (harg3 : arg3.IsWhole)
  (arg4 : Memref sig .tc .vmem S1x2x32x64x1 .f32) (harg4 : arg4.IsWhole)
  (arg5 : Memref sig .tc .vmem S1x2x32x64x1 .f32) (harg5 : arg5.IsWhole)
  (arg6 : Memref sig .tc .smem S2x256 .f32) (harg6 : arg6.IsWhole)
  (arg7 : Memref sig .tc .vmem S1x128x512 .f32) (harg7 : arg7.IsWhole)
  (arg8 : Memref sig .tc .vmem S1x512x128 .f32) (harg8 : arg8.IsWhole)
  (arg9 : Memref sig .tc .vmem S1x2x128 .f32) (harg9 : arg9.IsWhole)
  (arg10 : Memref sig .tc .vmem S2x1x32x64x128 .f32) (harg10 : arg10.IsWhole)
  (arg11 : Memref sig .tc .vmem S2x128x512 .f32) (harg11 : arg11.IsWhole)
  (arg12 : Memref sig .tc .vmem S2x128x512 .f32) (harg12 : arg12.IsWhole)
  (arg13 : Memref sig .tc .vmem S2x512x128 .f32) (harg13 : arg13.IsWhole)
  (arg14 : Memref sig .tc .vmem S2x512x128 .f32) (harg14 : arg14.IsWhole)
  (arg15 : Memref sig .tc .vmem S2x8x128 .f32) (harg15 : arg15.IsWhole)
  (arg16 : Memref sig .tc .vmem S2x32x64x512 .bf16) (harg16 : arg16.IsWhole)
  (arg17 : Memref sig .tc .vmem S2x32x64x512 .bf16) (harg17 : arg17.IsWhole)
  (arg18 : Memref sig .tc .vmem S2x32x64x128 .bf16) (harg18 : arg18.IsWhole)
  (arg19 : Memref sig .tc .vmem S2x32x1x128 .f32) (harg19 : arg19.IsWhole)
  (arg20 : Memref sig .tc .vmem S2x32x1x128 .f32) (harg20 : arg20.IsWhole)
  (X1 : BufTy.Contents (Elt F) arg1.view.ty)
  (X3 : BufTy.Contents (Elt F) arg3.view.ty)
  (X5 : BufTy.Contents (Elt F) arg5.view.ty)
  (X6 : BufTy.Contents (Elt F) arg6.view.ty)
  (X16 : BufTy.Contents (Elt F) arg16.view.ty)
  (X17 : BufTy.Contents (Elt F) arg17.view.ty)
  (X18 : BufTy.Contents (Elt F) arg18.view.ty)
  (X19 : BufTy.Contents (Elt F) arg19.view.ty)
  (X20 : BufTy.Contents (Elt F) arg20.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
    (x0 : Vec F S2x1x32x64x128 .f32) (x1 : Vec F S2x1x32x64x128 .f32) (x2 : Vec F S2x1x32x64x128 .f32) (x3 : Vec F S1x2x32x64x1 .f32) (x4 : Vec F S1x2x32x64x1 .f32) (x5 : Vec F S2x256 .f32) (x6 : Vec F S1x128x512 .f32) (x7 : Vec F S1x512x128 .f32) (x8 : Vec F S1x2x128 .f32) {s0 s1 : Mem F}
    (A : After (F := F) i arg1 arg3 arg5 arg6 arg10 arg11 arg12 arg13 arg14 arg15 arg16 arg17 arg18 arg19 arg20 X1 X3 X5 X6 X16 X17 X18 X19 X20 s0 s1 k0_t1_loop.trips f10 f11 f12 f13 f14 f15)
    (h1 : arg1.view.read (Elt F) X1 = x0) (h3 : arg3.view.read (Elt F) X3 = x2) (h5 : arg5.view.read (Elt F) X5 = x4) (h6 : arg6.view.read (Elt F) X6 = x5)
    (h16 : arg16.view.read (Elt F) X16 = partA x0 x1 x3 x6 x7 x8) (h17 : arg17.view.read (Elt F) X17 = partU x0 x1 x3 x6 x7 x8) (h18 : arg18.view.read (Elt F) X18 = partY x0 x1 x3 x6 x7 x8)
    (h19 : arg19.view.read (Elt F) X19 = partG x0 x1 x3 x6 x7 x8) (h20 : arg20.view.read (Elt F) X20 = partB x0 x1 x3 x6 x7 x8)
    (hs0 : s0 = start x6 x7 x8) (hs1 : s1 = start' x6 x7 x8) :
    arg10.view.read (Elt F) f10 = block i x0 x1 x3 x6 x7 x8 x2 x4 x5 := by
  funext y
  have hy : (y 2).val < k0_t1_loop.trips := lt_of_lt_of_eq (y 2).isLt trips_eq.symm
  have a0 := A.out0 ⟨(y 2).val, hy⟩ hy
  have a1 := A.out1 ⟨(y 2).val, hy⟩ hy
  rw [h1, h3, h5, h6, h16, h17, h18, h19, h20] at a0 a1
  rw [hs0] at a0
  rw [hs1] at a1
  have y0 : (y 0).val < 2 := (y 0).isLt
  have y1 : (y 1).val < 1 := (y 1).isLt
  unfold block
  split
  · next h =>
    refine Eq.trans ?_ (congrFun a0 (within y))
    refine congrArg (arg10.view.read (Elt F) f10) (funext fun a => Fin.ext ?_)
    show (y a).val = k0_off1 ⟨(y 2).val, hy⟩ a + 1 * (within y a).val
    rw [k0_off1_eq]
    fin_cases a
    · show (y 0).val = 0 + 1 * 0; omega
    · show (y 1).val = 0 + 1 * 0; omega
    · show (y 2).val = (y 2).val + 1 * 0; omega
    · show (y 3).val = 0 + 1 * (y 3).val; omega
    · show (y 4).val = 0 + 1 * (y 4).val; omega
  · next h =>
    refine Eq.trans ?_ (congrFun a1 (within y))
    refine congrArg (arg10.view.read (Elt F) f10) (funext fun a => Fin.ext ?_)
    show (y a).val = k0_off8 ⟨(y 2).val, hy⟩ a + 1 * (within y a).val
    rw [k0_off8_eq]
    fin_cases a
    · show (y 0).val = 1 + 1 * 0; omega
    · show (y 1).val = 0 + 1 * 0; omega
    · show (y 2).val = (y 2).val + 1 * 0; omega
    · show (y 3).val = 0 + 1 * (y 3).val; omega
    · show (y 4).val = 0 + 1 * (y 4).val; omega

/-- The body. -/
theorem body (c : Dev nD) (i : grid0.Coords)
  (arg1 : Memref sig .tc .vmem S2x1x32x64x128 .f32) (harg1 : arg1.IsWhole)
  (arg2 : Memref sig .tc .vmem S2x1x32x64x128 .f32) (harg2 : arg2.IsWhole)
  (arg3 : Memref sig .tc .vmem S2x1x32x64x128 .f32) (harg3 : arg3.IsWhole)
  (arg4 : Memref sig .tc .vmem S1x2x32x64x1 .f32) (harg4 : arg4.IsWhole)
  (arg5 : Memref sig .tc .vmem S1x2x32x64x1 .f32) (harg5 : arg5.IsWhole)
  (arg6 : Memref sig .tc .smem S2x256 .f32) (harg6 : arg6.IsWhole)
  (arg7 : Memref sig .tc .vmem S1x128x512 .f32) (harg7 : arg7.IsWhole)
  (arg8 : Memref sig .tc .vmem S1x512x128 .f32) (harg8 : arg8.IsWhole)
  (arg9 : Memref sig .tc .vmem S1x2x128 .f32) (harg9 : arg9.IsWhole)
  (arg10 : Memref sig .tc .vmem S2x1x32x64x128 .f32) (harg10 : arg10.IsWhole)
  (arg11 : Memref sig .tc .vmem S2x128x512 .f32) (harg11 : arg11.IsWhole)
  (arg12 : Memref sig .tc .vmem S2x128x512 .f32) (harg12 : arg12.IsWhole)
  (arg13 : Memref sig .tc .vmem S2x512x128 .f32) (harg13 : arg13.IsWhole)
  (arg14 : Memref sig .tc .vmem S2x512x128 .f32) (harg14 : arg14.IsWhole)
  (arg15 : Memref sig .tc .vmem S2x8x128 .f32) (harg15 : arg15.IsWhole)
  (arg16 : Memref sig .tc .vmem S2x32x64x512 .bf16) (harg16 : arg16.IsWhole)
  (arg17 : Memref sig .tc .vmem S2x32x64x512 .bf16) (harg17 : arg17.IsWhole)
  (arg18 : Memref sig .tc .vmem S2x32x64x128 .bf16) (harg18 : arg18.IsWhole)
  (arg19 : Memref sig .tc .vmem S2x32x1x128 .f32) (harg19 : arg19.IsWhole)
  (arg20 : Memref sig .tc .vmem S2x32x1x128 .f32) (harg20 : arg20.IsWhole)
    (x0 : Vec F S2x1x32x64x128 .f32) (x1 : Vec F S2x1x32x64x128 .f32) (x2 : Vec F S2x1x32x64x128 .f32) (x3 : Vec F S1x2x32x64x1 .f32) (x4 : Vec F S1x2x32x64x1 .f32) (x5 : Vec F S2x256 .f32) (x6 : Vec F S1x128x512 .f32) (x7 : Vec F S1x512x128 .f32) (x8 : Vec F S1x2x128 .f32) (E : Set ℕ) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (block i x0 x1 x3 x6 x7 x8 x2 x4 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
    ⊢ wp frame (wpE (defs₀ (F := F)) Variants.none c none) E (cc0_nm_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_nm_main_eq_skeleton]; unfold cc0_nm_main_skel
  simp only [k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  rw [wp_bind]
  iapply (wp_wand_r frame (wpE (defs₀ (F := F)) Variants.none (c : Thread nD τ) none) E)
  isplitl [H1 H3 H5 H6 H10 H11 H12 H13 H14 H15 H16 H17 H18 H19 H20]
  · iapply (loop Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) _ _ _ _ _ _ _ _ _ E _ _ _ _ _ _)
    isplitl [H1]; · iexact H1
    isplitl [H3]; · iexact H3
    isplitl [H5]; · iexact H5
    isplitl [H6]; · iexact H6
    isplitl [H16]; · iexact H16
    isplitl [H17]; · iexact H17
    isplitl [H18]; · iexact H18
    isplitl [H19]; · iexact H19
    isplitl [H20]; · iexact H20
    isplitl [H10]; · iexact H10
    isplitl [H11]; · iexact H11
    isplitl [H12]; · iexact H12
    isplitl [H13]; · iexact H13
    isplitl [H14]; · iexact H14
    iexact H15
  · iintro %_ HI
    unfold Inv
    icases HI with ⟨%g10, %g11, %g12, %g13, %g14, %g15, ⟨H1, H3, H5, H6, H16, H17, H18, H19, H20, H10, H11, H12, H13, H14, H15⟩, %A⟩
    sl_step
    iapply Hk
    isplitl [H1]
    · iexists _; isplitr
      · ipureintro; exact harg1.read_unread _
      · iexact H1
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    isplitl [H7]
    · iexists _; isplitr
      · ipureintro; exact harg7.read_unread _
      · iexact H7
    isplitl [H8]
    · iexists _; isplitr
      · ipureintro; exact harg8.read_unread _
      · iexact H8
    isplitl [H9]
    · iexists _; isplitr
      · ipureintro; exact harg9.read_unread _
      · iexact H9
    isplitl [H10]
    · iexists _; isplitr
      swap; · iexact H10
      ipureintro
      refine block_of_after i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ x0 x1 x2 x3 x4 x5 x6 x7 x8 A
        (harg1.read_unread _) (harg3.read_unread _) (harg5.read_unread _) (harg6.read_unread _) ?_ ?_ ?_ ?_ ?_ ?_ ?_
      case refine_6 =>
        dsimp only [memOf0]
        frame_out
        simp (disch := decide) only [Boxes.ld_skip]
        refine Mem.ext rfl rfl rfl rfl ?_ ?_ ?_ ?_  <;>
          (dsimp only [start]; refine Boxes.ld_inside _ _ _ _ _ _ _ (fun a => ?_); fin_cases a <;> rfl)
      case refine_7 =>
        dsimp only [memOf1]
        frame_out
        simp (disch := decide) only [Boxes.ld_skip]
        refine Mem.ext rfl rfl rfl rfl ?_ ?_ ?_ ?_  <;>
          (dsimp only [start']; refine Boxes.ld_inside _ _ _ _ _ _ _ (fun a => ?_); fin_cases a <;> rfl)
      all_goals
        frame_out
        rfl
    isplitl [H11]
    · iexists _, _; isplitr
      swap; · iexact H11
      ipureintro; rfl
    isplitl [H12]
    · iexists _, _; isplitr
      swap; · iexact H12
      ipureintro; rfl
    isplitl [H13]
    · iexists _, _; isplitr
      swap; · iexact H13
      ipureintro; rfl
    isplitl [H14]
    · iexists _, _; isplitr
      swap; · iexact H14
      ipureintro; rfl
    isplitl [H15]
    · iexists _, _; isplitr
      swap; · iexact H15
      ipureintro; rfl
    isplitl [H16]
    · iexists _, _; isplitr
      swap; · iexact H16
      ipureintro; rfl
    isplitl [H17]
    · iexists _, _; isplitr
      swap; · iexact H17
      ipureintro; rfl
    isplitl [H18]
    · iexists _, _; isplitr
      swap; · iexact H18
      ipureintro; rfl
    isplitl [H19]
    · iexists _, _; isplitr
      swap; · iexact H19
      ipureintro; rfl
    iexists _, _; isplitr
    swap; · iexact H20
    ipureintro; rfl

end Cert.MainIdeal.Memory

end
-- ==== Proof.MainIdeal.Launch.lean ====
/- The main call's launch: its body at every grid point, the run, and what the run leaves unchanged. -/
module

public import proofs.«01_k».proof.Proof.MainIdeal.Body
public import proofs.«01_k».proof.Proof.Gen.MainIdeal.Frame
public import Idealize.ShloMosaic.Lib.Claim

@[expose] public section

set_option maxRecDepth 16384

noncomputable section

namespace Cert.MainIdeal.Memory

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MainIdeal.Gen

variable {F : FTy → Type} [FloatOps F] [Named F]

/-- The resource algebra of the run. -/
local notation "𝕄G" => MT nD τ sig Unit (Elt F) ℕ (UR sig nD τ) ℕ

variable (m : (ℓ : Loc nD τ sig) → Buf (Elt F) ℓ) (ρ : Dev nD → PrngReg)

/-! ## The point's buffers -/

/-- Window 0's buffer at a point. -/
abbrev buf0 (t : Fin cfg0.N) : Memref sig .tc .vmem S2x1x32x64x128 .f32 := win0_0.stage (cfg0.slots t 0)
theorem buf0_whole (t : Fin cfg0.N) : (buf0 t).IsWhole := hstage0_0 ((cfg0.slots t 0).cast nbuf0_0)
/-- Window 1's buffer at a point. -/
abbrev buf1 (t : Fin cfg0.N) : Memref sig .tc .vmem S2x1x32x64x128 .f32 := win0_1.stage (cfg0.slots t 1)
theorem buf1_whole (t : Fin cfg0.N) : (buf1 t).IsWhole := hstage0_1 ((cfg0.slots t 1).cast nbuf0_1)
/-- Window 2's buffer at a point. -/
abbrev buf2 (t : Fin cfg0.N) : Memref sig .tc .vmem S2x1x32x64x128 .f32 := win0_2.stage (cfg0.slots t 2)
theorem buf2_whole (t : Fin cfg0.N) : (buf2 t).IsWhole := hstage0_2 ((cfg0.slots t 2).cast nbuf0_2)
/-- Window 3's buffer at a point. -/
abbrev buf3 (t : Fin cfg0.N) : Memref sig .tc .vmem S1x2x32x64x1 .f32 := win0_3.stage (cfg0.slots t 3)
theorem buf3_whole (t : Fin cfg0.N) : (buf3 t).IsWhole := hstage0_3 ((cfg0.slots t 3).cast nbuf0_3)
/-- Window 4's buffer at a point. -/
abbrev buf4 (t : Fin cfg0.N) : Memref sig .tc .vmem S1x2x32x64x1 .f32 := win0_4.stage (cfg0.slots t 4)
theorem buf4_whole (t : Fin cfg0.N) : (buf4 t).IsWhole := hstage0_4 ((cfg0.slots t 4).cast nbuf0_4)
/-- Window 5's buffer at a point. -/
abbrev buf5 (t : Fin cfg0.N) : Memref sig .tc .smem S2x256 .f32 := win0_5.stage (cfg0.slots t 5)
theorem buf5_whole (t : Fin cfg0.N) : (buf5 t).IsWhole := hstage0_5 ((cfg0.slots t 5).cast nbuf0_5)
/-- Window 6's buffer at a point. -/
abbrev buf6 (t : Fin cfg0.N) : Memref sig .tc .vmem S1x128x512 .f32 := win0_6.stage (cfg0.slots t 6)
theorem buf6_whole (t : Fin cfg0.N) : (buf6 t).IsWhole := hstage0_6 ((cfg0.slots t 6).cast nbuf0_6)
/-- Window 7's buffer at a point. -/
abbrev buf7 (t : Fin cfg0.N) : Memref sig .tc .vmem S1x512x128 .f32 := win0_7.stage (cfg0.slots t 7)
theorem buf7_whole (t : Fin cfg0.N) : (buf7 t).IsWhole := hstage0_7 ((cfg0.slots t 7).cast nbuf0_7)
/-- Window 8's buffer at a point. -/
abbrev buf8 (t : Fin cfg0.N) : Memref sig .tc .vmem S1x2x128 .f32 := win0_8.stage (cfg0.slots t 8)
theorem buf8_whole (t : Fin cfg0.N) : (buf8 t).IsWhole := hstage0_8 ((cfg0.slots t 8).cast nbuf0_8)
/-- Window 9's buffer at a point. -/
abbrev buf9 (t : Fin cfg0.N) : Memref sig .tc .vmem S2x1x32x64x128 .f32 := win0_9.stage (cfg0.slots t 9)
theorem buf9_whole (t : Fin cfg0.N) : (buf9 t).IsWhole := hstage0_9 ((cfg0.slots t 9).cast nbuf0_9)
/-- Scratch array 0. -/
abbrev scr0 : Memref sig .tc .vmem S2x128x512 .f32 := Memref.whole cc0_scratch0
/-- Scratch array 1. -/
abbrev scr1 : Memref sig .tc .vmem S2x128x512 .f32 := Memref.whole cc0_scratch1
/-- Scratch array 2. -/
abbrev scr2 : Memref sig .tc .vmem S2x512x128 .f32 := Memref.whole cc0_scratch2
/-- Scratch array 3. -/
abbrev scr3 : Memref sig .tc .vmem S2x512x128 .f32 := Memref.whole cc0_scratch3
/-- Scratch array 4. -/
abbrev scr4 : Memref sig .tc .vmem S2x8x128 .f32 := Memref.whole cc0_scratch4
/-- Scratch array 5. -/
abbrev scr5 : Memref sig .tc .vmem S2x32x64x512 .bf16 := Memref.whole cc0_scratch5
/-- Scratch array 6. -/
abbrev scr6 : Memref sig .tc .vmem S2x32x64x512 .bf16 := Memref.whole cc0_scratch6
/-- Scratch array 7. -/
abbrev scr7 : Memref sig .tc .vmem S2x32x64x128 .bf16 := Memref.whole cc0_scratch7
/-- Scratch array 8. -/
abbrev scr8 : Memref sig .tc .vmem S2x32x1x128 .f32 := Memref.whole cc0_scratch8
/-- Scratch array 9. -/
abbrev scr9 : Memref sig .tc .vmem S2x32x1x128 .f32 := Memref.whole cc0_scratch9

/-- The invariant between points: the scratch at some contents, and the generator's register. -/
theorem Phi_eq (c : Dev nD) : (Pipeline.ΦA spec0 c : sProp 𝕄G)
    = iprop(((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d))
      ∗ (∃ ρ, prngReg c ρ)) := by
  unfold Pipeline.ΦA
  rw [scopedRest0_eq]
  simp only [scr0, scr1, scr2, scr3, scr4, scr5, scr6, scr7, scr8, scr9, owns_whole]
  try rfl

/-- The result's block after point `t`. -/
def result (c : Dev nD) (t : Fin cfg0.N) : Vec F S2x1x32x64x128 .f32 :=
  block (grid0.coords t) (iblk m c 0 t) (iblk m c 1 t) (iblk m c 3 t) (iblk m c 6 t) (iblk m c 7 t) (iblk m c 8 t)
    (iblk m c 2 t) (iblk m c 4 t) (iblk m c 5 t)

/-- The pipeline's data: the inputs' buffers keep their blocks, the result's is left at `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = result m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body is called with at a point. -/
def bodyPre (c : Dev nD) (t : Fin cfg0.N) : sProp 𝕄G :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d)))

/-- What it returns. -/
def bodyPost (c : Dev nD) (t : Fin cfg0.N) : sProp 𝕄G :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9,
    show (dats m 0 c).Φ t.castSucc = Pipeline.ΦA spec0 c from rfl, Phi_eq]
  unfold result
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The launch: every array ends as the pipeline's data say, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The arguments end unchanged, and every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run m ρ)) ((θ_run defs _ _).mono (fun _ h => h.2) (run_quiescent m ρ))

end Cert.MainIdeal.Memory

end
-- ==== Proof.Main.Reals.lean ====
/- The memory layer over the reals: a token's pass through it, its gradients, and the recurrence of momenta and weights
   with its solution. -/
module

public import Idealize.ShloMosaic.PureOps.Ideal
public import Mathlib.Tactic.FieldSimp
public import Mathlib.Tactic.LinearCombination
public import Mathlib.Tactic.Positivity

@[expose] public section

noncomputable section

namespace Cert.Reals

open scoped BigOperators

/-! ## A token -/

/-- The error function. -/
def erf (x : ℝ) : ℝ := 2 / √Real.pi * ∫ t in (0 : ℝ)..x, Real.exp (-(t ^ 2))

/-- The share of the unit normal distribution below `u`, -/
def cdf (u : ℝ) : ℝ := 1 / 2 * (1 + erf (u * (√2)⁻¹))

/-- the activation, -/
def act (u : ℝ) : ℝ := u * cdf u

/-- and its derivative. -/
def actD (u : ℝ) : ℝ := cdf u + u * ((√(2 * Real.pi))⁻¹ * Real.exp (-(1 / 2) * u * u))

/-- The mean of the lanes. -/
def mean (f : Fin 128 → ℝ) : ℝ := (∑ d, f d) / 128

/-- The lanes less their mean. -/
def cen (f : Fin 128 → ℝ) (d : Fin 128) : ℝ := f d - mean f

/-- The mean of the centred lanes' squares, with what keeps it from zero, -/
def var (eps : ℝ) (f : Fin 128 → ℝ) : ℝ := mean (fun d => cen f d * cen f d) + eps

/-- one over its root, -/
def rs (eps : ℝ) (f : Fin 128 → ℝ) : ℝ := (√(var eps f))⁻¹

/-- and the normalized lanes. -/
def nrm (eps : ℝ) (f : Fin 128 → ℝ) (d : Fin 128) : ℝ := cen f d * rs eps f

/-- The first layer, -/
def hid (w1 : Fin 128 → Fin 512 → ℝ) (x : Fin 128 → ℝ) (j : Fin 512) : ℝ := ∑ d, x d * w1 d j

/-- and the second, with the token added. -/
def out (w1 : Fin 128 → Fin 512 → ℝ) (w2 : Fin 512 → Fin 128 → ℝ) (x : Fin 128 → ℝ) (d : Fin 128) : ℝ :=
  x d + ∑ j, act (hid w1 x j) * w2 j d

/-- The difference of the memory's answer and the value, by the step size. -/
def err (eps : ℝ) (y g b v : Fin 128 → ℝ) (lr : ℝ) (d : Fin 128) : ℝ := (nrm eps y d * g d + b d - v d) * lr

/-- The gradient before the normalization, from the gradient after it. -/
def back (eps : ℝ) (y ge : Fin 128 → ℝ) (d : Fin 128) : ℝ :=
  (ge d - mean ge - nrm eps y d * mean (fun l => ge l * nrm eps y l)) * rs eps y

theorem mean_cen (f : Fin 128 → ℝ) : ∑ d, cen f d = 0 := by
  simp only [cen, mean, Finset.sum_sub_distrib, Finset.sum_const, Finset.card_univ, Fintype.card_fin, nsmul_eq_mul]
  push_cast; ring

theorem var_pos {eps : ℝ} (he : 0 < eps) (f : Fin 128 → ℝ) : 0 < var eps f := by
  unfold var mean
  have : 0 ≤ ∑ d, cen f d * cen f d := Finset.sum_nonneg fun d _ => mul_self_nonneg _
  positivity

theorem rs_div {eps : ℝ} (he : 0 < eps) (f : Fin 128 → ℝ) : rs eps f / var eps f = rs eps f * rs eps f * rs eps f := by
  have h := var_pos he f
  have hs : √(var eps f) * √(var eps f) = var eps f := Real.mul_self_sqrt h.le
  have hn : √(var eps f) ≠ 0 := (Real.sqrt_pos.2 h).ne'
  unfold rs
  rw [div_eq_iff h.ne']
  field_simp
  linarith [hs, sq (√(var eps f))]

/-- The gradient before the normalization, taken apart by the mean and by the variance. -/
theorem back_eq {eps : ℝ} (he : 0 < eps) (y ge : Fin 128 → ℝ) (d : Fin 128) :
    ge d * rs eps y + (∑ l, cen y l * ge l) * (-(1 / 2) * (rs eps y / var eps y)) / 128 * (2 * cen y d)
      + (∑ l, -(ge l * rs eps y) + ∑ l, -((∑ l, cen y l * ge l) * (-(1 / 2) * (rs eps y / var eps y)) / 128 * (2 * cen y l))) / 128
      = back eps y ge d := by
  have h2 : ∑ l, -((∑ l, cen y l * ge l) * (-(1 / 2) * (rs eps y / var eps y)) / 128 * (2 * cen y l)) = 0 := by
    rw [Finset.sum_neg_distrib, ← Finset.mul_sum, ← Finset.mul_sum, mean_cen]; ring
  have h1 : ∑ l, -(ge l * rs eps y) = -((∑ l, ge l) * rs eps y) := by rw [Finset.sum_neg_distrib, Finset.sum_mul]
  have h3 : ∑ l, ge l * nrm eps y l = (∑ l, cen y l * ge l) * rs eps y := by
    rw [Finset.sum_mul]; exact Finset.sum_congr rfl fun l _ => by unfold nrm; ring
  rw [h1, h2, rs_div he]
  unfold back mean
  rw [h3]
  unfold nrm
  ring

/-! ## The recurrence -/

/-- A step of a product over the places below `n`. -/
theorem prod_step {N : ℕ} (a : Fin N → ℝ) (p : Fin N → Prop) [DecidablePred p] (n : ℕ) (h : n < N) (hp : p ⟨n, h⟩) :
    (∏ r, if p r ∧ r.val < n + 1 then a r else 1) = a ⟨n, h⟩ * ∏ r, if p r ∧ r.val < n then a r else 1 := by
  have e : ∀ r : Fin N, (if p r ∧ r.val < n + 1 then a r else 1)
      = (if r = ⟨n, h⟩ then a r else 1) * (if p r ∧ r.val < n then a r else 1) := by
    intro r
    by_cases hr : r = ⟨n, h⟩
    · subst hr; simp [hp]
    · have : r.val ≠ n := fun e => hr (Fin.ext e)
      simp only [hr, if_false, one_mul]
      exact if_congr (and_congr_right fun _ => by omega) rfl rfl
  simp only [e, Finset.prod_mul_distrib, Finset.prod_ite_eq', Finset.mem_univ, if_true]

/-- What a linear recurrence comes to. -/
theorem solve {N : ℕ} (a f : Fin N → ℝ) (x : ℕ → ℝ) (hx : ∀ n (h : n < N), x (n + 1) = a ⟨n, h⟩ * x n + f ⟨n, h⟩) :
    ∀ n, n ≤ N → x n = (∏ r, if r.val < n then a r else 1) * x 0
      + ∑ s, (if s.val < n then ∏ r, (if s.val < r.val ∧ r.val < n then a r else 1) else 0) * f s := by
  intro n
  induction n with
  | zero => intro _; simp
  | succ n ih =>
    intro hn
    have h : n < N := hn
    rw [hx n h, ih h.le]
    have e0 := prod_step a (fun _ => True) n h trivial
    simp only [true_and] at e0
    rw [e0]
    have e1 : ∀ s : Fin N, (if s.val < n + 1 then ∏ r, (if s.val < r.val ∧ r.val < n + 1 then a r else 1) else 0) * f s
        = (if s = ⟨n, h⟩ then f s else 0) + a ⟨n, h⟩ * ((if s.val < n then ∏ r, (if s.val < r.val ∧ r.val < n then a r else 1) else 0) * f s) := by
      intro s
      by_cases hs : s = ⟨n, h⟩
      · subst hs
        have : ∀ r : Fin N, ¬ (n < r.val ∧ r.val ≤ n) := fun r => by omega
        simp [this]
      · have hs' : s.val ≠ n := fun e => hs (Fin.ext e)
        by_cases hl : s.val < n
        · rw [if_pos (by omega), if_pos hl, if_neg hs, prod_step a (fun r => s.val < r.val) n h hl]; ring
        · rw [if_neg (by omega), if_neg hl, if_neg hs]; ring
    simp only [e1, Finset.sum_add_distrib, Finset.sum_ite_eq', Finset.mem_univ, if_true, ← Finset.mul_sum]
    ring

/-- The momentum after `n` chunks, from the chunks' momenta and gradients. -/
def mo (mom g : Fin 32 → ℝ) : ℕ → ℝ
  | 0 => 0
  | n + 1 => if h : n < 32 then mom ⟨n, h⟩ * mo mom g n - g ⟨n, h⟩ else mo mom g n

/-- The weight after `n` chunks, from the chunks' momenta, decays and gradients and the first weight. -/
def we (mom dec g : Fin 32 → ℝ) (p : ℝ) : ℕ → ℝ
  | 0 => p
  | n + 1 => if h : n < 32 then (1 - dec ⟨n, h⟩) * we mom dec g p n + mo mom g (n + 1) else we mom dec g p n

theorem mo_succ (mom g : Fin 32 → ℝ) (n : ℕ) (h : n < 32) : mo mom g (n + 1) = mom ⟨n, h⟩ * mo mom g n - g ⟨n, h⟩ := by
  rw [mo, dif_pos h]

theorem we_succ (mom dec g : Fin 32 → ℝ) (p : ℝ) (n : ℕ) (h : n < 32) :
    we mom dec g p (n + 1) = (1 - dec ⟨n, h⟩) * we mom dec g p n + mo mom g (n + 1) := by
  rw [we, dif_pos h]

/-- What is left at chunk `t` of a gradient at chunk `s`. -/
def keptM (mom : Fin 32 → ℝ) (t s : Fin 32) : ℝ :=
  if s.val ≤ t.val then ∏ r : Fin 32, (if s.val < r.val ∧ r.val ≤ t.val then mom r else 1) else 0

/-- What is left at chunk `t` of the momentum added at chunk `s`. -/
def keptW (dec : Fin 32 → ℝ) (t s : Fin 32) : ℝ :=
  if s.val < t.val then ∏ r : Fin 32, (if s.val < r.val ∧ r.val < t.val then 1 - dec r else 1) else 0

/-- What is left at chunk `t` of the first weight. -/
def kept0 (dec : Fin 32 → ℝ) (t : Fin 32) : ℝ := ∏ r : Fin 32, (if r.val < t.val then 1 - dec r else 1)

theorem mo_eq (mom g : Fin 32 → ℝ) (t : Fin 32) : mo mom g (t.val + 1) = ∑ s, keptM mom t s * -g s := by
  rw [solve mom (fun s => -g s) (mo mom g) (fun n h => by rw [mo_succ _ _ _ h]; ring) (t.val + 1) t.isLt]
  simp only [mo, mul_zero, zero_add, Nat.lt_succ_iff, keptM]

theorem we_eq (mom dec g : Fin 32 → ℝ) (p : ℝ) (t : Fin 32) :
    we mom dec g p t.val = kept0 dec t * p + ∑ s, keptW dec t s * ∑ q, keptM mom s q * -g q := by
  rw [solve (fun r => 1 - dec r) (fun s => mo mom g (s.val + 1)) (we mom dec g p) (fun n h => we_succ _ _ _ _ _ h) t.val t.isLt.le]
  simp only [we, keptW, kept0, mo_eq]

/-- A product over twice as many places, by halves. -/
theorem prod_halves {M : Type} [CommMonoid M] {m n : ℕ} (hm : m = n + n) (F : Fin m → M) (G : Fin n → M)
    (h : ∀ r : Fin n, G r = F ⟨r.val, by omega⟩ * F ⟨n + r.val, by omega⟩) : ∏ r, F r = ∏ r, G r := by
  subst hm
  rw [Fin.prod_univ_add, ← Finset.prod_mul_distrib]
  exact Finset.prod_congr rfl fun r _ => (h r).symm

/-! ## The constants -/

theorem sqrt_half_eq : √(1 / 2 : ℝ) = (√2)⁻¹ := by rw [one_div, Real.sqrt_inv]

/-- The activation, with the halves together. -/
theorem act_eq (u : ℝ) : act u = 1 / 2 * u * (1 + erf (u * √(1 / 2))) := by
  rw [sqrt_half_eq]; unfold act cdf; ring

/-- The derivative of the activation, as the derivative of the error function gives it. -/
theorem actD_eq (u : ℝ) : (2 * (√Real.pi)⁻¹ * Real.exp (-(u * √(1 / 2) * (u * √(1 / 2))))) * (1 / 2 * u) * √(1 / 2)
    + 1 / 2 * (1 + erf (u * √(1 / 2))) = actD u := by
  have hp : √(2 * Real.pi) = √2 * √Real.pi := Real.sqrt_mul (by norm_num) _
  have e : u * (√2)⁻¹ * (u * (√2)⁻¹) = 1 / 2 * u * u := by
    have : (√2 : ℝ)⁻¹ * (√2)⁻¹ = 1 / 2 := by rw [← mul_inv, Real.mul_self_sqrt (by norm_num)]; norm_num
    linear_combination u * u * this
  unfold actD cdf
  rw [sqrt_half_eq, hp, e, mul_inv, show -(1 / 2) * u * u = -(1 / 2 * u * u) by ring]
  ring

end Cert.Reals

end
-- ==== Proof.Main.Args.lean ====
/- The main call's finite arguments as arrays of reals, what the memory makes of them, and how the ideal operations act
   on reals. -/
module

public import proofs.«01_k».proof.Proof.Main.Reals
public import Idealize.ShloMosaic.Lib.Pipeline.ValueKit

@[expose] public section

set_option maxRecDepth 16384

noncomputable section

open Idealize.ShloMosaic Idealize.ShloMosaic.TcCoe

namespace Cert.Reals

/-! ## The ideal operations on reals -/

theorem coe_sum {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

theorem coe_prod {ι : Type} (s : Finset ι) (f : ι → ℝ) : (∏ x ∈ s, (f x : EReal)) = ((∏ x ∈ s, f x : ℝ) : EReal) := by
  classical
  induction s using Finset.induction_on with
  | empty => simp
  | insert a s ha ih => rw [Finset.prod_insert ha, Finset.prod_insert ha, ih, EReal.coe_mul]

theorem coe_if (p : Prop) [Decidable p] (a b : ℝ) : (if p then (a : EReal) else (b : EReal)) = ((if p then a else b : ℝ) : EReal) := by
  split <;> rfl

/-- Comparisons of chunks' numbers, -/
theorem lt_word : ∀ s r : Fin 32, IntOp.cmpi .slt (BitVec.ofNat 32 s.val) (BitVec.ofNat 32 r.val) = if s.val < r.val then 1#1 else 0#1 := by
  decide +kernel
theorem le_word : ∀ s r : Fin 32, IntOp.cmpi .sle (BitVec.ofNat 32 s.val) (BitVec.ofNat 32 r.val) = if s.val ≤ r.val then 1#1 else 0#1 := by
  decide +kernel
/-- both holding, -/
theorem and_word (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]
/-- and a choice by them. -/
theorem select_word {α : Type} (p : Prop) [Decidable p] (a b : α) : Scalar.select (if p then 1#1 else 0#1) a b = if p then a else b := by
  by_cases hp : p <;> simp [hp, Scalar.select]

theorem half : Ideal.ofBits .f32 1056964608#32 = ((1 / 2 : ℝ) : EReal) := by
  simp [Ideal.ofBits, Ideal.ieee, ← EReal.coe_mul]; norm_num
theorem neg_half : Ideal.ofBits .f32 3204448256#32 = ((-(1 / 2) : ℝ) : EReal) := by
  simp [Ideal.ofBits, Ideal.ieee, ← EReal.coe_mul]; norm_num
theorem two : Ideal.ofBits .f32 1073741824#32 = ((2 : ℝ) : EReal) := by
  simp [Ideal.ofBits, Ideal.ieee, ← EReal.coe_mul]; norm_num
theorem sixty_four : Ideal.ofBits .f32 1115684864#32 = ((64 : ℝ) : EReal) := by
  simp [Ideal.ofBits, Ideal.ieee, ← EReal.coe_mul]; norm_num
theorem lanes : Ideal.ofBits .f32 1124073472#32 = ((128 : ℝ) : EReal) := by
  simp [Ideal.ofBits, Ideal.ieee, ← EReal.coe_mul]; norm_num
theorem zero : Ideal.ofBits .f32 0#32 = ((0 : ℝ) : EReal) := by
  simp [Ideal.ofBits, Ideal.ieee]
theorem one : Ideal.ofBits .f32 1065353216#32 = ((1 : ℝ) : EReal) := by
  simp [Ideal.ofBits, Ideal.ieee, ← EReal.coe_mul]; norm_num
theorem zero' : (FloatOps.ofBits .f32 0#32 : Ideal .f32) = ((0 : ℝ) : EReal) := zero
theorem one' : (FloatOps.ofBits .f32 1065353216#32 : Ideal .f32) = ((1 : ℝ) : EReal) := one
theorem neg_one : Ideal.ofBits .f32 3212836864#32 = ((-1 : ℝ) : EReal) := by
  simp [Ideal.ofBits, Ideal.ieee, ← EReal.coe_mul]; norm_num

/-- What is added to the variance. -/
def eps : ℝ := (Ideal.ofBits .f32 897988541#32 : EReal).toReal

theorem eps_eq : Ideal.ofBits .f32 897988541#32 = ((eps : ℝ) : EReal) ∧ 0 < eps := by
  have h : ∃ r : ℝ, Ideal.ofBits .f32 897988541#32 = (r : EReal) ∧ 0 < r := by
    simp only [Ideal.ofBits, Ideal.ieee]
    refine ⟨_, rfl, ?_⟩
    simp
  obtain ⟨r, h, hr⟩ := h
  unfold eps
  rw [h]
  exact ⟨rfl, hr⟩

theorem eps_coe : Ideal.ofBits .f32 897988541#32 = ((eps : ℝ) : EReal) := eps_eq.1
theorem eps_pos : 0 < eps := eps_eq.2

theorem one_coe : (1 : EReal) = ((1 : ℝ) : EReal) := rfl

theorem div_real {b : ℝ} (hb : b ≠ 0) (a : ℝ) : Ideal.div (a : EReal) (b : EReal) = ((a / b : ℝ) : EReal) := by
  rw [Ideal.div_coe hb, ← EReal.coe_mul, mul_one_div]

theorem div_lanes (a : ℝ) : Ideal.div (a : EReal) ((128 : ℝ) : EReal) = ((a / 128 : ℝ) : EReal) := div_real (by norm_num) a

theorem rsqrt_real {b : ℝ} (hb : 0 < b) : Ideal.rsqrt (b : EReal) = (((√b)⁻¹ : ℝ) : EReal) := by
  rw [Ideal.rsqrt_coe, if_neg hb.not_gt, if_neg hb.ne']

theorem rsqrt_var (f : Fin 128 → ℝ) : Ideal.rsqrt (var eps f : EReal) = ((rs eps f : ℝ) : EReal) := rsqrt_real (var_pos eps_pos f)

theorem sqrt_half : Ideal.sqrt ((1 / 2 : ℝ) : EReal) = ((√(1 / 2) : ℝ) : EReal) := by
  rw [Ideal.sqrt_coe, if_neg (by norm_num)]

theorem rsqrt_pi : Ideal.rsqrt (Ideal.acos ((-1 : ℝ) : EReal)) = (((√Real.pi)⁻¹ : ℝ) : EReal) := by
  rw [Ideal.acos_coe, if_pos (by norm_num), Real.arccos_neg_one, rsqrt_real Real.pi_pos]

theorem erf_real (u : ℝ) : Ideal.erf (u : EReal) = ((erf u : ℝ) : EReal) := Ideal.erf_coe u

/-! ## The arguments -/

/-- The arguments, finite. -/
structure Args where
  k : Fin 2 → Fin 4 → Fin 32 → Fin 64 → Fin 128 → ℝ
  v : Fin 2 → Fin 4 → Fin 32 → Fin 64 → Fin 128 → ℝ
  q : Fin 2 → Fin 4 → Fin 32 → Fin 64 → Fin 128 → ℝ
  lrg : Fin 2 → Fin 32 → Fin 64 → Fin 8 → ℝ
  md : Fin 2 → Fin 32 → Fin 1 → Fin 8 → ℝ
  w1 : Fin 4 → Fin 128 → Fin 512 → ℝ
  w2 : Fin 4 → Fin 512 → Fin 128 → ℝ
  g : Fin 4 → Fin 128 → ℝ
  b : Fin 4 → Fin 128 → ℝ

namespace Args

variable (A : Args)

/-- The arrays of these reals, as the programs take them. -/
def x0 : FVec Ideal ⟨5, ![2, 4, 32, 64, 128]⟩ .f32 := fun i => (A.k (i 0) (i 1) (i 2) (i 3) (i 4) : EReal)
def x1 : FVec Ideal ⟨5, ![2, 4, 32, 64, 128]⟩ .f32 := fun i => (A.v (i 0) (i 1) (i 2) (i 3) (i 4) : EReal)
def x2 : FVec Ideal ⟨5, ![2, 4, 32, 64, 128]⟩ .f32 := fun i => (A.q (i 0) (i 1) (i 2) (i 3) (i 4) : EReal)
def x3 : FVec Ideal ⟨4, ![2, 32, 64, 8]⟩ .f32 := fun i => (A.lrg (i 0) (i 1) (i 2) (i 3) : EReal)
def x4 : FVec Ideal ⟨4, ![2, 32, 1, 8]⟩ .f32 := fun i => (A.md (i 0) (i 1) (i 2) (i 3) : EReal)
def x5 : FVec Ideal ⟨3, ![4, 128, 512]⟩ .f32 := fun i => (A.w1 (i 0) (i 1) (i 2) : EReal)
def x6 : FVec Ideal ⟨3, ![4, 512, 128]⟩ .f32 := fun i => (A.w2 (i 0) (i 1) (i 2) : EReal)
def x7 : FVec Ideal ⟨2, ![4, 128]⟩ .f32 := fun i => (A.g (i 0) (i 1) : EReal)
def x8 : FVec Ideal ⟨2, ![4, 128]⟩ .f32 := fun i => (A.b (i 0) (i 1) : EReal)

theorem at0 (b h i r d) : A.x0 (ix5 b h i r d) = (A.k b h i r d : EReal) := rfl
theorem at1 (b h i r d) : A.x1 (ix5 b h i r d) = (A.v b h i r d : EReal) := rfl
theorem at2 (b h i r d) : A.x2 (ix5 b h i r d) = (A.q b h i r d : EReal) := rfl
theorem at3 (b i r e) : A.x3 (ix4 b i r e) = (A.lrg b i r e : EReal) := rfl
theorem at4 (b i u e) : A.x4 (ix4 b i u e) = (A.md b i u e : EReal) := rfl
theorem at5 (h d j) : A.x5 (ix3 h d j) = (A.w1 h d j : EReal) := rfl
theorem at6 (h j d) : A.x6 (ix3 h j d) = (A.w2 h j d : EReal) := rfl
theorem at7 (h d) : A.x7 (ix2 h d) = (A.g h d : EReal) := rfl
theorem at8 (h d) : A.x8 (ix2 h d) = (A.b h d : EReal) := rfl

/-- A head's step size and gate at a token, -/
def lr (b : Fin 2) (h : Fin 4) (i : Fin 32) (r : Fin 64) : ℝ := A.lrg b i r ⟨h.val, by omega⟩
def gate (b : Fin 2) (h : Fin 4) (i : Fin 32) (r : Fin 64) : ℝ := A.lrg b i r ⟨4 + h.val, by omega⟩
/-- and its momentum and decay at a chunk. -/
def mom (b : Fin 2) (h : Fin 4) (i : Fin 32) : ℝ := A.md b i 0 ⟨h.val, by omega⟩
def dec (b : Fin 2) (h : Fin 4) (i : Fin 32) : ℝ := A.md b i 0 ⟨4 + h.val, by omega⟩

/-! ## A token under the first weights -/

/-- The first layer of a key, -/
def u (b : Fin 2) (h : Fin 4) (i : Fin 32) (r : Fin 64) : Fin 512 → ℝ := hid (A.w1 h) (A.k b h i r)
/-- what is normalized, -/
def y (b : Fin 2) (h : Fin 4) (i : Fin 32) (r : Fin 64) : Fin 128 → ℝ := out (A.w1 h) (A.w2 h) (A.k b h i r)
/-- the gradient of the answer, -/
def e (b : Fin 2) (h : Fin 4) (i : Fin 32) (r : Fin 64) : Fin 128 → ℝ := err eps (A.y b h i r) (A.g h) (A.b h) (A.v b h i r) (A.lr b h i r)
/-- of what is normalized, -/
def dy (b : Fin 2) (h : Fin 4) (i : Fin 32) (r : Fin 64) : Fin 128 → ℝ := back eps (A.y b h i r) (fun d => A.e b h i r d * A.g h d)
/-- and of the first layer. -/
def du (b : Fin 2) (h : Fin 4) (i : Fin 32) (r : Fin 64) (j : Fin 512) : ℝ := (∑ d, A.dy b h i r d * A.w2 h j d) * actD (A.u b h i r j)

/-! ## A chunk's gradients and the weights they lead to -/

def gw1 (b : Fin 2) (h : Fin 4) (i : Fin 32) (d : Fin 128) (j : Fin 512) : ℝ := ∑ r, A.k b h i r d * A.du b h i r j
def gw2 (b : Fin 2) (h : Fin 4) (i : Fin 32) (j : Fin 512) (d : Fin 128) : ℝ := ∑ r, act (A.u b h i r j) * A.dy b h i r d
def gg (b : Fin 2) (h : Fin 4) (i : Fin 32) (d : Fin 128) : ℝ := ∑ r, A.e b h i r d * nrm eps (A.y b h i r) d
def gb (b : Fin 2) (h : Fin 4) (i : Fin 32) (d : Fin 128) : ℝ := ∑ r, A.e b h i r d

/-- The momenta after `n` chunks, -/
def m1 (b : Fin 2) (h : Fin 4) (n : ℕ) (d : Fin 128) (j : Fin 512) : ℝ := mo (A.mom b h) (fun s => A.gw1 b h s d j) n
def m2 (b : Fin 2) (h : Fin 4) (n : ℕ) (j : Fin 512) (d : Fin 128) : ℝ := mo (A.mom b h) (fun s => A.gw2 b h s j d) n
def mg (b : Fin 2) (h : Fin 4) (n : ℕ) (d : Fin 128) : ℝ := mo (A.mom b h) (fun s => A.gg b h s d) n
def mb (b : Fin 2) (h : Fin 4) (n : ℕ) (d : Fin 128) : ℝ := mo (A.mom b h) (fun s => A.gb b h s d) n
/-- the weights, -/
def v1 (b : Fin 2) (h : Fin 4) (n : ℕ) (d : Fin 128) (j : Fin 512) : ℝ := we (A.mom b h) (A.dec b h) (fun s => A.gw1 b h s d j) (A.w1 h d j) n
def v2 (b : Fin 2) (h : Fin 4) (n : ℕ) (j : Fin 512) (d : Fin 128) : ℝ := we (A.mom b h) (A.dec b h) (fun s => A.gw2 b h s j d) (A.w2 h j d) n
def vg (b : Fin 2) (h : Fin 4) (n : ℕ) (d : Fin 128) : ℝ := we (A.mom b h) (A.dec b h) (fun s => A.gg b h s d) (A.g h d) n
def vb (b : Fin 2) (h : Fin 4) (n : ℕ) (d : Fin 128) : ℝ := we (A.mom b h) (A.dec b h) (fun s => A.gb b h s d) (A.b h d) n

/-- and what they answer to a query of the chunk that follows, gated. -/
def answer (b : Fin 2) (h : Fin 4) (t : Fin 32) (r : Fin 64) (d : Fin 128) : ℝ :=
  (nrm eps (out (A.v1 b h t.val) (A.v2 b h t.val) (A.q b h t r)) d * A.vg b h t.val d + A.vb b h t.val d) * A.gate b h t r

end Args

end Cert.Reals

end
-- ==== Proof.MainIdeal.Token.lean ====
/- The main call's gradients, over the reals. -/
module

public import proofs.«01_k».proof.Proof.MainIdeal.Body
public import proofs.«01_k».proof.Proof.Main.Args
public import Idealize.ShloMosaic.Lib.Pipeline.ValueKit

@[expose] public section

set_option maxRecDepth 16384

noncomputable section

open Idealize.ShloMosaic Idealize.ShloMosaic.TcCoe

namespace Cert.MainIdeal.Value

open Cert.MainIdeal Cert.MainIdeal.Gen Cert.Reals Cert.MainIdeal.Memory

/-- The blocks of head `h` hold these arguments. -/
structure Reads (A : Args) (h : Fin 4) (x0 x1 x2 : Vec Ideal S2x1x32x64x128 .f32) (x3 x4 : Vec Ideal S1x2x32x64x1 .f32)
    (x5 : Vec Ideal S2x256 .f32) (x6 : Vec Ideal S1x128x512 .f32) (x7 : Vec Ideal S1x512x128 .f32) (x8 : Vec Ideal S1x2x128 .f32) : Prop where
  k : ∀ g i r d, x0 (ix5 g 0 i r d) = (A.k g h i r d : EReal)
  v : ∀ g i r d, x1 (ix5 g 0 i r d) = (A.v g h i r d : EReal)
  q : ∀ g i r d, x2 (ix5 g 0 i r d) = (A.q g h i r d : EReal)
  lr : ∀ g i r, x3 (ix5 0 g i r 0) = (A.lr g h i r : EReal)
  gate : ∀ g i r, x4 (ix5 0 g i r 0) = (A.gate g h i r : EReal)
  mom : ∀ (g : Fin 2) (i : Fin 32) (n : Fin 256), n.val = 64 * h.val + 32 * g.val + i.val → x5 (ix2 0 n) = (A.mom g h i : EReal)
  dec : ∀ (g : Fin 2) (i : Fin 32) (n : Fin 256), n.val = 64 * h.val + 32 * g.val + i.val → x5 (ix2 1 n) = (A.dec g h i : EReal)
  w1 : ∀ d j, x6 (ix3 0 d j) = (A.w1 h d j : EReal)
  w2 : ∀ j d, x7 (ix3 0 j d) = (A.w2 h j d : EReal)
  g : ∀ d, x8 (ix3 0 0 d) = (A.g h d : EReal)
  b : ∀ d, x8 (ix3 0 1 d) = (A.b h d : EReal)

/-- A token's row among a head's. -/
abbrev row (g : Fin 2) (i : Fin 32) (r : Fin 64) : Fin 4096 := ⟨g.val * 2048 + i.val * 64 + r.val, by omega⟩

/-- The token of that row. -/
theorem tok {α : Type} (f : Fin 2 → Fin 32 → Fin 64 → α) (g : Fin 2) (i : Fin 32) (r : Fin 64) (h0 h1 h2) :
    f ⟨(g.val * 2048 + i.val * 64 + r.val) / 2048, h0⟩ ⟨(g.val * 2048 + i.val * 64 + r.val) / 64 % 32, h1⟩
      ⟨(g.val * 2048 + i.val * 64 + r.val) % 64, h2⟩ = f g i r := by
  have e0 : (g.val * 2048 + i.val * 64 + r.val) / 2048 = g.val := by omega
  have e1 : (g.val * 2048 + i.val * 64 + r.val) / 64 % 32 = i.val := by omega
  have e2 : (g.val * 2048 + i.val * 64 + r.val) % 64 = r.val := by omega
  simp only [e0, e1, e2]

theorem inv_sqrt_2 (b) : (Named.named (F := Ideal) κ (φ := .f32) "inv_sqrt_2" b) = (((√2)⁻¹ : ℝ) : EReal) := by
  simp [Named.named, κ]
theorem inv_sqrt_2pi (b) : (Named.named (F := Ideal) κ (φ := .f32) "inv_sqrt_2pi" b) = (((√(2 * Real.pi))⁻¹ : ℝ) : EReal) := by
  simp [Named.named, κ]
theorem erf_op (u : ℝ) : FloatOps.erf (F := Ideal) (φ := .f32) (u : EReal) = ((erf u : ℝ) : EReal) := erf_real u

variable {A : Args} {h : Fin 4} {x0 x1 x2 : Vec Ideal S2x1x32x64x128 .f32} {x3 x4 : Vec Ideal S1x2x32x64x1 .f32}
    {x5 : Vec Ideal S2x256 .f32} {x6 : Vec Ideal S1x128x512 .f32} {x7 : Vec Ideal S1x512x128 .f32} {x8 : Vec Ideal S1x2x128 .f32}
    (H : Reads A h x0 x1 x2 x3 x4 x5 x6 x7 x8)

/-- The scale's row and the shift's. -/
abbrev scale (x8 : Vec Ideal S1x2x128 .f32) : FVec Ideal S1x128 .f32 :=
  k0_pay48 (View.ld x8 (Rect.unit (s := S1x2x128) ![0, 0, 0] S1x1x128.size inb_S1x2x128_S1x1x128_0_0_0))
abbrev shift (x8 : Vec Ideal S1x2x128 .f32) : FVec Ideal S1x128 .f32 :=
  k0_pay49 (View.ld x8 (Rect.unit (s := S1x2x128) ![0, 1, 0] S1x1x128.size inb_S1x2x128_S1x1x128_0_1_0))

include H

theorem k46 (d j) : k0_pay46 x6 (ix2 d j) = (A.w1 h d j : EReal) := by
  pointwise [k0_pay46]
  exact H.w1 d j
theorem k47 (j d) : k0_pay47 x7 (ix2 j d) = (A.w2 h j d : EReal) := by
  pointwise [k0_pay47]
  exact H.w2 j d
theorem k48 (d) : scale x8 (ix2 0 d) = (A.g h d : EReal) := by
  pointwise [scale, k0_pay48]
  exact H.g d
theorem k49 (d) : shift x8 (ix2 0 d) = (A.b h d : EReal) := by
  pointwise [shift, k0_pay49]
  exact H.b d
theorem k50 (g i r d) : k0_pay50 x0 (ix2 (row g i r) d) = (A.k g h i r d : EReal) := by
  pointwise [k0_pay50]
  exact (tok (fun a b c => x0 (ix5 a 0 b c d)) g i r _ _ _).trans (H.k g i r d)
theorem k51 (g i r j) : k0_pay51 (k0_pay46 x6) (k0_pay50 x0) (ix2 (row g i r) j) = (A.u g h i r j : EReal) := by
  pointwise [k0_pay51]
  simp only [k46 H, k50 H, ← EReal.coe_mul, ← EReal.coe_add, ← EReal.coe_sub, coe_sum]
  rfl
theorem k52 (g i r j) : k0_pay52 (k0_pay46 x6) (k0_pay50 x0) (ix2 (row g i r) j) = (cdf (A.u g h i r j) : EReal) := by
  pointwise [k0_pay52]
  simp only [k51 H, half, inv_sqrt_2, one_coe, erf_op, ← EReal.coe_mul, ← EReal.coe_add, ← EReal.coe_sub, coe_sum]
  rfl
theorem k53 (g i r j) : k0_pay53 (k0_pay46 x6) (k0_pay50 x0) (ix2 (row g i r) j) = (act (A.u g h i r j) : EReal) := by
  pointwise [k0_pay53]
  simp only [k51 H, k52 H, ← EReal.coe_mul, ← EReal.coe_add, ← EReal.coe_sub, coe_sum]
  rfl
theorem k54 (g i r d) : k0_pay54 (k0_pay46 x6) (k0_pay47 x7) (k0_pay50 x0) (ix2 (row g i r) d) = (cen (A.y g h i r) d : EReal) := by
  pointwise [k0_pay54]
  simp only [k50 H, k53 H, k47 H, lanes, div_lanes, ← EReal.coe_mul, ← EReal.coe_add, ← EReal.coe_sub, coe_sum]
  rfl
theorem k55 (g i r w) : k0_pay55 (k0_pay46 x6) (k0_pay47 x7) (k0_pay50 x0) (ix2 (row g i r) w) = (rs eps (A.y g h i r) : EReal) := by
  pointwise [k0_pay55]
  simp only [k54 H, lanes, div_lanes, eps_coe, ← EReal.coe_mul, ← EReal.coe_add, ← EReal.coe_sub, coe_sum]
  exact rsqrt_var _
theorem k56 (g i r d) : k0_pay56 (k0_pay46 x6) (k0_pay47 x7) (k0_pay50 x0) (ix2 (row g i r) d) = (nrm eps (A.y g h i r) d : EReal) := by
  pointwise [k0_pay56]
  simp only [k54 H, k55 H, ← EReal.coe_mul, ← EReal.coe_add, ← EReal.coe_sub, coe_sum]
  rfl
theorem k57 (g i r d) : k0_pay57 (k0_pay46 x6) (k0_pay47 x7) (scale x8) (shift x8) (k0_pay50 x0) x1 x3 (ix2 (row g i r) d) = (A.e g h i r d : EReal) := by
  pointwise [k0_pay57]
  have hv := (tok (fun a b c => x1 (ix5 a 0 b c d)) g i r (by omega) (by omega) (by omega)).trans (H.v g i r d)
  simp only [k56 H, k48 H, k49 H, hv, H.lr, ← EReal.coe_mul, ← EReal.coe_add, ← EReal.coe_sub, coe_sum]
  rfl
theorem k58 (g i r d) : k0_pay58 (k0_pay46 x6) (k0_pay47 x7) (scale x8) (shift x8) (k0_pay50 x0) x1 x3 (ix2 (row g i r) d)
    = ((A.e g h i r d * nrm eps (A.y g h i r) d : ℝ) : EReal) := by
  pointwise [k0_pay58]
  simp only [k56 H, k57 H, ← EReal.coe_mul, ← EReal.coe_add, ← EReal.coe_sub, coe_sum]
theorem k59 (g i r d) : k0_pay59 (k0_pay46 x6) (k0_pay47 x7) (scale x8) (shift x8) (k0_pay50 x0) x1 x3 (ix2 (row g i r) d)
    = ((A.e g h i r d * A.g h d : ℝ) : EReal) := by
  pointwise [k0_pay59]
  simp only [k48 H, k57 H, ← EReal.coe_mul, ← EReal.coe_add, ← EReal.coe_sub, coe_sum]
theorem k60 (g i r d) : k0_pay60 (k0_pay55 (k0_pay46 x6) (k0_pay47 x7) (k0_pay50 x0)) (k0_pay56 (k0_pay46 x6) (k0_pay47 x7) (k0_pay50 x0))
    (k0_pay59 (k0_pay46 x6) (k0_pay47 x7) (scale x8) (shift x8) (k0_pay50 x0) x1 x3) (ix2 (row g i r) d) = (A.dy g h i r d : EReal) := by
  pointwise [k0_pay60]
  simp only [k55 H, k56 H, k59 H, lanes, div_lanes, ← EReal.coe_mul, ← EReal.coe_add, ← EReal.coe_sub, coe_sum]
  rfl

/-- The activations, -/
theorem part_a (g i r j) : partA x0 x1 x3 x6 x7 x8 (ix4 g i r j) = (act (A.u g h i r j) : EReal) := by
  pointwise [partA, k0_pay61]
  exact k53 H g i r j
/-- the gradients at the first layer's results, -/
theorem part_u (g i r j) : partU x0 x1 x3 x6 x7 x8 (ix4 g i r j) = (A.du g h i r j : EReal) := by
  pointwise [partU, k0_pay62]
  simp only [k51 H, k52 H, k60 H, k47 H, neg_half, inv_sqrt_2pi, Ideal.exp_coe, ← EReal.coe_mul, ← EReal.coe_add, ← EReal.coe_sub, coe_sum]
  rfl
/-- at the second's, -/
theorem part_y (g i r d) : partY x0 x1 x3 x6 x7 x8 (ix4 g i r d) = (A.dy g h i r d : EReal) := by
  pointwise [partY, k0_pay1, k0_pay63]
  exact k60 H g i r d
/-- and each chunk's of the scale and of the shift. -/
theorem part_g (g i w d) : partG x0 x1 x3 x6 x7 x8 (ix4 g i w d) = (A.gg g h i d : EReal) := by
  pointwise [partG, k0_pay2]
  simp only [k58 H, ← EReal.coe_mul, ← EReal.coe_add, ← EReal.coe_sub, coe_sum]
  rfl
theorem part_b (g i w d) : partB x0 x1 x3 x6 x7 x8 (ix4 g i w d) = (A.gb g h i d : EReal) := by
  pointwise [partB, k0_pay3]
  simp only [k57 H, ← EReal.coe_mul, ← EReal.coe_add, ← EReal.coe_sub, coe_sum]
  rfl

end Cert.MainIdeal.Value
end
-- ==== Proof.MainIdeal.Passes.lean ====
/- The main call's memory, over the reals: what the passes make of it and what it answers. -/
module

public import proofs.«01_k».proof.Proof.MainIdeal.Token

@[expose] public section

set_option maxRecDepth 16384

noncomputable section

open Idealize.ShloMosaic Idealize.ShloMosaic.TcCoe

namespace Cert.MainIdeal.Value

open Cert.MainIdeal Cert.MainIdeal.Gen Cert.Reals Cert.MainIdeal.Memory

/-- The memory of head `h` and batch entry `g` after `n` chunks. -/
structure Holds (A : Args) (g : Fin 2) (h : Fin 4) (n : ℕ) (s : Mem Ideal) : Prop where
  w1 : ∀ d j, s.w1 (ix3 0 d j) = (A.v1 g h n d j : EReal)
  m1 : ∀ d j, s.m1 (ix3 0 d j) = (A.m1 g h n d j : EReal)
  w2 : ∀ j d, s.w2 (ix3 0 j d) = (A.v2 g h n j d : EReal)
  m2 : ∀ j d, s.m2 (ix3 0 j d) = (A.m2 g h n j d : EReal)
  g0 : ∀ d, s.g0 (ix3 0 0 d) = (A.vg g h n d : EReal)
  g1 : ∀ d, s.g1 (ix3 0 0 d) = (A.vb g h n d : EReal)
  g2 : ∀ d, s.g2 (ix3 0 0 d) = (A.mg g h n d : EReal)
  g3 : ∀ d, s.g3 (ix3 0 0 d) = (A.mb g h n d : EReal)

/-- What a pass reads of chunk `k`. -/
structure Chunk (A : Args) (g : Fin 2) (h : Fin 4) (k : Fin 32) (mom dec : Elt Ideal .f32) (kb : Vec Ideal S1x1x1x64x128 .f32)
    (a du : Vec Ideal S1x1x64x512 .bf16) (dy : Vec Ideal S1x1x64x128 .bf16) (gg gb : Vec Ideal S1x1x1x128 .f32) : Prop where
  mom : mom = (A.mom g h k : EReal)
  dec : dec = (A.dec g h k : EReal)
  key : ∀ r d, kb (ix5 0 0 0 r d) = (A.k g h k r d : EReal)
  a : ∀ r j, a (ix4 0 0 r j) = (act (A.u g h k r j) : EReal)
  du : ∀ r j, du (ix4 0 0 r j) = (A.du g h k r j : EReal)
  dy : ∀ r d, dy (ix4 0 0 r d) = (A.dy g h k r d : EReal)
  gg : ∀ d, gg (ix4 0 0 0 d) = (A.gg g h k d : EReal)
  gb : ∀ d, gb (ix4 0 0 0 d) = (A.gb g h k d : EReal)

section

variable {A : Args} {g : Fin 2} {h : Fin 4} {k : Fin 32} {mom dec : Elt Ideal .f32} {kb : Vec Ideal S1x1x1x64x128 .f32}
    {a du : Vec Ideal S1x1x64x512 .bf16} {dy : Vec Ideal S1x1x64x128 .bf16} {gg gb : Vec Ideal S1x1x1x128 .f32} {s : Mem Ideal}
    (C : Chunk A g h k mom dec kb a du dy gg gb) (I : Holds A g h k.val s)

include C I

/-- The momenta after the chunk, -/
theorem next_m1 (d j) : k0_pay13 (k0_pay10 kb du) mom s.m1 (ix3 0 d j) = (A.m1 g h (k.val + 1) d j : EReal) := by
  pointwise [k0_pay13, k0_pay10]
  simp only [C.mom, C.key, C.du, I.m1, ← EReal.coe_mul, ← EReal.coe_add, ← EReal.coe_sub, coe_sum]
  exact congrArg _ (mo_succ _ _ k.val k.isLt).symm
theorem next_m2 (j d) : k0_pay14 (k0_pay9 a dy) mom s.m2 (ix3 0 j d) = (A.m2 g h (k.val + 1) j d : EReal) := by
  pointwise [k0_pay14, k0_pay9]
  simp only [C.mom, C.a, C.dy, I.m2, ← EReal.coe_mul, ← EReal.coe_add, ← EReal.coe_sub, coe_sum]
  exact congrArg _ (mo_succ _ _ k.val k.isLt).symm
theorem next_g2 (d) : k0_pay15 (k0_pay11 gg) mom s.g2 (ix3 0 0 d) = (A.mg g h (k.val + 1) d : EReal) := by
  pointwise [k0_pay15, k0_pay11]
  simp only [C.mom, C.gg, I.g2, ← EReal.coe_mul, ← EReal.coe_add, ← EReal.coe_sub, coe_sum]
  exact congrArg _ (mo_succ _ _ k.val k.isLt).symm
theorem next_g3 (d) : k0_pay16 (k0_pay12 gb) mom s.g3 (ix3 0 0 d) = (A.mb g h (k.val + 1) d : EReal) := by
  pointwise [k0_pay16, k0_pay12]
  simp only [C.mom, C.gb, I.g3, ← EReal.coe_mul, ← EReal.coe_add, ← EReal.coe_sub, coe_sum]
  exact congrArg _ (mo_succ _ _ k.val k.isLt).symm

/-- and the whole memory. -/
theorem Holds.update : Holds A g h (k.val + 1) (update mom dec kb a du dy gg gb s) where
  m1 := next_m1 C I
  m2 := next_m2 C I
  g2 := next_g2 C I
  g3 := next_g3 C I
  w1 d j := by
    show k0_pay18 dec s.w1 (k0_pay13 (k0_pay10 kb du) mom s.m1) (ix3 0 d j) = _
    pointwise [k0_pay18, k0_pay17]
    simp only [C.dec, next_m1 C I, I.w1, one_coe, ← EReal.coe_mul, ← EReal.coe_add, ← EReal.coe_sub, coe_sum]
    exact congrArg _ (we_succ _ _ _ _ k.val k.isLt).symm
  w2 j d := by
    show k0_pay20 (k0_pay19 dec s.w2) (k0_pay14 (k0_pay9 a dy) mom s.m2) (ix3 0 j d) = _
    pointwise [k0_pay20, k0_pay19, k0_pay17]
    simp only [C.dec, next_m2 C I, I.w2, one_coe, ← EReal.coe_mul, ← EReal.coe_add, ← EReal.coe_sub, coe_sum]
    exact congrArg _ (we_succ _ _ _ _ k.val k.isLt).symm
  g0 d := by
    show k0_pay21 (k0_pay17 dec) s.g0 (k0_pay15 (k0_pay11 gg) mom s.g2) (ix3 0 0 d) = _
    pointwise [k0_pay21, k0_pay17]
    simp only [C.dec, next_g2 C I, I.g0, one_coe, ← EReal.coe_mul, ← EReal.coe_add, ← EReal.coe_sub, coe_sum]
    exact congrArg _ (we_succ _ _ _ _ k.val k.isLt).symm
  g1 d := by
    show k0_pay22 (k0_pay17 dec) s.g1 (k0_pay16 (k0_pay12 gb) mom s.g3) (ix3 0 0 d) = _
    pointwise [k0_pay22, k0_pay17]
    simp only [C.dec, next_g3 C I, I.g1, one_coe, ← EReal.coe_mul, ← EReal.coe_add, ← EReal.coe_sub, coe_sum]
    exact congrArg _ (we_succ _ _ _ _ k.val k.isLt).symm

omit C in
/-- What the memory answers. -/
theorem Holds.answer {q : Vec Ideal S1x1x1x64x128 .f32} {gate : Vec Ideal S1x1x1x64x1 .f32}
    (hq : ∀ r d, q (ix5 0 0 0 r d) = (A.q g h k r d : EReal)) (hg : ∀ r, gate (ix5 0 0 0 r 0) = (A.gate g h k r : EReal)) (r d) :
    Memory.answer q gate s (ix5 0 0 0 r d) = (A.answer g h k r d : EReal) := by
  have hid (r d) : k0_pay6 q s.w1 s.w2 (ix2 r d) = (nrm eps (out (A.v1 g h k.val) (A.v2 g h k.val) (A.q g h k r)) d : EReal) := by
    pointwise [k0_pay6]
    simp only [hq, I.w1, I.w2, half, inv_sqrt_2, one_coe, erf_op, lanes, div_lanes, eps_coe, ← EReal.coe_mul, ← EReal.coe_add, ← EReal.coe_sub, coe_sum]
    exact congrArg _ (rsqrt_var _)
  pointwise [Memory.answer, k0_pay8, k0_pay7]
  simp only [hid, I.g0, I.g1, hg, ← EReal.coe_mul, ← EReal.coe_add, ← EReal.coe_sub, coe_sum]
  rfl

end

/-- A pass's chunk. -/
abbrev chunk (k : Fin k0_t1_loop.trips) : Fin 32 := ⟨k.val, lt_of_lt_of_eq k.isLt trips_eq⟩

/-- Where a pass's momentum and decay lie. -/
abbrev place (i : grid0.Coords) (k : Fin k0_t1_loop.trips) (g : Fin 2) : Fin 256 :=
  ⟨64 * (i 0).val + 32 * g.val + k.val, by have h : (i 0).val < 4 := (i 0).isLt; have := (chunk k).isLt; have : k.val < 32 := this; omega⟩

/-- Where a load at an offset reads: the place is the offset's, a coordinate at a time. -/
theorem at_off {S : Shape} {off off' : Fin S.rank → ℕ} {y : S.Idx} {x : Fin S.rank → ℕ} (e : off = off')
    (h : ∀ a, (y a).val = off' a + x a) : ∀ a, (y a : ℕ) = off a + x a := e ▸ h

section

variable {A : Args} {h : Fin 4} {x0 x1 x2 : Vec Ideal S2x1x32x64x128 .f32} {x3 x4 : Vec Ideal S1x2x32x64x1 .f32}
    {x5 : Vec Ideal S2x256 .f32} {x6 : Vec Ideal S1x128x512 .f32} {x7 : Vec Ideal S1x512x128 .f32} {x8 : Vec Ideal S1x2x128 .f32}
    (H : Reads A h x0 x1 x2 x3 x4 x5 x6 x7 x8)

include H

/-- The memories before the first pass. -/
theorem start_holds : Holds A 0 h 0 (start x6 x7 x8) where
  w1 d j := by pointwise [start, k0_pay38]; exact H.w1 d j
  m1 d j := by pointwise [start, k0_pay39]; exact EReal.coe_zero.symm
  w2 j d := by pointwise [start, k0_pay40]; exact H.w2 j d
  m2 j d := by pointwise [start, k0_pay41]; exact EReal.coe_zero.symm
  g0 d := by pointwise [start, k0_pay42]; exact H.g d
  g1 d := by pointwise [start, k0_pay42]; exact H.b d
  g2 d := by pointwise [start, k0_pay43]; exact EReal.coe_zero.symm
  g3 d := by pointwise [start, k0_pay43]; exact EReal.coe_zero.symm
theorem start_holds' : Holds A 1 h 0 (start' x6 x7 x8) where
  w1 d j := by pointwise [start', k0_pay38]; exact H.w1 d j
  m1 d j := by pointwise [start', k0_pay39]; exact EReal.coe_zero.symm
  w2 j d := by pointwise [start', k0_pay40]; exact H.w2 j d
  m2 j d := by pointwise [start', k0_pay41]; exact EReal.coe_zero.symm
  g0 d := by pointwise [start', k0_pay44]; exact H.g d
  g1 d := by pointwise [start', k0_pay44]; exact H.b d
  g2 d := by pointwise [start', k0_pay45]; exact EReal.coe_zero.symm
  g3 d := by pointwise [start', k0_pay45]; exact EReal.coe_zero.symm

variable {i : grid0.Coords} (hi : (i 0).val = h.val)

include hi

/-- Pass `k` on the memory of batch entry 0, -/
theorem step0_holds (k : Fin k0_t1_loop.trips) {s : Mem Ideal} (I : Holds A 0 h k.val s) :
    Holds A 0 h (k.val + 1) (step0 i x0 x5 (partA x0 x1 x3 x6 x7 x8) (partU x0 x1 x3 x6 x7 x8) (partY x0 x1 x3 x6 x7 x8) (partG x0 x1 x3 x6 x7 x8) (partB x0 x1 x3 x6 x7 x8) k s) :=
  Holds.update (k := chunk k) (g := 0) (h := h) (A := A)
    { mom := (View.ld_unit_apply_of _ _ _ _ _ (ix2 0 (place i k 0)) (at_off (k0_off6_eq i k 0) fun a => by fin_cases a <;> rfl)).trans (H.mom 0 (chunk k) _ (hi ▸ rfl))
      dec := (View.ld_unit_apply_of _ _ _ _ _ (ix2 1 (place i k 0)) (at_off (k0_off7_eq i k 0) fun a => by fin_cases a <;> rfl)).trans (H.dec 0 (chunk k) _ (hi ▸ rfl))
      key := fun r d => (View.ld_unit_apply_of _ _ _ _ _ (ix5 0 0 (chunk k) r d) (at_off (k0_off1_eq k) fun a => by fin_cases a <;> first | rfl | exact (Nat.zero_add _).symm)).trans (H.k 0 (chunk k) r d)
      a := fun r j => (View.ld_unit_apply_of _ _ _ _ _ (ix4 0 (chunk k) r j) (at_off (k0_off3_eq k) fun a => by fin_cases a <;> first | rfl | exact (Nat.zero_add _).symm)).trans (part_a H 0 (chunk k) r j)
      du := fun r j => (View.ld_unit_apply_of _ _ _ _ _ (ix4 0 (chunk k) r j) (at_off (k0_off3_eq k) fun a => by fin_cases a <;> first | rfl | exact (Nat.zero_add _).symm)).trans (part_u H 0 (chunk k) r j)
      dy := fun r d => (View.ld_unit_apply_of _ _ _ _ _ (ix4 0 (chunk k) r d) (at_off (k0_off4_eq k) fun a => by fin_cases a <;> first | rfl | exact (Nat.zero_add _).symm)).trans (part_y H 0 (chunk k) r d)
      gg := fun d => (View.ld_unit_apply_of _ _ _ _ _ (ix4 0 (chunk k) 0 d) (at_off (k0_off5_eq k) fun a => by fin_cases a <;> first | rfl | exact (Nat.zero_add _).symm)).trans (part_g H 0 (chunk k) 0 d)
      gb := fun d => (View.ld_unit_apply_of _ _ _ _ _ (ix4 0 (chunk k) 0 d) (at_off (k0_off5_eq k) fun a => by fin_cases a <;> first | rfl | exact (Nat.zero_add _).symm)).trans (part_b H 0 (chunk k) 0 d) } I

/-- the memory before every pass, -/
theorem mem0_holds : ∀ n, n < 32 → Holds A 0 h n (mem0 i x0 x1 x3 x6 x7 x8 x5 n)
  | 0, _ => start_holds H
  | n + 1, hn => by
    exact (congrArg (Holds A 0 h (n + 1)) (seq_succ _ _ ⟨n, by rw [trips_eq]; omega⟩)).mpr
      (step0_holds H hi ⟨n, by rw [trips_eq]; omega⟩ (mem0_holds n (by omega)))

/-- and the pass's answer. -/
theorem read0_eq (k : Fin k0_t1_loop.trips) (r d) :
    read0 x2 x4 k (mem0 i x0 x1 x3 x6 x7 x8 x5 k.val) (ix5 0 0 0 r d) = (A.answer 0 h (chunk k) r d : EReal) :=
  Holds.answer (k := chunk k) (mem0_holds H hi k.val (chunk k).isLt)
    (fun r d => (View.ld_unit_apply_of _ _ _ _ _ (ix5 0 0 (chunk k) r d) (at_off (k0_off1_eq k) fun a => by fin_cases a <;> first | rfl | exact (Nat.zero_add _).symm)).trans (H.q 0 (chunk k) r d))
    (fun r => (View.ld_unit_apply_of _ _ _ _ _ (ix5 0 0 (chunk k) r 0) (at_off (k0_off2_eq k) fun a => by fin_cases a <;> first | rfl | exact (Nat.zero_add _).symm)).trans (H.gate 0 (chunk k) r)) r d

/-- Pass `k` on the memory of batch entry 1, -/
theorem step1_holds (k : Fin k0_t1_loop.trips) {s : Mem Ideal} (I : Holds A 1 h k.val s) :
    Holds A 1 h (k.val + 1) (step1 i x0 x5 (partA x0 x1 x3 x6 x7 x8) (partU x0 x1 x3 x6 x7 x8) (partY x0 x1 x3 x6 x7 x8) (partG x0 x1 x3 x6 x7 x8) (partB x0 x1 x3 x6 x7 x8) k s) :=
  Holds.update (k := chunk k) (g := 1) (h := h) (A := A)
    { mom := (View.ld_unit_apply_of _ _ _ _ _ (ix2 0 (place i k 1)) (at_off (k0_off6_eq i k 1) fun a => by fin_cases a <;> rfl)).trans (H.mom 1 (chunk k) _ (hi ▸ rfl))
      dec := (View.ld_unit_apply_of _ _ _ _ _ (ix2 1 (place i k 1)) (at_off (k0_off7_eq i k 1) fun a => by fin_cases a <;> rfl)).trans (H.dec 1 (chunk k) _ (hi ▸ rfl))
      key := fun r d => (View.ld_unit_apply_of _ _ _ _ _ (ix5 1 0 (chunk k) r d) (at_off (k0_off8_eq k) fun a => by fin_cases a <;> first | rfl | exact (Nat.zero_add _).symm)).trans (H.k 1 (chunk k) r d)
      a := fun r j => (View.ld_unit_apply_of _ _ _ _ _ (ix4 1 (chunk k) r j) (at_off (k0_off10_eq k) fun a => by fin_cases a <;> first | rfl | exact (Nat.zero_add _).symm)).trans (part_a H 1 (chunk k) r j)
      du := fun r j => (View.ld_unit_apply_of _ _ _ _ _ (ix4 1 (chunk k) r j) (at_off (k0_off10_eq k) fun a => by fin_cases a <;> first | rfl | exact (Nat.zero_add _).symm)).trans (part_u H 1 (chunk k) r j)
      dy := fun r d => (View.ld_unit_apply_of _ _ _ _ _ (ix4 1 (chunk k) r d) (at_off (k0_off11_eq k) fun a => by fin_cases a <;> first | rfl | exact (Nat.zero_add _).symm)).trans (part_y H 1 (chunk k) r d)
      gg := fun d => (View.ld_unit_apply_of _ _ _ _ _ (ix4 1 (chunk k) 0 d) (at_off (k0_off12_eq k) fun a => by fin_cases a <;> first | rfl | exact (Nat.zero_add _).symm)).trans (part_g H 1 (chunk k) 0 d)
      gb := fun d => (View.ld_unit_apply_of _ _ _ _ _ (ix4 1 (chunk k) 0 d) (at_off (k0_off12_eq k) fun a => by fin_cases a <;> first | rfl | exact (Nat.zero_add _).symm)).trans (part_b H 1 (chunk k) 0 d) } I

/-- the memory before every pass, -/
theorem mem1_holds : ∀ n, n < 32 → Holds A 1 h n (mem1 i x0 x1 x3 x6 x7 x8 x5 n)
  | 0, _ => start_holds' H
  | n + 1, hn => by
    exact (congrArg (Holds A 1 h (n + 1)) (seq_succ _ _ ⟨n, by rw [trips_eq]; omega⟩)).mpr
      (step1_holds H hi ⟨n, by rw [trips_eq]; omega⟩ (mem1_holds n (by omega)))

/-- and the pass's answer. -/
theorem read1_eq (k : Fin k0_t1_loop.trips) (r d) :
    read1 x2 x4 k (mem1 i x0 x1 x3 x6 x7 x8 x5 k.val) (ix5 0 0 0 r d) = (A.answer 1 h (chunk k) r d : EReal) :=
  Holds.answer (k := chunk k) (mem1_holds H hi k.val (chunk k).isLt)
    (fun r d => (View.ld_unit_apply_of _ _ _ _ _ (ix5 1 0 (chunk k) r d) (at_off (k0_off8_eq k) fun a => by fin_cases a <;> first | rfl | exact (Nat.zero_add _).symm)).trans (H.q 1 (chunk k) r d))
    (fun r => (View.ld_unit_apply_of _ _ _ _ _ (ix5 0 1 (chunk k) r 0) (at_off (k0_off9_eq k) fun a => by fin_cases a <;> first | rfl | exact (Nat.zero_add _).symm)).trans (H.gate 1 (chunk k) r)) r d

/-- What the body leaves of its result. -/
theorem block_eq (g : Fin 2) (t r d) : block i x0 x1 x3 x6 x7 x8 x2 x4 x5 (ix5 g 0 t r d) = (A.answer g h t r d : EReal) := by
  unfold block
  match g with
  | 0 => exact (if_pos rfl).trans (read0_eq H hi ⟨t.val, lt_of_lt_of_eq t.isLt trips_eq.symm⟩ r d)
  | 1 => exact (if_neg Nat.one_ne_zero).trans (read1_eq H hi ⟨t.val, lt_of_lt_of_eq t.isLt trips_eq.symm⟩ r d)

end

end Cert.MainIdeal.Value
end
-- ==== Proof.Main.Ref.lean ====
/- The reference's gradients of the memory's loss at the first weights, over the reals. -/
module

public import proofs.«01_k».proof.Proof.Gen.MainHostIdeal.Read
public import proofs.«01_k».proof.Proof.Main.Args
public import Idealize.ShloMosaic.Lib.Pipeline.ValueKit

@[expose] public section

set_option maxRecDepth 16384

noncomputable section

open Idealize.ShloMosaic Idealize.ShloMosaic.TcCoe

namespace Cert.MainHostIdeal.Value

open Cert.MainHostIdeal Cert.MainHostIdeal.Gen Cert.MainHostIdeal.Read Cert.Reals

variable (A : Args)

/-- The first layer, -/
theorem r20 (b h i r j) : val_main_v20 (F := Ideal) A.x0 A.x5 (ix5 b h i r j) = ((A.u b h i r j : ℝ) : EReal) := by
  pointwise [val_main_v20, val_main_v13, val_main_v12]
  simp only [Args.at0, Args.at5, ← EReal.coe_mul, ← EReal.coe_add, ← EReal.coe_sub, ← EReal.coe_neg, coe_sum]
  rfl

theorem r36 (b h i r j) : val_main_v36 (F := Ideal) A.x0 A.x5 (ix5 b h i r j) = ((1 + erf (A.u b h i r j * √(1 / 2)) : ℝ) : EReal) := by
  pointwise [val_main_v36, val_main_v35, val_main_v26, val_main_v25, val_main_v24, val_main_v23, val_main_cst_1, val_main_cst_4]
  simp only [r20, half, sqrt_half, erf_real, one_coe, ← EReal.coe_mul, ← EReal.coe_add, ← EReal.coe_sub, ← EReal.coe_neg, coe_sum]

/-- the activation, -/
theorem r37 (b h i r j) : val_main_v37 (F := Ideal) A.x0 A.x5 (ix5 b h i r j) = ((act (A.u b h i r j) : ℝ) : EReal) := by
  pointwise [val_main_v37, val_main_v22, val_main_v21, val_main_cst_0]
  simp only [r20, r36, half, ← EReal.coe_mul, ← EReal.coe_add, ← EReal.coe_sub, ← EReal.coe_neg, coe_sum]
  rw [act_eq]

/-- what is normalized, -/
theorem r39 (b h i r d) : val_main_v39 (F := Ideal) A.x0 A.x5 A.x6 (ix5 b h i r d) = ((A.y b h i r d : ℝ) : EReal) := by
  pointwise [val_main_v39, val_main_v38, val_main_v15, val_main_v14]
  simp only [r37, Args.at0, Args.at6, ← EReal.coe_mul, ← EReal.coe_add, ← EReal.coe_sub, ← EReal.coe_neg, coe_sum]
  rfl

/-- its mean, -/
theorem r43 (b h i r w) : val_main_v43 (F := Ideal) A.x0 A.x5 A.x6 (ix5 b h i r w) = ((mean (A.y b h i r) : ℝ) : EReal) := by
  pointwise [val_main_v43, val_main_v42, val_main_v41, val_main_v40, val_main_cst_5, val_main_cst_6]
  simp only [r39, lanes, div_lanes, ← EReal.coe_mul, ← EReal.coe_add, ← EReal.coe_sub, ← EReal.coe_neg, coe_sum]
  rfl

theorem r45 (b h i r d) : val_main_v45 (F := Ideal) A.x0 A.x5 A.x6 (ix5 b h i r d) = ((cen (A.y b h i r) d : ℝ) : EReal) := by
  pointwise [val_main_v45, val_main_v44]
  simp only [r39, r43, ← EReal.coe_mul, ← EReal.coe_add, ← EReal.coe_sub, ← EReal.coe_neg, coe_sum]
  rfl

theorem r54 (b h i r d) : val_main_v54 (F := Ideal) A.x0 A.x5 A.x6 (ix5 b h i r d) = ((cen (A.y b h i r) d : ℝ) : EReal) := by
  pointwise [val_main_v54, val_main_v53]
  simp only [r39, r43, ← EReal.coe_mul, ← EReal.coe_add, ← EReal.coe_sub, ← EReal.coe_neg, coe_sum]
  rfl

/-- its variance, -/
theorem r56 (b h i r w) : val_main_v56 (F := Ideal) A.x0 A.x5 A.x6 (ix5 b h i r w) = ((var eps (A.y b h i r) : ℝ) : EReal) := by
  pointwise [val_main_v56, val_main_v55, val_main_v52, val_main_v51, val_main_v50, val_main_v49, val_main_v46, val_main_cst_8, val_main_cst_9, val_main_cst_10]
  simp only [r45, lanes, div_lanes, eps_coe, ← EReal.coe_mul, ← EReal.coe_add, ← EReal.coe_sub, ← EReal.coe_neg, coe_sum]
  rfl

theorem r57 (b h i r w) : val_main_v57 (F := Ideal) A.x0 A.x5 A.x6 (ix5 b h i r w) = ((rs eps (A.y b h i r) : ℝ) : EReal) := by
  pointwise [val_main_v57]
  simp only [r56, rsqrt_var, ← EReal.coe_mul, ← EReal.coe_add, ← EReal.coe_sub, ← EReal.coe_neg, coe_sum]

theorem r60 (b h i r w) : val_main_v60 (F := Ideal) A.x0 A.x5 A.x6 (ix5 b h i r w) = ((-(1 / 2) * (rs eps (A.y b h i r) / var eps (A.y b h i r)) : ℝ) : EReal) := by
  pointwise [val_main_v60, val_main_v59, val_main_v58, val_main_cst_11]
  simp only [r56, r57, neg_half, div_real (var_pos eps_pos _).ne', ← EReal.coe_mul, ← EReal.coe_add, ← EReal.coe_sub, ← EReal.coe_neg, coe_sum]

/-- its normalized lanes, -/
theorem r62 (b h i r d) : val_main_v62 (F := Ideal) A.x0 A.x5 A.x6 (ix5 b h i r d) = ((nrm eps (A.y b h i r) d : ℝ) : EReal) := by
  pointwise [val_main_v62, val_main_v61]
  simp only [r54, r57, ← EReal.coe_mul, ← EReal.coe_add, ← EReal.coe_sub, ← EReal.coe_neg, coe_sum]
  rfl

/-- the gradient of the answer, -/
theorem r87 (b h i r d) : val_main_v87 (F := Ideal) A.x0 A.x1 A.x3 A.x5 A.x6 A.x7 A.x8 (ix5 b h i r d) = ((A.e b h i r d : ℝ) : EReal) := by
  pointwise [val_main_v87, val_main_v86, val_main_v85, val_main_v84, val_main_v83, val_main_v82, val_main_v81, val_main_v80, val_main_v79, val_main_v78, val_main_v72, val_main_v71, val_main_v69, val_main_v68, val_main_v67, val_main_v66, val_main_v65, val_main_v64, val_main_v63, val_main_v19, val_main_v18, val_main_v17, val_main_v16, val_main_v3, val_main_v2, val_main_v1, val_main_v0, val_main_cst, val_main_cst_12, val_main_cst_16, val_main_cst_17]
  simp only [r62, Args.at1, Args.at3, Args.at7, Args.at8, sixty_four, two, lanes, div_lanes, ← EReal.coe_mul, ← EReal.coe_add, ← EReal.coe_sub, ← EReal.coe_neg, coe_sum]
  refine congrArg _ ?_
  unfold Args.e err Args.lr
  ring

/-- of the shift, -/
theorem r90 (b h i d) : val_main_v90 (F := Ideal) A.x0 A.x1 A.x3 A.x5 A.x6 A.x7 A.x8 (ix4 b h i d) = ((A.gb b h i d : ℝ) : EReal) := by
  pointwise [val_main_v90, val_main_v89, val_main_v88, val_main_cst_18, val_main_cst_19]
  simp only [r87, ← EReal.coe_mul, ← EReal.coe_add, ← EReal.coe_sub, ← EReal.coe_neg, coe_sum]
  simp [Args.gb]

/-- of the scale, -/
theorem r96 (b h i d) : val_main_v96 (F := Ideal) A.x0 A.x1 A.x3 A.x5 A.x6 A.x7 A.x8 (ix4 b h i d) = ((A.gg b h i d : ℝ) : EReal) := by
  pointwise [val_main_v96, val_main_v93, val_main_v92, val_main_v91, val_main_cst_20, val_main_cst_21]
  simp only [r87, r62, ← EReal.coe_mul, ← EReal.coe_add, ← EReal.coe_sub, ← EReal.coe_neg, coe_sum]
  simp only [Args.gg, mul_comm]
  simp

theorem r95 (b h i r d) : val_main_v95 (F := Ideal) A.x0 A.x1 A.x3 A.x5 A.x6 A.x7 A.x8 (ix5 b h i r d) = ((A.e b h i r d * A.g h d : ℝ) : EReal) := by
  pointwise [val_main_v95, val_main_v94, val_main_v63, val_main_v17, val_main_v16]
  simp only [r87, Args.at7, ← EReal.coe_mul, ← EReal.coe_add, ← EReal.coe_sub, ← EReal.coe_neg, coe_sum]

theorem r101 (b h i r d) : val_main_v101 (F := Ideal) A.x0 A.x1 A.x3 A.x5 A.x6 A.x7 A.x8 (ix5 b h i r d) = ((A.e b h i r d * A.g h d * rs eps (A.y b h i r) : ℝ) : EReal) := by
  pointwise [val_main_v101, val_main_v100]
  simp only [r95, r57, ← EReal.coe_mul, ← EReal.coe_add, ← EReal.coe_sub, ← EReal.coe_neg, coe_sum]

theorem r110 (b h i r d) : val_main_v110 (F := Ideal) A.x0 A.x1 A.x3 A.x5 A.x6 A.x7 A.x8 (ix5 b h i r d) = (((∑ l, cen (A.y b h i r) l * (A.e b h i r l * A.g h l)) * (-(1 / 2) * (rs eps (A.y b h i r) / var eps (A.y b h i r))) / 128 * (2 * cen (A.y b h i r) d) : ℝ) : EReal) := by
  pointwise [val_main_v110, val_main_v109, val_main_v108, val_main_v107, val_main_v106, val_main_v102, val_main_v99, val_main_v98, val_main_v97, val_main_v48, val_main_v47, val_main_cst_22, val_main_cst_24, val_main_cst_25, val_main_cst_7]
  simp only [r45, r54, r60, r95, two, lanes, div_lanes, ← EReal.coe_mul, ← EReal.coe_add, ← EReal.coe_sub, ← EReal.coe_neg, coe_sum]
  simp

/-- of what is normalized, -/
theorem r120 (b h i r d) : val_main_v120 (F := Ideal) A.x0 A.x1 A.x3 A.x5 A.x6 A.x7 A.x8 (ix5 b h i r d) = ((A.dy b h i r d : ℝ) : EReal) := by
  pointwise [val_main_v120, val_main_v119, val_main_v118, val_main_v117, val_main_v116, val_main_v115, val_main_v114, val_main_v113, val_main_v112, val_main_v111, val_main_v105, val_main_v104, val_main_v103, val_main_cst_23, val_main_cst_26, val_main_cst_27, val_main_cst_28]
  simp only [r101, r110, lanes, div_lanes, ← EReal.coe_mul, ← EReal.coe_add, ← EReal.coe_sub, ← EReal.coe_neg, coe_sum]
  refine congrArg _ ?_
  rw [Args.dy, ← back_eq eps_pos]
  simp

/-- of the second layer, -/
theorem r122 (b h i j d) : val_main_v122 (F := Ideal) A.x0 A.x1 A.x3 A.x5 A.x6 A.x7 A.x8 (ix5 b h i j d) = ((A.gw2 b h i j d : ℝ) : EReal) := by
  pointwise [val_main_v122, val_main_v121]
  simp only [r120, r37, ← EReal.coe_mul, ← EReal.coe_add, ← EReal.coe_sub, ← EReal.coe_neg, coe_sum]
  simp only [Args.gw2, mul_comm]

theorem r123 (b h i r j) : val_main_v123 (F := Ideal) A.x0 A.x1 A.x3 A.x5 A.x6 A.x7 A.x8 (ix5 b h i r j) = ((∑ d, A.dy b h i r d * A.w2 h j d : ℝ) : EReal) := by
  pointwise [val_main_v123, val_main_v15, val_main_v14]
  simp only [r120, Args.at6, ← EReal.coe_mul, ← EReal.coe_add, ← EReal.coe_sub, ← EReal.coe_neg, coe_sum]

/-- of the first layer's result, -/
theorem r131 (b h i r j) : val_main_v131 (F := Ideal) A.x0 A.x1 A.x3 A.x5 A.x6 A.x7 A.x8 (ix5 b h i r j) = ((A.du b h i r j : ℝ) : EReal) := by
  pointwise [val_main_v131, val_main_v130, val_main_v129, val_main_v128, val_main_v127, val_main_v126, val_main_v125, val_main_v124, val_main_v34, val_main_v33, val_main_v32, val_main_v31, val_main_v30, val_main_v29, val_main_v28, val_main_v27, val_main_v25, val_main_v24, val_main_v23, val_main_v22, val_main_v21, val_main_cst_0, val_main_cst_1, val_main_cst_2, val_main_cst_3, val_main_cst_29]
  simp only [r20, r36, r123, half, two, neg_one, sqrt_half, rsqrt_pi, Ideal.exp_coe, ← EReal.coe_mul, ← EReal.coe_add, ← EReal.coe_sub, ← EReal.coe_neg, coe_sum]
  refine congrArg _ ?_
  rw [Args.du, ← actD_eq]
  ring

/-- and of the first layer. -/
theorem r133 (b h i d j) : val_main_v133 (F := Ideal) A.x0 A.x1 A.x3 A.x5 A.x6 A.x7 A.x8 (ix5 b h i d j) = ((A.gw1 b h i d j : ℝ) : EReal) := by
  pointwise [val_main_v133, val_main_v132]
  simp only [r131, Args.at0, ← EReal.coe_mul, ← EReal.coe_add, ← EReal.coe_sub, ← EReal.coe_neg, coe_sum]
  simp only [Args.gw1, mul_comm]

end Cert.MainHostIdeal.Value

end
-- ==== Proof.Main.Weights.lean ====
/- The reference's weights at every chunk and its answers, over the reals. -/
module

public import proofs.«01_k».proof.Proof.Gen.MainHostIdeal.Read
public import proofs.«01_k».proof.Proof.Main.Ref
public import Idealize.ShloMosaic.Lib.Pipeline.ValueKit

@[expose] public section

set_option maxRecDepth 16384

noncomputable section

open Idealize.ShloMosaic Idealize.ShloMosaic.TcCoe

namespace Cert.MainHostIdeal.Value

open Cert.MainHostIdeal Cert.MainHostIdeal.Gen Cert.MainHostIdeal.Read Cert.Reals

variable (A : Args)

/-- A chunk's momentum, in the product at `t` of those after `s`, -/
theorem r154 (b h t s r) : val_main_v154 (F := Ideal) A.x4 (ix5 b h t s r) = ((if s.val < r.val ∧ r.val ≤ t.val then A.mom b h r else 1 : ℝ) : EReal) := by
  pointwise [val_main_v154, val_main_v153, val_main_v152, val_main_v151, val_main_v150, val_main_v149, val_main_v148, val_main_v147, val_main_v146, val_main_v145, val_main_v144, val_main_v137, val_main_v135, val_main_v134, val_main_v136, val_main_v139, val_main_v138, val_main_cst_30, val_main_call0_v0, val_main_call0_v1, val_main_call0_v2, val_main_call0_v3, val_main_v8, val_main_v7, val_main_v6]
  simp only [lt_word, le_word, and_word, select_word, Args.at4, id, constant, one', zero', coe_if, coe_prod, one_coe, Args.mom]

/-- a chunk's share kept, in the product before `t` of those after `s`, -/
theorem r188 (b h t s r) : val_main_v188 (F := Ideal) A.x4 (ix5 b h t s r) = ((if s.val < r.val ∧ r.val < t.val then 1 - A.dec b h r else 1 : ℝ) : EReal) := by
  pointwise [val_main_v188, val_main_v187, val_main_v186, val_main_v185, val_main_v184, val_main_v183, val_main_v182, val_main_v181, val_main_v180, val_main_v179, val_main_v178, val_main_v177, val_main_v176, val_main_v137, val_main_v135, val_main_v134, val_main_v136, val_main_v139, val_main_v138, val_main_cst_32, val_main_cst_33, val_main_call2_v0, val_main_call2_v1, val_main_call2_v2, val_main_call2_v3, val_main_v11, val_main_v10, val_main_v9]
  simp only [lt_word, le_word, and_word, select_word, Args.at4, id, constant, one', zero', coe_if, coe_prod, one_coe, ← EReal.coe_sub, Args.dec]

/-- and in the product of all before `t`. -/
theorem r212 (b h t w r) : val_main_v212 (F := Ideal) A.x4 (ix5 b h t w r) = ((if r.val < t.val then 1 - A.dec b h r else 1 : ℝ) : EReal) := by
  pointwise [val_main_v212, val_main_v211, val_main_v210, val_main_v209, val_main_v208, val_main_v207, val_main_v206, val_main_v137, val_main_v135, val_main_v134, val_main_v136, val_main_v139, val_main_v138, val_main_cst_35, val_main_cst_36, val_main_call4_v0, val_main_call4_v1, val_main_call4_v2, val_main_call4_v3, val_main_v11, val_main_v10, val_main_v9]
  simp only [lt_word, le_word, and_word, select_word, Args.at4, id, constant, one', zero', coe_if, coe_prod, one_coe, ← EReal.coe_sub, Args.dec]

/-- The products, by halves. -/
theorem p169 (b h t s w') : val_main_v169 (F := Ideal) A.x4 (ix5 b h t s w') = ∏ r, val_main_v154 (F := Ideal) A.x4 (ix5 b h t s r) := by
  rw [prod_halves (m := 32) (n := 16) rfl (fun r => val_main_v154 (F := Ideal) A.x4 (ix5 b h t s r)) (fun r => val_main_v157 (F := Ideal) A.x4 (ix5 b h t s r)) fun r => by pointwise [val_main_v157, val_main_v156, val_main_v155]]
  rw [prod_halves (m := 16) (n := 8) rfl (fun r => val_main_v157 (F := Ideal) A.x4 (ix5 b h t s r)) (fun r => val_main_v160 (F := Ideal) A.x4 (ix5 b h t s r)) fun r => by pointwise [val_main_v160, val_main_v159, val_main_v158]]
  rw [prod_halves (m := 8) (n := 4) rfl (fun r => val_main_v160 (F := Ideal) A.x4 (ix5 b h t s r)) (fun r => val_main_v163 (F := Ideal) A.x4 (ix5 b h t s r)) fun r => by pointwise [val_main_v163, val_main_v162, val_main_v161]]
  rw [prod_halves (m := 4) (n := 2) rfl (fun r => val_main_v163 (F := Ideal) A.x4 (ix5 b h t s r)) (fun r => val_main_v166 (F := Ideal) A.x4 (ix5 b h t s r)) fun r => by pointwise [val_main_v166, val_main_v165, val_main_v164]]
  rw [Fin.prod_univ_two]
  pointwise [val_main_v169, val_main_v168, val_main_v167]

/-- The products, by halves. -/
theorem p203 (b h t s w') : val_main_v203 (F := Ideal) A.x4 (ix5 b h t s w') = ∏ r, val_main_v188 (F := Ideal) A.x4 (ix5 b h t s r) := by
  rw [prod_halves (m := 32) (n := 16) rfl (fun r => val_main_v188 (F := Ideal) A.x4 (ix5 b h t s r)) (fun r => val_main_v191 (F := Ideal) A.x4 (ix5 b h t s r)) fun r => by pointwise [val_main_v191, val_main_v190, val_main_v189]]
  rw [prod_halves (m := 16) (n := 8) rfl (fun r => val_main_v191 (F := Ideal) A.x4 (ix5 b h t s r)) (fun r => val_main_v194 (F := Ideal) A.x4 (ix5 b h t s r)) fun r => by pointwise [val_main_v194, val_main_v193, val_main_v192]]
  rw [prod_halves (m := 8) (n := 4) rfl (fun r => val_main_v194 (F := Ideal) A.x4 (ix5 b h t s r)) (fun r => val_main_v197 (F := Ideal) A.x4 (ix5 b h t s r)) fun r => by pointwise [val_main_v197, val_main_v196, val_main_v195]]
  rw [prod_halves (m := 4) (n := 2) rfl (fun r => val_main_v197 (F := Ideal) A.x4 (ix5 b h t s r)) (fun r => val_main_v200 (F := Ideal) A.x4 (ix5 b h t s r)) fun r => by pointwise [val_main_v200, val_main_v199, val_main_v198]]
  rw [Fin.prod_univ_two]
  pointwise [val_main_v203, val_main_v202, val_main_v201]

/-- The products, by halves. -/
theorem p227 (b h t w') : val_main_v227 (F := Ideal) A.x4 (ix5 b h t 0 w') = ∏ r, val_main_v212 (F := Ideal) A.x4 (ix5 b h t 0 r) := by
  rw [prod_halves (m := 32) (n := 16) rfl (fun r => val_main_v212 (F := Ideal) A.x4 (ix5 b h t 0 r)) (fun r => val_main_v215 (F := Ideal) A.x4 (ix5 b h t 0 r)) fun r => by pointwise [val_main_v215, val_main_v214, val_main_v213]]
  rw [prod_halves (m := 16) (n := 8) rfl (fun r => val_main_v215 (F := Ideal) A.x4 (ix5 b h t 0 r)) (fun r => val_main_v218 (F := Ideal) A.x4 (ix5 b h t 0 r)) fun r => by pointwise [val_main_v218, val_main_v217, val_main_v216]]
  rw [prod_halves (m := 8) (n := 4) rfl (fun r => val_main_v218 (F := Ideal) A.x4 (ix5 b h t 0 r)) (fun r => val_main_v221 (F := Ideal) A.x4 (ix5 b h t 0 r)) fun r => by pointwise [val_main_v221, val_main_v220, val_main_v219]]
  rw [prod_halves (m := 4) (n := 2) rfl (fun r => val_main_v221 (F := Ideal) A.x4 (ix5 b h t 0 r)) (fun r => val_main_v224 (F := Ideal) A.x4 (ix5 b h t 0 r)) fun r => by pointwise [val_main_v224, val_main_v223, val_main_v222]]
  rw [Fin.prod_univ_two]
  pointwise [val_main_v227, val_main_v226, val_main_v225]

/-- What is kept of a gradient, -/
theorem r171 (b h t s) : val_main_v171 (F := Ideal) A.x4 (ix4 b h t s) = (keptM (A.mom b h) t s : EReal) := by
  pointwise [val_main_v171, val_main_v143, val_main_v142, val_main_v141, val_main_v140, val_main_v137, val_main_v135, val_main_v134, val_main_v136, val_main_v139, val_main_v138, val_main_cst_31, val_main_call1_v0, val_main_call1_v1, val_main_call1_v2, val_main_v170]
  simp only [p169, r154, lt_word, le_word, and_word, select_word, Args.at4, id, constant, one', zero', coe_if, coe_prod, one_coe, keptM]

/-- of a momentum, -/
theorem r205 (b h t s) : val_main_v205 (F := Ideal) A.x4 (ix4 b h t s) = (keptW (A.dec b h) t s : EReal) := by
  pointwise [val_main_v205, val_main_v175, val_main_v174, val_main_v173, val_main_v172, val_main_v137, val_main_v135, val_main_v134, val_main_v136, val_main_v139, val_main_v138, val_main_cst_34, val_main_call3_v0, val_main_call3_v1, val_main_call3_v2, val_main_v204]
  simp only [p203, r188, lt_word, le_word, and_word, select_word, Args.at4, id, constant, one', zero', coe_if, coe_prod, one_coe, keptW]

/-- and of the first weight. -/
theorem r229 (b h t) : val_main_v229 (F := Ideal) A.x4 (ix3 b h t) = (kept0 (A.dec b h) t : EReal) := by
  pointwise [val_main_v229, val_main_v228]
  simp only [p227, r212, lt_word, le_word, and_word, select_word, Args.at4, id, constant, one', zero', coe_if, coe_prod, one_coe, kept0]

/-- The weights of the first layer, -/
theorem r238 (b h t d j) : val_main_v238 (F := Ideal) A.x0 A.x1 A.x3 A.x4 A.x5 A.x6 A.x7 A.x8 (ix5 b h t d j) = ((A.v1 b h t.val d j : ℝ) : EReal) := by
  pointwise [val_main_v238, val_main_v237, val_main_v236, val_main_v235, val_main_v234, val_main_v233, val_main_v232, val_main_v231, val_main_v230]
  simp only [r171, r205, r229, r133, Args.at5, ← EReal.coe_mul, ← EReal.coe_add, ← EReal.coe_sub, ← EReal.coe_neg, coe_sum]
  rw [Args.v1, we_eq]

/-- of the second, -/
theorem r247 (b h t j d) : val_main_v247 (F := Ideal) A.x0 A.x1 A.x3 A.x4 A.x5 A.x6 A.x7 A.x8 (ix5 b h t j d) = ((A.v2 b h t.val j d : ℝ) : EReal) := by
  pointwise [val_main_v247, val_main_v246, val_main_v245, val_main_v244, val_main_v243, val_main_v242, val_main_v241, val_main_v240, val_main_v239]
  simp only [r171, r205, r229, r122, Args.at6, ← EReal.coe_mul, ← EReal.coe_add, ← EReal.coe_sub, ← EReal.coe_neg, coe_sum]
  rw [Args.v2, we_eq]

/-- of the scale -/
theorem r256 (b h t d) : val_main_v256 (F := Ideal) A.x0 A.x1 A.x3 A.x4 A.x5 A.x6 A.x7 A.x8 (ix4 b h t d) = ((A.vg b h t.val d : ℝ) : EReal) := by
  pointwise [val_main_v256, val_main_v255, val_main_v254, val_main_v253, val_main_v252, val_main_v251, val_main_v250, val_main_v249, val_main_v248]
  simp only [r171, r205, r229, r96, Args.at7, ← EReal.coe_mul, ← EReal.coe_add, ← EReal.coe_sub, ← EReal.coe_neg, coe_sum]
  rw [Args.vg, we_eq]

/-- and of the shift. -/
theorem r265 (b h t d) : val_main_v265 (F := Ideal) A.x0 A.x1 A.x3 A.x4 A.x5 A.x6 A.x7 A.x8 (ix4 b h t d) = ((A.vb b h t.val d : ℝ) : EReal) := by
  pointwise [val_main_v265, val_main_v264, val_main_v263, val_main_v262, val_main_v261, val_main_v260, val_main_v259, val_main_v258, val_main_v257]
  simp only [r171, r205, r229, r90, Args.at8, ← EReal.coe_mul, ← EReal.coe_add, ← EReal.coe_sub, ← EReal.coe_neg, coe_sum]
  rw [Args.vb, we_eq]

/-- A query's first layer, -/
theorem r266 (b h i r j) : val_main_v266 (F := Ideal) A.x0 A.x1 A.x2 A.x3 A.x4 A.x5 A.x6 A.x7 A.x8 (ix5 b h i r j) = ((hid (A.v1 b h i.val) (A.q b h i r) j : ℝ) : EReal) := by
  pointwise [val_main_v266]
  simp only [r238, Args.at2, ← EReal.coe_mul, ← EReal.coe_add, ← EReal.coe_sub, ← EReal.coe_neg, coe_sum]
  rfl

/-- its activation, -/
theorem r275 (b h i r j) : val_main_v275 (F := Ideal) A.x0 A.x1 A.x2 A.x3 A.x4 A.x5 A.x6 A.x7 A.x8 (ix5 b h i r j) = ((act (hid (A.v1 b h i.val) (A.q b h i r) j) : ℝ) : EReal) := by
  pointwise [val_main_v275, val_main_v274, val_main_v273, val_main_v272, val_main_v271, val_main_v270, val_main_v269, val_main_v268, val_main_v267, val_main_cst_37, val_main_cst_38, val_main_cst_39]
  simp only [r266, half, sqrt_half, erf_real, one_coe, ← EReal.coe_mul, ← EReal.coe_add, ← EReal.coe_sub, ← EReal.coe_neg, coe_sum]
  rw [act_eq]

/-- what is normalized, -/
theorem r277 (b h i r d) : val_main_v277 (F := Ideal) A.x0 A.x1 A.x2 A.x3 A.x4 A.x5 A.x6 A.x7 A.x8 (ix5 b h i r d) = (((out (A.v1 b h i.val) (A.v2 b h i.val) (A.q b h i r)) d : ℝ) : EReal) := by
  pointwise [val_main_v277, val_main_v276]
  simp only [r275, r247, Args.at2, ← EReal.coe_mul, ← EReal.coe_add, ← EReal.coe_sub, ← EReal.coe_neg, coe_sum]
  rfl

theorem r283 (b h i r d) : val_main_v283 (F := Ideal) A.x0 A.x1 A.x2 A.x3 A.x4 A.x5 A.x6 A.x7 A.x8 (ix5 b h i r d) = ((cen (out (A.v1 b h i.val) (A.v2 b h i.val) (A.q b h i r)) d : ℝ) : EReal) := by
  pointwise [val_main_v283, val_main_v282, val_main_v281, val_main_v280, val_main_v279, val_main_v278, val_main_cst_40, val_main_cst_41]
  simp only [r277, lanes, div_lanes, ← EReal.coe_mul, ← EReal.coe_add, ← EReal.coe_sub, ← EReal.coe_neg, coe_sum]
  rfl

theorem r290 (b h i r d) : val_main_v290 (F := Ideal) A.x0 A.x1 A.x2 A.x3 A.x4 A.x5 A.x6 A.x7 A.x8 (ix5 b h i r d) = ((cen (out (A.v1 b h i.val) (A.v2 b h i.val) (A.q b h i r)) d : ℝ) : EReal) := by
  pointwise [val_main_v290, val_main_v289, val_main_v281, val_main_v280, val_main_v279, val_main_v278, val_main_cst_40, val_main_cst_41]
  simp only [r277, lanes, div_lanes, ← EReal.coe_mul, ← EReal.coe_add, ← EReal.coe_sub, ← EReal.coe_neg, coe_sum]
  rfl

/-- its variance, -/
theorem r292 (b h i r w) : val_main_v292 (F := Ideal) A.x0 A.x1 A.x2 A.x3 A.x4 A.x5 A.x6 A.x7 A.x8 (ix5 b h i r w) = ((var eps (out (A.v1 b h i.val) (A.v2 b h i.val) (A.q b h i r)) : ℝ) : EReal) := by
  pointwise [val_main_v292, val_main_v291, val_main_v288, val_main_v287, val_main_v286, val_main_v285, val_main_v284, val_main_cst_42, val_main_cst_43, val_main_cst_44]
  simp only [r283, lanes, div_lanes, eps_coe, ← EReal.coe_mul, ← EReal.coe_add, ← EReal.coe_sub, ← EReal.coe_neg, coe_sum]
  rfl

/-- and the answer. -/
theorem r304 (b h i r d) : val_main_v304 (F := Ideal) A.x0 A.x1 A.x2 A.x3 A.x4 A.x5 A.x6 A.x7 A.x8 (ix5 b h i r d) = ((A.answer b h i r d : ℝ) : EReal) := by
  pointwise [val_main_v304, val_main_v303, val_main_v302, val_main_v301, val_main_v300, val_main_v299, val_main_v298, val_main_v297, val_main_v296, val_main_v295, val_main_v294, val_main_v293, val_main_v5, val_main_v4]
  simp only [r290, r292, rsqrt_var, r256, r265, Args.at3, ← EReal.coe_mul, ← EReal.coe_add, ← EReal.coe_sub, ← EReal.coe_neg, coe_sum]
  rfl

end Cert.MainHostIdeal.Value

end
-- ==== Proof.MainIdeal.Value.lean ====
/- The main call's result: what the reference answers, of real arguments. -/
module

public import proofs.«01_k».proof.Proof.MainIdeal.Passes
public import proofs.«01_k».proof.Proof.MainIdeal.Launch
public import proofs.«01_k».proof.Proof.Main.Weights

@[expose] public section

set_option maxRecDepth 16384

noncomputable section

open Idealize.ShloMosaic Idealize.ShloMosaic.TcCoe
open Idealize.ShloMosaic.Pipeline (Dat)

namespace Cert.MainIdeal.Value

open Cert.MainIdeal Cert.MainIdeal.Gen Cert.Reals Cert.MainIdeal.Memory
open Cert.MainHostIdeal.Read

variable (m : (ℓ : Loc nD τ sig) → Buf (Elt Ideal) ℓ)

/-- Which block each window reads or writes at a grid point. -/
theorem idx : ∀ t : Fin cfg0.N, win0_0.index t = ![0, t.val, 0, 0, 0] ∧ win0_1.index t = ![0, t.val, 0, 0, 0] ∧ win0_2.index t = ![0, t.val, 0, 0, 0]
    ∧ win0_3.index t = ![t.val, 0, 0, 0, 0] ∧ win0_4.index t = ![t.val, 0, 0, 0, 0] ∧ win0_5.index t = ![0, 0] ∧ win0_6.index t = ![t.val, 0, 0]
    ∧ win0_7.index t = ![t.val, 0, 0] ∧ win0_8.index t = ![t.val, 0, 0] ∧ win0_9.index t = ![0, t.val, 0, 0, 0] ∧ (grid0.coords t 0).val = t.val ∧ t.val < 4 :=
  (by decide +kernel : ∀ t : Fin grid0.N, _)

/-- The head of a grid point. -/
abbrev head (t : Fin cfg0.N) : Fin 4 := ⟨t.val, (idx t).2.2.2.2.2.2.2.2.2.2.2⟩

theorem blk0 (c : Dev nD) (t : Fin cfg0.N) (g : Fin 2) (i : Fin 32) (r : Fin 64) (d : Fin 128) :
    iblk m c 0 t (ix5 g 0 i r d) = (m ((c : Thread nD τ).loc main_arg0) : FVec Ideal S2x4x32x64x128 .f32) (ix5 g (head t) i r d) := by
  blk_point [iblk, V, idx t]
theorem blk1 (c : Dev nD) (t : Fin cfg0.N) (g : Fin 2) (i : Fin 32) (r : Fin 64) (d : Fin 128) :
    iblk m c 1 t (ix5 g 0 i r d) = (m ((c : Thread nD τ).loc main_arg1) : FVec Ideal S2x4x32x64x128 .f32) (ix5 g (head t) i r d) := by
  blk_point [iblk, V, idx t]
theorem blk2 (c : Dev nD) (t : Fin cfg0.N) (g : Fin 2) (i : Fin 32) (r : Fin 64) (d : Fin 128) :
    iblk m c 2 t (ix5 g 0 i r d) = (m ((c : Thread nD τ).loc main_arg2) : FVec Ideal S2x4x32x64x128 .f32) (ix5 g (head t) i r d) := by
  blk_point [iblk, V, idx t]
theorem blk3 (c : Dev nD) (t : Fin cfg0.N) (g : Fin 2) (i : Fin 32) (r : Fin 64) :
    iblk m c 3 t (ix5 0 g i r 0) = (m ((c : Thread nD τ).loc main_arg3) : FVec Ideal S2x32x64x8 .f32) (ix4 g i r ⟨t.val, by have h : t.val < 4 := (head t).isLt; omega⟩) := by
  blk_point [iblk, V, idx t]
theorem blk4 (c : Dev nD) (t : Fin cfg0.N) (g : Fin 2) (i : Fin 32) (r : Fin 64) :
    iblk m c 4 t (ix5 0 g i r 0) = (m ((c : Thread nD τ).loc main_arg3) : FVec Ideal S2x32x64x8 .f32) (ix4 g i r ⟨4 + t.val, by have h : t.val < 4 := (head t).isLt; omega⟩) := by
  blk_point [iblk, V, idx t]
theorem blk5 (c : Dev nD) (t : Fin cfg0.N) (p : Fin 2) (n : Fin 256) :
    iblk m c 5 t (ix2 p n) = (m ((c : Thread nD τ).loc main_arg4) : FVec Ideal S2x32x1x8 .f32)
      (ix4 ⟨n.val % 64 / 32, by omega⟩ ⟨n.val % 32, by omega⟩ 0 ⟨4 * p.val + n.val / 64, by omega⟩) := by
  blk_point [iblk, V, idx t]
theorem blk6 (c : Dev nD) (t : Fin cfg0.N) (d : Fin 128) (j : Fin 512) :
    iblk m c 6 t (ix3 0 d j) = (m ((c : Thread nD τ).loc main_arg5) : FVec Ideal S4x128x512 .f32) (ix3 (head t) d j) := by
  blk_point [iblk, V, idx t]
theorem blk7 (c : Dev nD) (t : Fin cfg0.N) (j : Fin 512) (d : Fin 128) :
    iblk m c 7 t (ix3 0 j d) = (m ((c : Thread nD τ).loc main_arg6) : FVec Ideal S4x512x128 .f32) (ix3 (head t) j d) := by
  blk_point [iblk, V, idx t]
theorem emb8 (t : Fin cfg0.N) (p : Fin 2) (d : Fin 128) : (win0_8.blk t).view.emb (ix3 0 p d) = ix3 (head t) p d := by
  funext j; refine Fin.ext ?_
  match j with
  | ⟨0, _⟩ => blk_simp [idx t]; rfl
  | ⟨1, _⟩ => blk_simp [idx t]
  | ⟨2, _⟩ => blk_simp [idx t]
theorem blk8 (c : Dev nD) (t : Fin cfg0.N) (d : Fin 128) :
    iblk m c 8 t (ix3 0 0 d) = (m ((c : Thread nD τ).loc main_arg7) : FVec Ideal S4x128 .f32) (ix2 (head t) d) := by
  rw [iblk]
  show V m c main_v9 ((win0_8.blk t).view.emb (ix3 0 0 d)) = _
  rw [emb8]
  entry_read
  pointwise
  rfl
theorem blk8' (c : Dev nD) (t : Fin cfg0.N) (d : Fin 128) :
    iblk m c 8 t (ix3 0 1 d) = (m ((c : Thread nD τ).loc main_arg8) : FVec Ideal S4x128 .f32) (ix2 (head t) d) := by
  rw [iblk]
  show V m c main_v9 ((win0_8.blk t).view.emb (ix3 0 1 d)) = _
  rw [emb8]
  entry_read
  pointwise
  rfl

/-- The call's arguments are these reals. -/
structure Given (A : Args) (c : Dev nD) : Prop where
  a0 : m ((c : Thread nD τ).loc main_arg0) = A.x0
  a1 : m ((c : Thread nD τ).loc main_arg1) = A.x1
  a2 : m ((c : Thread nD τ).loc main_arg2) = A.x2
  a3 : m ((c : Thread nD τ).loc main_arg3) = A.x3
  a4 : m ((c : Thread nD τ).loc main_arg4) = A.x4
  a5 : m ((c : Thread nD τ).loc main_arg5) = A.x5
  a6 : m ((c : Thread nD τ).loc main_arg6) = A.x6
  a7 : m ((c : Thread nD τ).loc main_arg7) = A.x7
  a8 : m ((c : Thread nD τ).loc main_arg8) = A.x8

variable {m}

theorem Given.reads {A : Args} {c : Dev nD} (G : Given m A c) (t : Fin cfg0.N) :
    Reads A (head t) (iblk m c 0 t) (iblk m c 1 t) (iblk m c 2 t) (iblk m c 3 t) (iblk m c 4 t) (iblk m c 5 t) (iblk m c 6 t) (iblk m c 7 t) (iblk m c 8 t) where
  k g i r d := (blk0 m c t g i r d).trans (congrFun G.a0 _)
  v g i r d := (blk1 m c t g i r d).trans (congrFun G.a1 _)
  q g i r d := (blk2 m c t g i r d).trans (congrFun G.a2 _)
  lr g i r := (blk3 m c t g i r).trans (congrFun G.a3 _)
  gate g i r := (blk4 m c t g i r).trans (congrFun G.a3 _)
  mom g i n hn := by
    have hn : n.val = 64 * t.val + 32 * g.val + i.val := hn
    refine ((blk5 m c t 0 n).trans (congrFun G.a4 _)).trans ((A.at4 _ _ _ _).trans ?_)
    have e0 : n.val % 64 / 32 = g.val := by omega
    have e1 : n.val % 32 = i.val := by omega
    have e2 : 4 * (0 : Fin 2).val + n.val / 64 = t.val := by show 4 * 0 + n.val / 64 = _; omega
    simp only [e0, e1, e2]
    rfl
  dec g i n hn := by
    have hn : n.val = 64 * t.val + 32 * g.val + i.val := hn
    refine ((blk5 m c t 1 n).trans (congrFun G.a4 _)).trans ((A.at4 _ _ _ _).trans ?_)
    have e0 : n.val % 64 / 32 = g.val := by omega
    have e1 : n.val % 32 = i.val := by omega
    have e2 : 4 * (1 : Fin 2).val + n.val / 64 = 4 + t.val := by show 4 * 1 + n.val / 64 = _; omega
    simp only [e0, e1, e2]
    rfl
  w1 d j := (blk6 m c t d j).trans (congrFun G.a5 _)
  w2 j d := (blk7 m c t j d).trans (congrFun G.a6 _)
  g d := (blk8 m c t d).trans (congrFun G.a7 _)
  b d := (blk8' m c t d).trans (congrFun G.a8 _)

/-- A point's block of the result, -/
theorem at9 {A : Args} {c : Dev nD} (G : Given m A c) (t : Fin cfg0.N) (y : S2x1x32x64x128.Idx) : (dats m 0 c).after 9 t y
    = val_main_v304 (F := Ideal) A.x0 A.x1 A.x2 A.x3 A.x4 A.x5 A.x6 A.x7 A.x8 (ix5 (y 0) (head t) (y 2) (y 3) (y 4)) := by
  refine Eq.trans ?_ (Cert.MainHostIdeal.Value.r304 A (y 0) (head t) (y 2) (y 3) (y 4)).symm
  rw [after9]
  unfold result
  refine Eq.trans (congrArg _ ?_) (block_eq (G.reads t) (idx t).2.2.2.2.2.2.2.2.2.2.1 (y 0) (y 2) (y 3) (y 4))
  funext j
  match j with
  | ⟨0, _⟩ => rfl
  | ⟨1, _⟩ => exact Fin.ext (by have h : (y 1).val < 1 := (y 1).isLt; show (y 1).val = 0; omega)
  | ⟨2, _⟩ => rfl
  | ⟨3, _⟩ => rfl
  | ⟨4, _⟩ => rfl

/-- and the whole result. -/
theorem final9 {A : Args} {c : Dev nD} (G : Given m A c) : (dats m 0 c).arrAt 9 (cfgs 0).N
    = val_main_v304 (F := Ideal) A.x0 A.x1 A.x2 A.x3 A.x4 A.x5 A.x6 A.x7 A.x8 :=
  (dats m 0 c).arrAt_eq_of_covers 9 _ (by decide +kernel) fun t _ y =>
    (at9 G t y).trans (congrArg _ (show ix5 (y 0) (head t) (y 2) (y 3) (y 4) = ((cfg0.win 9).blk t).view.emb y by blk_ext [idx t]))

end Cert.MainIdeal.Value
end
-- ==== Proof.Main.Finite.lean ====
/- Finite arguments are real arguments. -/
module

public import proofs.«01_k».proof.Proof.MainIdeal.Value
public import proofs.«01_k».proof.Proof.Gen.Pre_all_finite
public import proofs.«01_k».proof.Defs
public import Idealize.ShloMosaic.Lib.ReduceAll

@[expose] public section

set_option maxRecDepth 16384

noncomputable section

open Idealize.ShloMosaic Idealize.ShloMosaic.TcCoe

namespace Cert.MainIdeal.Value

open Cert.MainIdeal Cert.MainIdeal.Gen Cert.Reals

theorem inf : Ideal.ofBits .f32 0x7F800000#32 = ⊤ := by simp [Ideal.ofBits, Ideal.ieee]

/-- A value whose magnitude is below infinity is a real. -/
theorem real_of_lt (x : Ideal .f32) (h : FloatOps.cmpf .olt (FloatOps.hostAbsf x) (Ideal.ofBits .f32 0x7F800000#32 : Ideal .f32) = 1#1) :
    x = ((EReal.toReal x : ℝ) : EReal) := by
  have h : Ideal.cmp .olt (max x (-x)) (Ideal.ofBits .f32 0x7F800000#32) = 1#1 := h
  have hlt : max (x : EReal) (-x) < ⊤ := by
    rw [inf] at h
    by_contra hn
    simp [Ideal.cmp, hn] at h
  refine (EReal.coe_toReal (fun e => ?_) (fun e => ?_)).symm
  · exact absurd hlt (by rw [e]; simp)
  · exact absurd hlt (by rw [e]; simp)

instance : Subsingleton (Shape.Idx ⟨0, ![]⟩) := ⟨fun a b => funext fun i => i.elim0⟩

/-- So are the values of an array all of whose magnitudes are below infinity. -/
theorem real_of_all {S : Shape} {axes : List (Fin S.rank)} (x : FVec Ideal S .f32)
    (b : (⟨0, ![]⟩ : Shape).BroadcastsInDim S (![] : Fin 0 → Fin S.rank))
    (init : IVec ⟨0, ![]⟩ 1) (h : S.ReducesTo axes ⟨0, ![]⟩) (hu : 0 < (⟨0, ![]⟩ : Shape).numel) (j : Shape.Idx ⟨0, ![]⟩)
    (e : Host.reduce IntOp.andi (cmpf .olt (Host.absf x) (broadcastInDim S ![] b (constant ⟨0, ![]⟩ .f32 0x7F800000#32))) init h hu j = 1#1) (i : S.Idx) :
    x i = ((EReal.toReal (x i) : ℝ) : EReal) := real_of_lt (x i) (Host.reduce_andi_all _ _ h hu j e i)

/-- The reals of nine arrays. -/
def realsOf (x0 x1 x2 : FVec Ideal S2x4x32x64x128 .f32) (x3 : FVec Ideal S2x32x64x8 .f32) (x4 : FVec Ideal S2x32x1x8 .f32)
    (x5 : FVec Ideal S4x128x512 .f32) (x6 : FVec Ideal S4x512x128 .f32) (x7 x8 : FVec Ideal S4x128 .f32) : Args where
  k b h i r d := EReal.toReal (x0 (ix5 b h i r d))
  v b h i r d := EReal.toReal (x1 (ix5 b h i r d))
  q b h i r d := EReal.toReal (x2 (ix5 b h i r d))
  lrg b i r e := EReal.toReal (x3 (ix4 b i r e))
  md b i u e := EReal.toReal (x4 (ix4 b i u e))
  w1 h d j := EReal.toReal (x5 (ix3 h d j))
  w2 h j d := EReal.toReal (x6 (ix3 h j d))
  g h d := EReal.toReal (x7 (ix2 h d))
  b h d := EReal.toReal (x8 (ix2 h d))

/-- An index is its coordinates'. -/
theorem eta5 {n0 n1 n2 n3 n4 : ℕ} (i : Shape.Idx ⟨5, ![n0, n1, n2, n3, n4]⟩) : i = ix5 (i 0) (i 1) (i 2) (i 3) (i 4) := by
  funext j
  match j with
  | ⟨0, _⟩ => rfl
  | ⟨1, _⟩ => rfl
  | ⟨2, _⟩ => rfl
  | ⟨3, _⟩ => rfl
  | ⟨4, _⟩ => rfl
theorem eta4 {n0 n1 n2 n3 : ℕ} (i : Shape.Idx ⟨4, ![n0, n1, n2, n3]⟩) : i = ix4 (i 0) (i 1) (i 2) (i 3) := by
  funext j
  match j with
  | ⟨0, _⟩ => rfl
  | ⟨1, _⟩ => rfl
  | ⟨2, _⟩ => rfl
  | ⟨3, _⟩ => rfl
theorem eta3 {n0 n1 n2 : ℕ} (i : Shape.Idx ⟨3, ![n0, n1, n2]⟩) : i = ix3 (i 0) (i 1) (i 2) := by
  funext j
  match j with
  | ⟨0, _⟩ => rfl
  | ⟨1, _⟩ => rfl
  | ⟨2, _⟩ => rfl
theorem eta2 {n0 n1 : ℕ} (i : Shape.Idx ⟨2, ![n0, n1]⟩) : i = ix2 (i 0) (i 1) := by
  funext j
  match j with
  | ⟨0, _⟩ => rfl
  | ⟨1, _⟩ => rfl

/-- The arguments of a call that meets the precondition are those of some reals. -/
theorem given_of_finite (m : (ℓ : Loc nD τ sig) → Buf (Elt Ideal) ℓ) (H : Cert.Pre_MainIdeal_all_finite m) (c : Dev nD) :
    ∃ A : Args, Given m A c := by
  have h := congrFun (H c) (fun i => i.elim0)
  unfold Cert.Pre_all_finite.fn Cert.Pre_all_finite.fn_part1 Cert.Pre_all_finite.fn_part2 at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨-, h0⟩ := IntOp.andi_eq_one.1 h
  refine ⟨realsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)), ?_, ?_, ?_, ?_, ?_, ?_, ?_, ?_, ?_⟩
  · funext i; exact (real_of_all _ _ _ _ _ _ h0 i).trans (congrArg (fun i => ((EReal.toReal ((m ((c : Thread nD τ).loc main_arg0) : FVec Ideal S2x4x32x64x128 .f32) i) : ℝ) : EReal)) (eta5 i))
  · funext i; exact (real_of_all _ _ _ _ _ _ h1 i).trans (congrArg (fun i => ((EReal.toReal ((m ((c : Thread nD τ).loc main_arg1) : FVec Ideal S2x4x32x64x128 .f32) i) : ℝ) : EReal)) (eta5 i))
  · funext i; exact (real_of_all _ _ _ _ _ _ h2 i).trans (congrArg (fun i => ((EReal.toReal ((m ((c : Thread nD τ).loc main_arg2) : FVec Ideal S2x4x32x64x128 .f32) i) : ℝ) : EReal)) (eta5 i))
  · funext i; exact (real_of_all _ _ _ _ _ _ h3 i).trans (congrArg (fun i => ((EReal.toReal ((m ((c : Thread nD τ).loc main_arg3) : FVec Ideal S2x32x64x8 .f32) i) : ℝ) : EReal)) (eta4 i))
  · funext i; exact (real_of_all _ _ _ _ _ _ h4 i).trans (congrArg (fun i => ((EReal.toReal ((m ((c : Thread nD τ).loc main_arg4) : FVec Ideal S2x32x1x8 .f32) i) : ℝ) : EReal)) (eta4 i))
  · funext i; exact (real_of_all _ _ _ _ _ _ h5 i).trans (congrArg (fun i => ((EReal.toReal ((m ((c : Thread nD τ).loc main_arg5) : FVec Ideal S4x128x512 .f32) i) : ℝ) : EReal)) (eta3 i))
  · funext i; exact (real_of_all _ _ _ _ _ _ h6 i).trans (congrArg (fun i => ((EReal.toReal ((m ((c : Thread nD τ).loc main_arg6) : FVec Ideal S4x512x128 .f32) i) : ℝ) : EReal)) (eta3 i))
  · funext i; exact (real_of_all _ _ _ _ _ _ h7 i).trans (congrArg (fun i => ((EReal.toReal ((m ((c : Thread nD τ).loc main_arg7) : FVec Ideal S4x128 .f32) i) : ℝ) : EReal)) (eta2 i))
  · funext i; exact (real_of_all _ _ _ _ _ _ h8 i).trans (congrArg (fun i => ((EReal.toReal ((m ((c : Thread nD τ).loc main_arg8) : FVec Ideal S4x128 .f32) i) : ℝ) : EReal)) (eta2 i))

end Cert.MainIdeal.Value
end
-- ==== Proof.Main.Claims.lean ====
/- The claims about the main call's runs. -/
module

public import proofs.«01_k».proof.Defs
public import proofs.«01_k».proof.Proof.Main.Launch
public import proofs.«01_k».proof.Proof.MainIdeal.Launch
public import proofs.«01_k».proof.Proof.Main.Finite
public import proofs.«01_k».proof.Proof.Gen.MainHostIdeal.Read
public import proofs.«01_k».proof.Proof.Gen.MainHostIdeal.Run
public import proofs.«01_k».proof.Proof.Gen.Pre_all_finite
public import Idealize.ShloMosaic.Lib.Claim

@[expose] public section

set_option maxRecDepth 16384

namespace Cert.Proof.Main

open Idealize.ShloMosaic Idealize.ShloMosaic.TcCoe Idealize.SL.Sem
open Cert.MainHostIdeal.Read

/-- The kernel's call runs and leaves its arguments. -/
theorem frame_kernel : Cert.quiescent_Main := fun m g _ => Cert.Main.Memory.quiescent m g

/-- So does its ideal reading, -/
theorem frame_ideal : Cert.quiescent_MainIdeal := fun m g _ => Cert.MainIdeal.Memory.quiescent m g

/-- and so it does from finite arguments. -/
theorem frame_ideal_finite : Cert.quiescent_MainIdeal_pre_all_finite := fun m g _ => Cert.MainIdeal.Memory.quiescent m g

/-- So does the reference, -/
theorem frame_reference : Cert.quiescent_MainHostIdeal := by
  intro m g _
  refine (θ_run _ _ _).mono (fun r h => ⟨fun c => (h c).2, funext fun x => ?_⟩) (Cert.MainHostIdeal.Value.run (F := Ideal) m g)
  rcases x with ⟨_, s | s⟩ <;> exact s.elim0

/-- and so it does from finite arguments. -/
theorem frame_reference_finite : Cert.quiescent_MainHostIdeal_pre_all_finite := by
  intro m g _
  refine (θ_run _ _ _).mono (fun r h => ⟨fun c => (h c).2, funext fun x => ?_⟩) (Cert.MainHostIdeal.Value.run (F := Ideal) m g)
  rcases x with ⟨_, s | s⟩ <;> exact s.elim0

/-- The ideal reading names two constants of the kernel. -/
theorem preserves : Cert.preserves_Main_MainIdeal :=
  ⟨IdealRules.named_const.statement _ _ _ _ _ rfl, IdealRules.named_const.statement _ _ _ _ _ rfl⟩

/-- From finite arguments the ideal call computes the reference's result. -/
theorem value : Cert.algebraic_MainIdeal_MainHostIdeal_pre_all_finite := by
  intro m g m' g' hfin heq
  refine ⟨fun c => val_main_v304 (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7)) (m ((c.tc : Thread Cert.MainIdeal.nD Cert.MainIdeal.τ).loc Cert.MainIdeal.main_arg8)), ?_, ?_⟩
  · refine (θ_run _ _ _).mono (fun r h c => ?_) (θ_run_and (Cert.MainIdeal.Memory.quiescent m g) (Cert.MainIdeal.Memory.run m g))
    obtain ⟨A, G⟩ := Cert.MainIdeal.Value.given_of_finite m hfin c
    refine ⟨((h.2 c).1 9).trans ((Cert.MainIdeal.Value.final9 G).trans ?_), h.1.1 c⟩
    rw [← G.a0, ← G.a1, ← G.a2, ← G.a3, ← G.a4, ← G.a5, ← G.a6, ← G.a7, ← G.a8]
  · refine (θ_run _ _ _).mono (fun r h c => ?_) (Cert.MainHostIdeal.Value.run (F := Ideal) m' g')
    obtain ⟨h0, ha⟩ := h c
    obtain ⟨e0, e1, e2, e3, e4, e5, e6, e7, e8⟩ := heq c
    refine ⟨h0.trans ((val_main_v304_eq ..).trans ?_), ha⟩
    rw [show StableHlo.launchContents m' c (Proc.tc.devRef Cert.MainHostIdeal.main_arg0) = _ from e0,
      show StableHlo.launchContents m' c (Proc.tc.devRef Cert.MainHostIdeal.main_arg1) = _ from e1,
      show StableHlo.launchContents m' c (Proc.tc.devRef Cert.MainHostIdeal.main_arg2) = _ from e2,
      show StableHlo.launchContents m' c (Proc.tc.devRef Cert.MainHostIdeal.main_arg3) = _ from e3,
      show StableHlo.launchContents m' c (Proc.tc.devRef Cert.MainHostIdeal.main_arg4) = _ from e4,
      show StableHlo.launchContents m' c (Proc.tc.devRef Cert.MainHostIdeal.main_arg5) = _ from e5,
      show StableHlo.launchContents m' c (Proc.tc.devRef Cert.MainHostIdeal.main_arg6) = _ from e6,
      show StableHlo.launchContents m' c (Proc.tc.devRef Cert.MainHostIdeal.main_arg7) = _ from e7,
      show StableHlo.launchContents m' c (Proc.tc.devRef Cert.MainHostIdeal.main_arg8) = _ from e8]

end Cert.Proof.Main

end
-- ==== Proof.Prep.Value.lean ====
/- The preparing call: keys, values and queries by heads, step sizes with gates, and momenta with decays, as the plain
   reference has them. -/
module

public import proofs.«01_k».proof.Proof.Gen.PrepIdeal.Frame
public import proofs.«01_k».proof.Proof.Gen.PrepHostIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen
open Cert.PrepHostIdeal.Read

/-! ## The functions both sides compute -/

/-- A token's lane normalized by the root mean square of its lanes and scaled. -/
def nrm (x : FVec Ideal S2x2048x512 .f32) (g : FVec Ideal S512 .f32) (b : Fin 2) (n : Fin 2048) (j : Fin 512) : EReal :=
  x (ix3 b n j) * Ideal.rsqrt (Ideal.div (∑ k : Fin 512, x (ix3 b n k) * x (ix3 b n k)) (Ideal.ofBits .f32 1140850688#32)
    + Ideal.ofBits .f32 897988541#32) * g (ix1 j)

/-- A lane of a normalized token's product with a matrix. -/
def proj (x : FVec Ideal S2x2048x512 .f32) (g : FVec Ideal S512 .f32) (w : FVec Ideal S512x512 .f32) (b : Fin 2) (n : Fin 2048) (j : Fin 512) : EReal :=
  ∑ k : Fin 512, nrm x g b n k * w (ix2 k j)

/-- A lane of a head, `p` giving a token's 512 lanes, divided by the root of the head's sum of squares. -/
def unit (p : Fin 512 → EReal) (h : Fin 4) (d : Fin 128) : EReal :=
  p ⟨h.val * 128 + d.val, by omega⟩ * Ideal.rsqrt ((∑ l : Fin 128, p ⟨h.val * 128 + l.val, by omega⟩ * p ⟨h.val * 128 + l.val, by omega⟩)
    + Ideal.ofBits .f32 730643660#32)

/-- A normalized token's product with a column, plus that column's bias. -/
def score (x : FVec Ideal S2x2048x512 .f32) (g : FVec Ideal S512 .f32) (w : FVec Ideal S512x4 .f32) (o : FVec Ideal S4 .f32) (b : Fin 2) (n : Fin 2048) (j : Fin 4) : EReal :=
  (∑ k : Fin 512, nrm x g b n k * w (ix2 k j)) + o (ix1 j)

/-- A chunk's mean token's product with a column, plus that column's bias. -/
def pooled (x : FVec Ideal S2x2048x512 .f32) (g : FVec Ideal S512 .f32) (w : FVec Ideal S512x4 .f32) (o : FVec Ideal S4 .f32) (b : Fin 2) (i : Fin 32) (j : Fin 4) : EReal :=
  (∑ k : Fin 512, Ideal.div (∑ r : Fin 64, nrm x g b ⟨i.val * 64 + r.val, by omega⟩ k) (Ideal.ofBits .f32 1115684864#32) * w (ix2 k j)) + o (ix1 j)

/-- The token of a chunk's row. -/
abbrev tok (i : Fin 32) (r : Fin 64) : Fin 2048 := ⟨i.val * 64 + r.val, by omega⟩

theorem pooled_eq (x : FVec Ideal S2x2048x512 .f32) (g : FVec Ideal S512 .f32) (w : FVec Ideal S512x4 .f32) (o : FVec Ideal S4 .f32) (b : Fin 2) (i : Fin 32) (j : Fin 4)
    (f : Fin 64 → Fin 2048) (hf : ∀ r, f r = tok i r) : pooled x g w o b i j
      = (∑ k : Fin 512, Ideal.div (∑ r : Fin 64, nrm x g b (f r) k) (Ideal.ofBits .f32 1115684864#32) * w (ix2 k j)) + o (ix1 j) := by
  rw [show f = tok i from funext hf]; rfl

/-! ## The reference -/

theorem ref12 (x0) (x2) (b n j) : val_main_v12 (F := Ideal) x0 x2 (ix3 b n j) = nrm x0 x2 b n j := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref25 (x0) (x1) (b n j) : val_main_v25 (F := Ideal) x0 x1 (ix3 b n j) = nrm x0 x1 b n j := by
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]
  rfl

theorem ref26 (x0 x2 x4) (b n j) : val_main_v26 (F := Ideal) x0 x2 x4 (ix3 b n j) = proj x0 x2 x4 b n j := by
  pointwise [val_main_v26]
  exact Finset.sum_congr rfl fun k _ => congrArg (· * _) (ref12 x0 x2 b n k)

theorem ref37 (x0 x2 x5) (b n j) : val_main_v37 (F := Ideal) x0 x2 x5 (ix3 b n j) = proj x0 x2 x5 b n j := by
  pointwise [val_main_v37]
  exact Finset.sum_congr rfl fun k _ => congrArg (· * _) (ref12 x0 x2 b n k)

theorem ref40 (x0 x1 x3) (b n j) : val_main_v40 (F := Ideal) x0 x1 x3 (ix3 b n j) = proj x0 x1 x3 b n j := by
  pointwise [val_main_v40]
  exact Finset.sum_congr rfl fun k _ => congrArg (· * _) (ref25 x0 x1 b n k)

theorem ref101 (x0 x2 x4) (b h i r d) : val_main_v101 (F := Ideal) x0 x2 x4 (ix5 b h i r d) = unit (proj x0 x2 x4 b (tok i r)) h d := by
  pointwise [val_main_v101, val_main_v36, val_main_v35, val_main_v34, val_main_v33, val_main_v32, val_main_v31, val_main_v30, val_main_v29, val_main_v28, val_main_v27, val_main_cst_5, val_main_cst_6]
  simp only [ref26]
  rfl

theorem ref102 (x0 x2 x5) (b h i r d) : val_main_v102 (F := Ideal) x0 x2 x5 (ix5 b h i r d) = proj x0 x2 x5 b (tok i r) ⟨h.val * 128 + d.val, by omega⟩ := by
  pointwise [val_main_v102, val_main_v39, val_main_v38]
  simp only [ref37]

theorem ref103 (x0 x1 x3) (b h i r d) : val_main_v103 (F := Ideal) x0 x1 x3 (ix5 b h i r d) = unit (proj x0 x1 x3 b (tok i r)) h d := by
  pointwise [val_main_v103, val_main_v50, val_main_v49, val_main_v48, val_main_v47, val_main_v46, val_main_v45, val_main_v44, val_main_v43, val_main_v42, val_main_v41, val_main_cst_7, val_main_cst_8]
  simp only [ref40]
  rfl

/-- The step sizes' two factors are the kernel's one. -/
theorem factor : Ideal.ofBits .f32 1008981770#32 * Ideal.ofBits .f32 1015021568#32 = Ideal.ofBits .f32 958650122#32 := by
  simp [Ideal.ofBits, Ideal.ieee, ← EReal.coe_mul]
  norm_num

theorem ref104 (x0 x1 x2 x6 x7 x12 x13) (b i r e) : val_main_v104 (F := Ideal) x0 x1 x2 x6 x7 x12 x13 (ix4 b i r e)
    = if h : e.val < 4 then Ideal.logistic (score x0 x2 x6 x7 b (tok i r) ⟨e.val, h⟩) * Ideal.ofBits .f32 958650122#32
      else Ideal.logistic (score x0 x1 x12 x13 b (tok i r) ⟨e.val - 4, by omega⟩) := by
  pointwise [val_main_v104, val_main_v99]
  split
  · pointwise [val_main_v98, val_main_v97, val_main_cst_20, val_main_v62, val_main_v61, val_main_cst_11, val_main_v60, val_main_v59, val_main_cst_10, val_main_v58, val_main_v57, val_main_cst_9, val_main_v56, val_main_v55, val_main_v54, val_main_v53, val_main_v52, val_main_v51]
    simp only [ref12]
    rw [mul_assoc, factor]
    rfl
  · pointwise [val_main_v72, val_main_v71, val_main_cst_13, val_main_v70, val_main_v69, val_main_cst_12, val_main_v68, val_main_v67, val_main_v66, val_main_v65, val_main_v64, val_main_v63]
    simp only [ref25]
    rfl

theorem ref105 (x0 x2 x8 x9 x10 x11) (b i u e) : val_main_v105 (F := Ideal) x0 x2 x8 x9 x10 x11 (ix4 b i u e)
    = if h : e.val < 4 then Ideal.logistic (pooled x0 x2 x8 x9 b i ⟨e.val, h⟩)
      else Ideal.logistic (pooled x0 x2 x10 x11 b i ⟨e.val - 4, by omega⟩) := by
  pointwise [val_main_v105, val_main_v100]
  split
  · pointwise [val_main_v86, val_main_v85, val_main_v84, val_main_v83, val_main_v82, val_main_v81, val_main_v80, val_main_v79, val_main_v78, val_main_v77, val_main_v76, val_main_v75, val_main_v74, val_main_v73, val_main_cst_14, val_main_cst_15, val_main_cst_16, val_main_cst_17]
    simp only [ref12]
    rfl
  · pointwise [val_main_v96, val_main_v95, val_main_v94, val_main_v93, val_main_v92, val_main_v91, val_main_v90, val_main_v89, val_main_v88, val_main_v87, val_main_v76, val_main_v75, val_main_v74, val_main_v73, val_main_cst_14, val_main_cst_15, val_main_cst_18, val_main_cst_19]
    simp only [ref12]
    rfl

/-! ## The kernel's blocks -/

variable (m : (ℓ : Loc nD τ sig) → Buf (Elt Ideal) ℓ)

/-- Which block each window reads or writes at a grid point. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val / 8, 0, t.val % 8, 0, 0] ∧ win0_9.index t = ![t.val / 8, 0, t.val % 8, 0, 0] ∧ win0_10.index t = ![t.val / 8, 0, t.val % 8, 0, 0]
    ∧ win0_11.index t = ![t.val / 8, t.val % 8, 0, 0] ∧ win0_12.index t = ![t.val / 8, t.val % 8, 0, 0] ∧ t.val < 16 :=
  (by decide +kernel : ∀ t : Fin grid0.N, _)

theorem lt (t : Fin cfg0.N) : t.val < 16 := (idx t).2.2.2.2.2.2.2.2.2.2.2.2.2

/-- The batch entry of a grid point, -/
abbrev bat (t : Fin cfg0.N) : Fin 2 := ⟨t.val / 8, by have := lt t; omega⟩
/-- and the token of a row of its block. -/
abbrev row (t : Fin cfg0.N) (r : Fin 256) : Fin 2048 := ⟨t.val % 8 * 256 + r.val, by omega⟩

abbrev argX (c : Dev nD) : FVec Ideal S2x2048x512 .f32 := m ((c : Thread nD τ).loc main_arg0)
abbrev argR (c : Dev nD) : FVec Ideal S512 .f32 := m ((c : Thread nD τ).loc main_arg1)
abbrev argS (c : Dev nD) : FVec Ideal S512 .f32 := m ((c : Thread nD τ).loc main_arg2)
abbrev argQ (c : Dev nD) : FVec Ideal S512x512 .f32 := m ((c : Thread nD τ).loc main_arg3)
abbrev argK (c : Dev nD) : FVec Ideal S512x512 .f32 := m ((c : Thread nD τ).loc main_arg4)
abbrev argV (c : Dev nD) : FVec Ideal S512x512 .f32 := m ((c : Thread nD τ).loc main_arg5)

theorem blk0 (c : Dev nD) (t : Fin cfg0.N) (r : Fin 256) (k : Fin 512) : iblk m c 0 t (ix3 0 r k) = argX m c (ix3 (bat t) (row t r) k) := by
  blk_point [iblk, V, idx t]
theorem blk1 (c : Dev nD) (t : Fin cfg0.N) (k : Fin 512) : iblk m c 1 t (ix2 0 k) = argS m c (ix1 k) := by
  blk_point [iblk, V, idx t]
theorem blk2 (c : Dev nD) (t : Fin cfg0.N) (k : Fin 512) : iblk m c 2 t (ix2 0 k) = argR m c (ix1 k) := by
  blk_point [iblk, V, idx t]
theorem blk3 (c : Dev nD) (t : Fin cfg0.N) (a b : Fin 512) : iblk m c 3 t (ix2 a b) = argQ m c (ix2 a b) := by
  blk_point [iblk, V, idx t]
theorem blk4 (c : Dev nD) (t : Fin cfg0.N) (a b : Fin 512) : iblk m c 4 t (ix2 a b) = argK m c (ix2 a b) := by
  blk_point [iblk, V, idx t]
theorem blk5 (c : Dev nD) (t : Fin cfg0.N) (a b : Fin 512) : iblk m c 5 t (ix2 a b) = argV m c (ix2 a b) := by
  blk_point [iblk, V, idx t]

/-- One of four columns' groups, by the column. -/
def pick4 (f0 f1 f2 f3 : Fin 4 → EReal) (b : Fin 16) : EReal :=
  if h : b.val < 4 then f0 ⟨b.val, h⟩ else if h1 : b.val - 4 < 4 then f1 ⟨b.val - 4, h1⟩
  else if h2 : b.val - 4 - 4 < 4 then f2 ⟨b.val - 4 - 4, h2⟩ else f3 ⟨b.val - 4 - 4 - 4, by omega⟩

theorem pick4_0 (f0 f1 f2 f3 : Fin 4 → EReal) (b : Fin 16) (j : Fin 4) (h : b.val = j.val) : pick4 f0 f1 f2 f3 b = f0 j := by
  rw [pick4, dif_pos (by omega)]; exact congrArg f0 (Fin.ext h)
theorem pick4_1 (f0 f1 f2 f3 : Fin 4 → EReal) (b : Fin 16) (j : Fin 4) (h : b.val = 4 + j.val) : pick4 f0 f1 f2 f3 b = f1 j := by
  rw [pick4, dif_neg (by omega), dif_pos (by omega)]; exact congrArg f1 (Fin.ext (by show b.val - 4 = _; omega))
theorem pick4_2 (f0 f1 f2 f3 : Fin 4 → EReal) (b : Fin 16) (j : Fin 4) (h : b.val = 8 + j.val) : pick4 f0 f1 f2 f3 b = f2 j := by
  rw [pick4, dif_neg (by omega), dif_neg (by omega), dif_pos (by omega)]; exact congrArg f2 (Fin.ext (by show b.val - 4 - 4 = _; omega))
theorem pick4_3 (f0 f1 f2 f3 : Fin 4 → EReal) (b : Fin 16) (j : Fin 4) (h : b.val = 12 + j.val) : pick4 f0 f1 f2 f3 b = f3 j := by
  rw [pick4, dif_neg (by omega), dif_neg (by omega), dif_neg (by omega)]; exact congrArg f3 (Fin.ext (by show b.val - 4 - 4 - 4 = _; omega))

/-- The joined matrices and the joined biases at a column. -/
theorem blk6 (c : Dev nD) (t : Fin cfg0.N) (a : Fin 512) (b : Fin 16) : iblk m c 6 t (ix2 a b)
    = pick4 (fun j => (m ((c : Thread nD τ).loc main_arg6) : FVec Ideal S512x4 .f32) (ix2 a j)) (fun j => (m ((c : Thread nD τ).loc main_arg12) : FVec Ideal S512x4 .f32) (ix2 a j))
      (fun j => (m ((c : Thread nD τ).loc main_arg8) : FVec Ideal S512x4 .f32) (ix2 a j)) (fun j => (m ((c : Thread nD τ).loc main_arg10) : FVec Ideal S512x4 .f32) (ix2 a j)) b := by
  rw [iblk]
  show V m c main_v1 ((win0_6.blk t).view.emb (ix2 a b)) = _
  have e : (win0_6.blk t).view.emb (ix2 a b) = ix2 a b := by
    funext j; refine Fin.ext ?_
    match j with
    | ⟨0, _⟩ => blk_simp [idx t]
    | ⟨1, _⟩ => blk_simp [idx t]
  rw [e]
  entry_read
  pointwise
  rfl
theorem blk7 (c : Dev nD) (t : Fin cfg0.N) (b : Fin 16) : iblk m c 7 t (ix2 0 b)
    = pick4 (fun j => (m ((c : Thread nD τ).loc main_arg7) : FVec Ideal S4 .f32) (ix1 j)) (fun j => (m ((c : Thread nD τ).loc main_arg13) : FVec Ideal S4 .f32) (ix1 j))
      (fun j => (m ((c : Thread nD τ).loc main_arg9) : FVec Ideal S4 .f32) (ix1 j)) (fun j => (m ((c : Thread nD τ).loc main_arg11) : FVec Ideal S4 .f32) (ix1 j)) b := by
  rw [iblk]
  show V m c main_v3 ((win0_7.blk t).view.emb (ix2 0 b)) = _
  have e : (win0_7.blk t).view.emb (ix2 0 b) = ix2 0 b := by
    funext j; refine Fin.ext ?_
    match j with
    | ⟨0, _⟩ => blk_simp [idx t]
    | ⟨1, _⟩ => blk_simp [idx t]
  rw [e]
  entry_read
  pointwise
  rfl

/-! ## The kernel's values -/

theorem pay6 (c : Dev nD) (t : Fin cfg0.N) (r : Fin 256) (j : Fin 512) : k0_pay6 (iblk m c 0 t) (iblk m c 1 t) (ix2 r j) = nrm (argX m c) (argS m c) (bat t) (row t r) j := by
  pointwise [k0_pay6, k0_pay5, k0_pay4]
  simp only [blk0, blk1]
  rfl
theorem pay7 (c : Dev nD) (t : Fin cfg0.N) (r : Fin 256) (j : Fin 512) : k0_pay7 (iblk m c 0 t) (iblk m c 2 t) (ix2 r j) = nrm (argX m c) (argR m c) (bat t) (row t r) j := by
  pointwise [k0_pay7, k0_pay5, k0_pay4]
  simp only [blk0, blk2]
  rfl
theorem pay8 (c : Dev nD) (t : Fin cfg0.N) (r : Fin 256) (j : Fin 512) : k0_pay8 (iblk m c 0 t) (iblk m c 1 t) (iblk m c 4 t) (ix2 r j) = proj (argX m c) (argS m c) (argK m c) (bat t) (row t r) j := by
  pointwise [k0_pay8]
  simp only [pay6, blk4]
  rfl
theorem pay9 (c : Dev nD) (t : Fin cfg0.N) (r : Fin 256) (j : Fin 512) : k0_pay9 (iblk m c 0 t) (iblk m c 1 t) (iblk m c 5 t) (ix2 r j) = proj (argX m c) (argS m c) (argV m c) (bat t) (row t r) j := by
  pointwise [k0_pay9]
  simp only [pay6, blk5]
  rfl
theorem pay10 (c : Dev nD) (t : Fin cfg0.N) (r : Fin 256) (j : Fin 512) : k0_pay10 (iblk m c 0 t) (iblk m c 2 t) (iblk m c 3 t) (ix2 r j) = proj (argX m c) (argR m c) (argQ m c) (bat t) (row t r) j := by
  pointwise [k0_pay10]
  simp only [pay7, blk3]
  rfl

/-- The row of a chunk's row in a block. -/
abbrev brow (i : Fin 4) (r : Fin 64) : Fin 256 := ⟨i.val * 64 + r.val, by omega⟩

theorem unit_congr (P : FVec Ideal S256x512 .f32) {y : S1x4x4x64x128.Idx} {x : S1x1x4x64x128.Idx} (h : Fin 4)
    (hx : ∀ a, (y a : ℕ) = (![0, h.val, 0, 0, 0] : Fin 5 → ℕ) a + x a) :
    unit (fun j => P (ix2 (brow (x 2) (x 3)) j)) h (x 4) = unit (fun j => P (ix2 (brow (y 2) (y 3)) j)) (y 1) (y 4) := by
  have h1 : (y 1).val = h.val + (x 1).val := hx 1
  have h2 : (y 2).val = 0 + (x 2).val := hx 2
  have h3 : (y 3).val = 0 + (x 3).val := hx 3
  have h4 : (y 4).val = 0 + (x 4).val := hx 4
  have l1 : (x 1).val < 1 := (x 1).isLt
  rw [show y 1 = h from Fin.ext (by omega), show y 2 = x 2 from Fin.ext (by omega), show y 3 = x 3 from Fin.ext (by omega), show y 4 = x 4 from Fin.ext (by omega)]

theorem out8 (x0 x1 x2 x3 x4 x5 x6 x7) (y : S1x4x4x64x128.Idx) : out0_8 (F := Ideal) x0 x1 x2 x3 x4 x5 x6 x7 y
    = unit (fun j => k0_pay8 x0 x1 x4 (ix2 (brow (y 2) (y 3)) j)) (y 1) (y 4) := by
  have hP : k0_pay30 x0 x1 x2 x3 x4 x5 x6 x7 = k0_pay8 x0 x1 x4 := by
    unfold k0_pay30
    rw [View.ld_unit_lit _ _ (by decide), View.ld_unit_lit _ _ (by decide), View.ld_unit_lit _ _ (by decide)]
  unfold out0_8
  rw [hP]
  generalize k0_pay8 x0 x1 x4 = P
  refine View.canon_eq_of_allAt _ y _ (cover0_8 _ _ _ _ y) (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _)))))
  · rw [← unit_congr P 3 hx]; pointwise [k0_pay27]; rfl
  · rw [← unit_congr P 2 hx]; pointwise [k0_pay23]; rfl
  · rw [← unit_congr P 1 hx]; pointwise [k0_pay19]; rfl
  · rw [← unit_congr P 0 hx]; pointwise [k0_pay14]; simp only [unit, Fin.val_zero, zero_mul, zero_add]

theorem out10 (x0 x1 x2 x3 x4 x5 x6 x7) (y : S1x4x4x64x128.Idx) : out0_10 (F := Ideal) x0 x1 x2 x3 x4 x5 x6 x7 y
    = unit (fun j => k0_pay10 x0 x2 x3 (ix2 (brow (y 2) (y 3)) j)) (y 1) (y 4) := by
  have hP : k0_pay32 x0 x1 x2 x3 x4 x5 x6 x7 = k0_pay10 x0 x2 x3 := by
    unfold k0_pay32
    rw [View.ld_unit_lit _ _ (by decide), View.ld_unit_lit _ _ (by decide), View.ld_unit_lit _ _ (by decide)]
  unfold out0_10
  rw [hP]
  generalize k0_pay10 x0 x2 x3 = P
  refine View.canon_eq_of_allAt _ y _ (cover0_10 _ _ _ _ y) (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _)))))
  · rw [← unit_congr P 3 hx]; pointwise [k0_pay28]; rfl
  · rw [← unit_congr P 2 hx]; pointwise [k0_pay24]; rfl
  · rw [← unit_congr P 1 hx]; pointwise [k0_pay21, k0_pay20]; rfl
  · rw [← unit_congr P 0 hx]; pointwise [k0_pay17, k0_pay16, k0_pay15]; simp only [unit, Fin.val_zero, zero_mul, zero_add]

theorem lane_congr (P : FVec Ideal S256x512 .f32) {y : S1x4x4x64x128.Idx} {x : S1x1x4x64x128.Idx} (h : Fin 4)
    (hx : ∀ a, (y a : ℕ) = (![0, h.val, 0, 0, 0] : Fin 5 → ℕ) a + x a) :
    P (ix2 (brow (x 2) (x 3)) ⟨h.val * 128 + (x 4).val, by have l : (x 4).val < 128 := (x 4).isLt; omega⟩)
      = P (ix2 (brow (y 2) (y 3)) ⟨(y 1).val * 128 + (y 4).val, by have l : (y 4).val < 128 := (y 4).isLt; have l : (y 1).val < 4 := (y 1).isLt; omega⟩) := by
  have h1 : (y 1).val = h.val + (x 1).val := hx 1
  have h2 : (y 2).val = 0 + (x 2).val := hx 2
  have h3 : (y 3).val = 0 + (x 3).val := hx 3
  have h4 : (y 4).val = 0 + (x 4).val := hx 4
  have l1 : (x 1).val < 1 := (x 1).isLt
  refine congrArg P (congrArg₂ ix2 (Fin.ext ?_) (Fin.ext ?_))
  · show (x 2).val * 64 + (x 3).val = (y 2).val * 64 + (y 3).val; omega
  · show h.val * 128 + (x 4).val = (y 1).val * 128 + (y 4).val; omega

theorem out9 (x0 x1 x2 x3 x4 x5 x6 x7) (y : S1x4x4x64x128.Idx) : out0_9 (F := Ideal) x0 x1 x2 x3 x4 x5 x6 x7 y
    = k0_pay9 x0 x1 x5 (ix2 (brow (y 2) (y 3)) ⟨(y 1).val * 128 + (y 4).val, by have l : (y 4).val < 128 := (y 4).isLt; have l : (y 1).val < 4 := (y 1).isLt; omega⟩) := by
  have hP : k0_pay31 x0 x1 x2 x3 x4 x5 x6 x7 = k0_pay9 x0 x1 x5 := by
    unfold k0_pay31
    rw [View.ld_unit_lit _ _ (by decide), View.ld_unit_lit _ _ (by decide), View.ld_unit_lit _ _ (by decide)]
  unfold out0_9
  rw [hP]
  generalize k0_pay9 x0 x1 x5 = P
  refine View.canon_eq_of_allAt _ y _ (cover0_9 _ _ _ _ y) (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _)))))
  · rw [← lane_congr P 3 hx]; pointwise [k0_pay1, k0_pay29]
  · rw [← lane_congr P 2 hx]; pointwise [k0_pay26, k0_pay25]
  · rw [← lane_congr P 1 hx]; pointwise [k0_pay22]
  · rw [← lane_congr P 0 hx]; pointwise [k0_pay18]

/-- The chunk of a block's chunk. -/
abbrev chk (t : Fin cfg0.N) (i : Fin 4) : Fin 32 := ⟨t.val % 8 * 4 + i.val, by omega⟩

theorem tok_row (t : Fin cfg0.N) (i : Fin 4) (r : Fin 64) : tok (chk t i) r = row t (brow i r) :=
  Fin.ext (by show (t.val % 8 * 4 + i.val) * 64 + r.val = t.val % 8 * 256 + (i.val * 64 + r.val); omega)

/-! ## The results -/
theorem at8 (c : Dev nD) (t : Fin cfg0.N) (y : S1x4x4x64x128.Idx) : (dats m 0 c).after 8 t y
    = val_main_v101 (F := Ideal) (m ((c : Thread nD τ).loc main_arg0)) (m ((c : Thread nD τ).loc main_arg2)) (m ((c : Thread nD τ).loc main_arg4)) (ix5 (bat t) (y 1) (chk t (y 2)) (y 3) (y 4)) := by
  refine Eq.trans ?_ (ref101 ..).symm
  rw [after0_8, out8]
  simp only [pay8]
  exact congrArg (fun n => unit (proj _ _ _ (bat t) n) (y 1) (y 4)) (tok_row t (y 2) (y 3)).symm

theorem final8 (c : Dev nD) : (dats m 0 c).arrAt 8 (cfgs 0).N
    = val_main_v101 (F := Ideal) (m ((c : Thread nD τ).loc main_arg0)) (m ((c : Thread nD τ).loc main_arg2)) (m ((c : Thread nD τ).loc main_arg4)) :=
  (dats m 0 c).arrAt_eq_of_covers 8 _ (by decide +kernel) fun t _ y =>
    (at8 m c t y).trans (congrArg _ (show ix5 (bat t) (y 1) (chk t (y 2)) (y 3) (y 4) = ((cfg0.win 8).blk t).view.emb y by blk_ext [idx t]))

theorem at9 (c : Dev nD) (t : Fin cfg0.N) (y : S1x4x4x64x128.Idx) : (dats m 0 c).after 9 t y
    = val_main_v102 (F := Ideal) (m ((c : Thread nD τ).loc main_arg0)) (m ((c : Thread nD τ).loc main_arg2)) (m ((c : Thread nD τ).loc main_arg5)) (ix5 (bat t) (y 1) (chk t (y 2)) (y 3) (y 4)) := by
  refine Eq.trans ?_ (ref102 ..).symm
  rw [after0_9, out9]
  simp only [pay9]
  exact congrArg (fun n => proj _ _ _ (bat t) n _) (tok_row t (y 2) (y 3)).symm

theorem final9 (c : Dev nD) : (dats m 0 c).arrAt 9 (cfgs 0).N
    = val_main_v102 (F := Ideal) (m ((c : Thread nD τ).loc main_arg0)) (m ((c : Thread nD τ).loc main_arg2)) (m ((c : Thread nD τ).loc main_arg5)) :=
  (dats m 0 c).arrAt_eq_of_covers 9 _ (by decide +kernel) fun t _ y =>
    (at9 m c t y).trans (congrArg _ (show ix5 (bat t) (y 1) (chk t (y 2)) (y 3) (y 4) = ((cfg0.win 9).blk t).view.emb y by blk_ext [idx t]))

theorem at10 (c : Dev nD) (t : Fin cfg0.N) (y : S1x4x4x64x128.Idx) : (dats m 0 c).after 10 t y
    = val_main_v103 (F := Ideal) (m ((c : Thread nD τ).loc main_arg0)) (m ((c : Thread nD τ).loc main_arg1)) (m ((c : Thread nD τ).loc main_arg3)) (ix5 (bat t) (y 1) (chk t (y 2)) (y 3) (y 4)) := by
  refine Eq.trans ?_ (ref103 ..).symm
  rw [after0_10, out10]
  simp only [pay10]
  exact congrArg (fun n => unit (proj _ _ _ (bat t) n) (y 1) (y 4)) (tok_row t (y 2) (y 3)).symm

theorem final10 (c : Dev nD) : (dats m 0 c).arrAt 10 (cfgs 0).N
    = val_main_v103 (F := Ideal) (m ((c : Thread nD τ).loc main_arg0)) (m ((c : Thread nD τ).loc main_arg1)) (m ((c : Thread nD τ).loc main_arg3)) :=
  (dats m 0 c).arrAt_eq_of_covers 10 _ (by decide +kernel) fun t _ y =>
    (at10 m c t y).trans (congrArg _ (show ix5 (bat t) (y 1) (chk t (y 2)) (y 3) (y 4) = ((cfg0.win 10).blk t).view.emb y by blk_ext [idx t]))

/-- A token's score in a column of the joined matrix, from the token normalized either way. -/
theorem pay11 (c : Dev nD) (t : Fin cfg0.N) (r : Fin 256) (j : Fin 4) :
    k0_pay11 (iblk m c 0 t) (iblk m c 1 t) (iblk m c 6 t) (iblk m c 7 t) (ix2 r ⟨j.val, by omega⟩)
      = score (argX m c) (argS m c) (m ((c : Thread nD τ).loc main_arg6)) (m ((c : Thread nD τ).loc main_arg7)) (bat t) (row t r) j := by
  pointwise [k0_pay11]
  simp only [pay6, blk6, blk7, pick4_0 _ _ _ _ (⟨j.val, by omega⟩ : Fin 16) j rfl]
  rfl
theorem pay12 (c : Dev nD) (t : Fin cfg0.N) (r : Fin 256) (j : Fin 4) :
    k0_pay12 (k0_pay7 (iblk m c 0 t) (iblk m c 2 t)) (iblk m c 6 t) (iblk m c 7 t) (ix2 r ⟨4 + j.val, by omega⟩)
      = score (argX m c) (argR m c) (m ((c : Thread nD τ).loc main_arg12)) (m ((c : Thread nD τ).loc main_arg13)) (bat t) (row t r) j := by
  pointwise [k0_pay12]
  simp only [pay7, blk6, blk7, pick4_1 _ _ _ _ (⟨4 + j.val, by omega⟩ : Fin 16) j rfl]
  rfl

theorem at11 (c : Dev nD) (t : Fin cfg0.N) (y : S1x4x64x8.Idx) : (dats m 0 c).after 11 t y
    = val_main_v104 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg12)) (m ((c : Thread nD τ).loc main_arg13)) (ix4 (bat t) (chk t (y 1)) (y 2) (y 3)) := by
  refine Eq.trans ?_ (ref104 ..).symm
  rw [after0_11]; frame_out
  pointwise [k0_pay2]
  split
  · rw [pay11 m c t _ ⟨(y 3).val, by assumption⟩]
    exact congrArg (fun n => Ideal.logistic (score _ _ _ _ (bat t) n _) * _) (tok_row t (y 1) (y 2)).symm
  · rw [pay12 m c t _ ⟨(y 3).val - 4, by have h3 : (y 3).val < 8 := (y 3).isLt; omega⟩]
    exact congrArg (fun n => Ideal.logistic (score _ _ _ _ (bat t) n _)) (tok_row t (y 1) (y 2)).symm

theorem final11 (c : Dev nD) : (dats m 0 c).arrAt 11 (cfgs 0).N
    = val_main_v104 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg12)) (m ((c : Thread nD τ).loc main_arg13)) :=
  (dats m 0 c).arrAt_eq_of_covers 11 _ (by decide +kernel) fun t _ y =>
    (at11 m c t y).trans (congrArg _ (show ix4 (bat t) (chk t (y 1)) (y 2) (y 3) = ((cfg0.win 11).blk t).view.emb y by blk_ext [idx t]))

theorem at12 (c : Dev nD) (t : Fin cfg0.N) (y : S1x4x1x8.Idx) : (dats m 0 c).after 12 t y
    = val_main_v105 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (ix4 (bat t) (chk t (y 1)) (y 2) (y 3)) := by
  refine Eq.trans ?_ (ref105 ..).symm
  rw [after0_12]; frame_out
  pointwise [k0_pay3, k0_pay13]
  split
  · simp only [pay6, blk6, blk7, pick4_2 _ _ _ _ (⟨8 + (y 3).val, by omega⟩ : Fin 16) ⟨(y 3).val, by assumption⟩ rfl]
    exact congrArg Ideal.logistic (pooled_eq _ _ _ _ _ _ _ _ fun r => (tok_row t (y 1) r).symm).symm
  · have h3 : (y 3).val < 8 := (y 3).isLt
    simp only [pay6, blk6, blk7, pick4_3 _ _ _ _ (⟨8 + (y 3).val, by omega⟩ : Fin 16) ⟨(y 3).val - 4, by omega⟩ (by show 8 + (y 3).val = 12 + ((y 3).val - 4); omega)]
    exact congrArg Ideal.logistic (pooled_eq _ _ _ _ _ _ _ _ fun r => (tok_row t (y 1) r).symm).symm

theorem final12 (c : Dev nD) : (dats m 0 c).arrAt 12 (cfgs 0).N
    = val_main_v105 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) :=
  (dats m 0 c).arrAt_eq_of_covers 12 _ (by decide +kernel) fun t _ y =>
    (at12 m c t y).trans (congrArg _ (show ix4 (bat t) (chk t (y 1)) (y 2) (y 3) = ((cfg0.win 12).blk t).view.emb y by blk_ext [idx t]))

end Cert.PrepIdeal.Value

end
-- ==== Proof.Prep.Claims.lean ====
/- The claims about the preparing call's runs. -/
module

public import proofs.«01_k».proof.Defs
public import proofs.«01_k».proof.Proof.Gen.Prep.Frame
public import proofs.«01_k».proof.Proof.Gen.PrepIdeal.Frame
public import proofs.«01_k».proof.Proof.Gen.PrepHostIdeal.Run
public import proofs.«01_k».proof.Proof.Prep.Value
public import Idealize.ShloMosaic.Lib.Claim

@[expose] public section

set_option maxRecDepth 16384

namespace Cert.Proof.Prep

open Idealize.ShloMosaic Idealize.ShloMosaic.TcCoe Idealize.SL.Sem
open Cert.PrepHostIdeal.Read

/-- The kernel's call runs and leaves its arguments. -/
theorem frame_kernel : Cert.quiescent_Prep := fun m g _ => Cert.Prep.Gen.frame m g

/-- So does its ideal reading. -/
theorem frame_ideal : Cert.quiescent_PrepIdeal := fun m g _ => Cert.PrepIdeal.Gen.frame m g

/-- So does the reference. -/
theorem frame_reference : Cert.quiescent_PrepHostIdeal := by
  intro m g _
  refine (θ_run _ _ _).mono (fun r h => ⟨fun c => (h c).2.2.2.2.2, funext fun x => ?_⟩) (Cert.PrepHostIdeal.Value.run (F := Ideal) m g)
  rcases x with ⟨_, s | s⟩ <;> exact s.elim0

/-- The ideal reading rewrites nothing. -/
theorem preserves : Cert.preserves_Prep_PrepIdeal := trivial

/-- The ideal call computes the reference's five results. -/
theorem value : Cert.algebraic_PrepIdeal_PrepHostIdeal := by
  intro m g m' g' _ heq
  refine ⟨fun c => val_main_v101 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg2)) (m ((c.tc : Thread Cert.PrepIdeal.nD Cert.PrepIdeal.τ).loc Cert.PrepIdeal.main_arg4)),
    fun c => val_main_v102 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg2)) (m ((c.tc : Thread Cert.PrepIdeal.nD Cert.PrepIdeal.τ).loc Cert.PrepIdeal.main_arg5)),
    fun c => val_main_v103 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg3)),
    fun c => val_main_v104 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg12)) (m ((c.tc : Thread Cert.PrepIdeal.nD Cert.PrepIdeal.τ).loc Cert.PrepIdeal.main_arg13)),
    fun c => val_main_v105 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg2)) (m ((c.tc : Thread Cert.PrepIdeal.nD Cert.PrepIdeal.τ).loc Cert.PrepIdeal.main_arg8)) (m ((c.tc : Thread Cert.PrepIdeal.nD Cert.PrepIdeal.τ).loc Cert.PrepIdeal.main_arg9)) (m ((c.tc : Thread Cert.PrepIdeal.nD Cert.PrepIdeal.τ).loc Cert.PrepIdeal.main_arg10)) (m ((c.tc : Thread Cert.PrepIdeal.nD Cert.PrepIdeal.τ).loc Cert.PrepIdeal.main_arg11)), ?_, ?_⟩
  · refine (θ_run _ _ _).mono (fun r h c => ?_) (θ_run_and (Cert.PrepIdeal.Gen.unchanged m g) (Cert.PrepIdeal.Gen.run_main m g))
    have hc := (h.2 c).1
    exact ⟨(hc 8).trans (Cert.PrepIdeal.Value.final8 m c), (hc 9).trans (Cert.PrepIdeal.Value.final9 m c), (hc 10).trans (Cert.PrepIdeal.Value.final10 m c),
      (hc 11).trans (Cert.PrepIdeal.Value.final11 m c), (hc 12).trans (Cert.PrepIdeal.Value.final12 m c), h.1 c⟩
  · refine (θ_run _ _ _).mono (fun r h c => ?_) (Cert.PrepHostIdeal.Value.run (F := Ideal) m' g')
    obtain ⟨h0, h1, h2, h3, h4, ha⟩ := h c
    obtain ⟨e0, e1, e2, e3, e4, e5, e6, e7, e8, e9, e10, e11, e12, e13⟩ := heq c
    refine ⟨?_, ?_, ?_, ?_, ?_, ha⟩
    · refine h0.trans ((val_main_v101_eq ..).trans ?_)
      rw [e0, e2, e4]
    · refine h1.trans ((val_main_v102_eq ..).trans ?_)
      rw [e0, e2, e5]
    · refine h2.trans ((val_main_v103_eq ..).trans ?_)
      rw [e0, e1, e3]
    · refine h3.trans ((val_main_v104_eq ..).trans ?_)
      rw [e0, e1, e2, e6, e7, e12, e13]
    · refine h4.trans ((val_main_v105_eq ..).trans ?_)
      rw [e0, e2, e8, e9, e10, e11]

end Cert.Proof.Prep

end
-- ==== Proof.lean ====
/- The three calls' claims: the frames, the ideal readings kept, and the value of each call. -/
module

public import proofs.«01_k».proof.Proof.Gen.MainHostIdeal.Read
public import proofs.«01_k».proof.Proof.Gen.CombHostIdeal.Read
public import proofs.«01_k».proof.Proof.Gen.PrepHostIdeal.Read
public import proofs.«01_k».proof.Proof.Gen.CombIdeal.Value
public import proofs.«01_k».proof.Defs
public import proofs.«01_k».proof.Proof.Gen.Main
public import proofs.«01_k».proof.Proof.Gen.Main.Skeleton
public import proofs.«01_k».proof.Proof.Gen.Main.Loops
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Loops
public import proofs.«01_k».proof.Proof.Gen.MainIdeal.Launch
public import proofs.«01_k».proof.Proof.Gen.MainIdeal.Points
public import proofs.«01_k».proof.Proof.Gen.MainIdeal.Frame
public import proofs.«01_k».proof.Proof.Gen.MainHostIdeal
public import proofs.«01_k».proof.Proof.Gen.Comb
public import proofs.«01_k».proof.Proof.Gen.Comb.Skeleton
public import proofs.«01_k».proof.Proof.Gen.Comb.Launch
public import proofs.«01_k».proof.Proof.Gen.Comb.Points
public import proofs.«01_k».proof.Proof.Gen.Comb.Frame
public import proofs.«01_k».proof.Proof.Gen.CombIdeal
public import proofs.«01_k».proof.Proof.Gen.CombIdeal.Skeleton
public import proofs.«01_k».proof.Proof.Gen.CombIdeal.Launch
public import proofs.«01_k».proof.Proof.Gen.CombIdeal.Points
public import proofs.«01_k».proof.Proof.Gen.CombIdeal.Frame
public import proofs.«01_k».proof.Proof.Gen.CombHostIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepHostIdeal
public import proofs.«01_k».proof.Proof.Gen.Pre_all_finite
public import Idealize.ShloMosaic.Adequacy
public import Idealize.ShloMosaic.Init
public import proofs.«01_k».proof.Proof.Comb.Claims
public import proofs.«01_k».proof.Proof.Main.Claims
public import proofs.«01_k».proof.Proof.Prep.Claims

@[expose] public section

noncomputable section

namespace Cert.Proof

open Idealize.ShloMosaic Idealize.SL.Sem

/-- Of each call: the frames, the ideal reading kept, and the value against its plain reference. -/
theorem claim : Cert.Claim :=
  ⟨Cert.Main.Gen.facts, Cert.MainIdeal.Gen.facts, Cert.MainHostIdeal.Gen.facts,
    Cert.Comb.Gen.facts, Cert.CombIdeal.Gen.facts, Cert.CombHostIdeal.Gen.facts,
    Cert.Prep.Gen.facts, Cert.PrepIdeal.Gen.facts, Cert.PrepHostIdeal.Gen.facts,
    Cert.Pre_all_finite.Gen.facts,
    Main.frame_kernel, Main.frame_ideal, Main.frame_ideal_finite,
    Main.frame_reference, Main.frame_reference_finite,
    Comb.frame_kernel, Comb.frame_ideal, Comb.frame_reference,
    Prep.frame_kernel, Prep.frame_ideal, Prep.frame_reference,
    Main.preserves, Main.value, Comb.preserves, Comb.value, Prep.preserves, Prep.value⟩

end Cert.Proof

end
